-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "mean" .f32 0x3BA3D70A#32 ((200⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v31_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v31_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x100 : Shape := ⟨2, ![1024, 100]⟩
abbrev S1024x200 : Shape := ⟨2, ![1024, 200]⟩
abbrev S100000x128 : Shape := ⟨2, ![100000, 128]⟩
abbrev S128x128 : Shape := ⟨2, ![128, 128]⟩
abbrev S128 : Shape := ⟨1, ![128]⟩
abbrev S1024x262 : Shape := ⟨2, ![1024, 262]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S1024x100 : S_.BroadcastsInDim S1024x100 (![] : Fin 0 → Fin S1024x100.rank)
  reducesTo_S1024x100_S_d0_1 : S1024x100.ReducesTo [0, 1] S_
  h_S_ : 0 < S_.numel
  bcast_S_S1024x200 : S_.BroadcastsInDim S1024x200 (![] : Fin 0 → Fin S1024x200.rank)
  reducesTo_S1024x200_S_d0_1 : S1024x200.ReducesTo [0, 1] S_

variable [Facts]

def fn {F : FTy → Type} [FloatOps F] (main_arg0 : IVec S1024x100 32) (main_arg1 : IVec S1024x200 32) (main_arg2 : FVec F S1024x100 .f32) (main_arg3 : FVec F S1024x100 .f32) (main_arg4 : FVec F S1024x100 .f32) (main_arg5 : FVec F S1024x100 .f32) (main_arg6 : FVec F S1024x100 .f32) (main_arg7 : FVec F S100000x128 .f32) (main_arg8 : FVec F S100000x128 .f32) (main_arg9 : FVec F S128x128 .f32) (main_arg10 : FVec F S128 .f32) (main_arg11 : FVec F S1024x262 .f32) (main_arg12 : FVec F S1024 .f32) (main_arg13 : FVec F S1x1024 .f32) (main_arg14 : FVec F S1 .f32) : IVec S_ 1 :=
  let main_c : IVec S_ 32 := constantI S_ 32 0#32
  let main_v0 : IVec S1024x100 32 := broadcastInDim S1024x100 ![] bcast_S_S1024x100 main_c
  let main_v1 : IVec S1024x100 1 := cmpi .sge main_arg0 main_v0
  let main_c_0 : IVec S_ 1 := constantI S_ 1 1#1
  let main_v2 : IVec S_ 1 := (fun x v => Host.reduce IntOp.andi x v reducesTo_S1024x100_S_d0_1 h_S_) main_v1 main_c_0
  let main_c_1 : IVec S_ 32 := constantI S_ 32 100000#32
  let main_v3 : IVec S1024x100 32 := broadcastInDim S1024x100 ![] bcast_S_S1024x100 main_c_1
  let main_v4 : IVec S1024x100 1 := cmpi .slt main_arg0 main_v3
  let main_c_2 : IVec S_ 1 := constantI S_ 1 1#1
  let main_v5 : IVec S_ 1 := (fun x v => Host.reduce IntOp.andi x v reducesTo_S1024x100_S_d0_1 h_S_) main_v4 main_c_2
  let main_v6 : IVec S_ 1 := andi main_v2 main_v5
  let main_c_3 : IVec S_ 32 := constantI S_ 32 0#32
  let main_v7 : IVec S1024x200 32 := broadcastInDim S1024x200 ![] bcast_S_S1024x200 main_c_3
  let main_v8 : IVec S1024x200 1 := cmpi .sge main_arg1 main_v7
  let main_c_4 : IVec S_ 1 := constantI S_ 1 1#1
  let main_v9 : IVec S_ 1 := (fun x v => Host.reduce IntOp.andi x v reducesTo_S1024x200_S_d0_1 h_S_) main_v8 main_c_4
  let main_v10 : IVec S_ 1 := andi main_v6 main_v9
  let main_c_5 : IVec S_ 32 := constantI S_ 32 100000#32
  let main_v11 : IVec S1024x200 32 := broadcastInDim S1024x200 ![] bcast_S_S1024x200 main_c_5
  let main_v12 : IVec S1024x200 1 := cmpi .slt main_arg1 main_v11
  let main_c_6 : IVec S_ 1 := constantI S_ 1 1#1
  let main_v13 : IVec S_ 1 := (fun x v => Host.reduce IntOp.andi x v reducesTo_S1024x200_S_d0_1 h_S_) main_v12 main_c_6
  let main_v14 : IVec S_ 1 := andi main_v10 main_v13
  main_v14
-- ==== Kernel.lean ====
abbrev S1024x100 : Shape := ⟨2, ![1024, 100]⟩
abbrev S1024x200 : Shape := ⟨2, ![1024, 200]⟩
abbrev S100000x128 : Shape := ⟨2, ![100000, 128]⟩
abbrev S128x128 : Shape := ⟨2, ![128, 128]⟩
abbrev S128 : Shape := ⟨1, ![128]⟩
abbrev S1024x262 : Shape := ⟨2, ![1024, 262]⟩
abbrev S1024 : Shape := ⟨1, ![1024]⟩
abbrev S1x1024 : Shape := ⟨2, ![1, 1024]⟩
abbrev S1 : Shape := ⟨1, ![1]⟩
abbrev S102400 : Shape := ⟨1, ![102400]⟩
abbrev S1x102400 : Shape := ⟨2, ![1, 102400]⟩
abbrev S102400x128 : Shape := ⟨2, ![102400, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S_ : Shape := ⟨0, ![]⟩
abbrev S1x128x128 : Shape := ⟨3, ![1, 128, 128]⟩
abbrev S204800 : Shape := ⟨1, ![204800]⟩
abbrev S1x204800 : Shape := ⟨2, ![1, 204800]⟩
abbrev S204800x128 : Shape := ⟨2, ![204800, 128]⟩
abbrev S1024x200x128 : Shape := ⟨3, ![1024, 200, 128]⟩
abbrev S1024x128 : Shape := ⟨2, ![1024, 128]⟩
abbrev S64x200x128 : Shape := ⟨3, ![64, 200, 128]⟩
abbrev S64x128 : Shape := ⟨2, ![64, 128]⟩
abbrev S64 : Shape := ⟨1, ![64]⟩
abbrev S64x1 : Shape := ⟨2, ![64, 1]⟩
abbrev S1x1024x100 : Shape := ⟨3, ![1, 1024, 100]⟩
abbrev S5x1024x100 : Shape := ⟨3, ![5, 1024, 100]⟩
abbrev S5x102400 : Shape := ⟨2, ![5, 102400]⟩
abbrev S262x1024 : Shape := ⟨2, ![262, 1024]⟩
abbrev S6400 : Shape := ⟨1, ![6400]⟩
abbrev S6400x1 : Shape := ⟨2, ![6400, 1]⟩
abbrev S1x64 : Shape := ⟨2, ![1, 64]⟩
abbrev S6400x64 : Shape := ⟨2, ![6400, 64]⟩
abbrev S1024x1 : Shape := ⟨2, ![1024, 1]⟩
abbrev S1x1 : Shape := ⟨2, ![1, 1]⟩
abbrev S1024x100x262 : Shape := ⟨3, ![1024, 100, 262]⟩
abbrev S16x50x128 : Shape := ⟨3, ![16, 50, 128]⟩
abbrev S6400x128 : Shape := ⟨2, ![6400, 128]⟩
abbrev S5x6400 : Shape := ⟨2, ![5, 6400]⟩
abbrev S64x100x262 : Shape := ⟨3, ![64, 100, 262]⟩
abbrev S1x50x128 : Shape := ⟨3, ![1, 50, 128]⟩
abbrev S6400x5 : Shape := ⟨2, ![6400, 5]⟩
abbrev S6400x262 : Shape := ⟨2, ![6400, 262]⟩
abbrev S262x256 : Shape := ⟨2, ![262, 256]⟩
abbrev S6400x256 : Shape := ⟨2, ![6400, 256]⟩
abbrev S1x256 : Shape := ⟨2, ![1, 256]⟩
abbrev S256x1 : Shape := ⟨2, ![256, 1]⟩
abbrev S100x262 : Shape := ⟨2, ![100, 262]⟩
abbrev S1x100x262 : Shape := ⟨3, ![1, 100, 262]⟩
abbrev S50x128 : Shape := ⟨2, ![50, 128]⟩
abbrev S100x1024x128 : Shape := ⟨3, ![100, 1024, 128]⟩
abbrev S256x128 : Shape := ⟨2, ![256, 128]⟩
abbrev S100x256x128 : Shape := ⟨3, ![100, 256, 128]⟩
abbrev S1x256x128 : Shape := ⟨3, ![1, 256, 128]⟩
abbrev S1024x100x128 : Shape := ⟨3, ![1024, 100, 128]⟩

abbrev nBuf : Table → Nat
  | .hbm => 68
  | .local .tc .vmem => 25
  | .local .scVector .vmem => 4
  | _ => 0

abbrev bufTy : (tb : Table) → Fin (nBuf tb) → BufTy
  | .hbm, ⟨0, _⟩ => ⟨S1024x100, .i32⟩
  | .hbm, ⟨1, _⟩ => ⟨S1024x200, .i32⟩
  | .hbm, ⟨2, _⟩ => ⟨S1024x100, .f32⟩
  | .hbm, ⟨3, _⟩ => ⟨S1024x100, .f32⟩
  | .hbm, ⟨4, _⟩ => ⟨S1024x100, .f32⟩
  | .hbm, ⟨5, _⟩ => ⟨S1024x100, .f32⟩
  | .hbm, ⟨6, _⟩ => ⟨S1024x100, .f32⟩
  | .hbm, ⟨7, _⟩ => ⟨S100000x128, .f32⟩
  | .hbm, ⟨8, _⟩ => ⟨S100000x128, .f32⟩
  | .hbm, ⟨9, _⟩ => ⟨S128x128, .f32⟩
  | .hbm, ⟨10, _⟩ => ⟨S128, .f32⟩
  | .hbm, ⟨11, _⟩ => ⟨S1024x262, .f32⟩
  | .hbm, ⟨12, _⟩ => ⟨S1024, .f32⟩
  | .hbm, ⟨13, _⟩ => ⟨S1x1024, .f32⟩
  | .hbm, ⟨14, _⟩ => ⟨S1, .f32⟩
  | .hbm, ⟨15, _⟩ => ⟨S102400, .i32⟩
  | .hbm, ⟨16, _⟩ => ⟨S1x102400, .i32⟩
  | .hbm, ⟨17, _⟩ => ⟨S102400x128, .f32⟩
  | .hbm, ⟨18, _⟩ => ⟨S204800, .i32⟩
  | .hbm, ⟨19, _⟩ => ⟨S1x204800, .i32⟩
  | .hbm, ⟨20, _⟩ => ⟨S204800x128, .f32⟩
  | .hbm, ⟨21, _⟩ => ⟨S1024x200x128, .f32⟩
  | .hbm, ⟨22, _⟩ => ⟨S128x128, .f32⟩
  | .hbm, ⟨23, _⟩ => ⟨S1x128, .f32⟩
  | .hbm, ⟨24, _⟩ => ⟨S1024x128, .f32⟩
  | .hbm, ⟨25, _⟩ => ⟨S1x1024x100, .f32⟩
  | .hbm, ⟨26, _⟩ => ⟨S1x1024x100, .f32⟩
  | .hbm, ⟨27, _⟩ => ⟨S1x1024x100, .f32⟩
  | .hbm, ⟨28, _⟩ => ⟨S1x1024x100, .f32⟩
  | .hbm, ⟨29, _⟩ => ⟨S1x1024x100, .f32⟩
  | .hbm, ⟨30, _⟩ => ⟨S5x1024x100, .f32⟩
  | .hbm, ⟨31, _⟩ => ⟨S5x102400, .f32⟩
  | .hbm, ⟨32, _⟩ => ⟨S262x1024, .f32⟩
  | .hbm, ⟨33, _⟩ => ⟨S6400, .i32⟩
  | .hbm, ⟨34, _⟩ => ⟨S6400x1, .i32⟩
  | .hbm, ⟨35, _⟩ => ⟨S_, .i32⟩
  | .hbm, ⟨36, _⟩ => ⟨S_, .i32⟩
  | .hbm, ⟨37, _⟩ => ⟨S6400x1, .i32⟩
  | .hbm, ⟨38, _⟩ => ⟨S6400x1, .i32⟩
  | .hbm, ⟨39, _⟩ => ⟨S6400x1, .i32⟩
  | .hbm, ⟨40, _⟩ => ⟨S_, .i32⟩
  | .hbm, ⟨41, _⟩ => ⟨S6400x1, .i32⟩
  | .hbm, ⟨42, _⟩ => ⟨S6400x1, .i1⟩
  | .hbm, ⟨43, _⟩ => ⟨S6400x1, .i32⟩
  | .hbm, ⟨44, _⟩ => ⟨S6400x1, .i32⟩
  | .hbm, ⟨45, _⟩ => ⟨S_, .i32⟩
  | .hbm, ⟨46, _⟩ => ⟨S6400x1, .i32⟩
  | .hbm, ⟨47, _⟩ => ⟨S6400x1, .i1⟩
  | .hbm, ⟨48, _⟩ => ⟨S6400x1, .i1⟩
  | .hbm, ⟨49, _⟩ => ⟨S_, .i32⟩
  | .hbm, ⟨50, _⟩ => ⟨S6400x1, .i32⟩
  | .hbm, ⟨51, _⟩ => ⟨S6400x1, .i32⟩
  | .hbm, ⟨52, _⟩ => ⟨S6400x1, .i32⟩
  | .hbm, ⟨53, _⟩ => ⟨S64, .i32⟩
  | .hbm, ⟨54, _⟩ => ⟨S1x64, .i32⟩
  | .hbm, ⟨55, _⟩ => ⟨S6400x64, .i32⟩
  | .hbm, ⟨56, _⟩ => ⟨S6400x64, .i32⟩
  | .hbm, ⟨57, _⟩ => ⟨S6400x64, .i1⟩
  | .hbm, ⟨58, _⟩ => ⟨S6400x64, .f32⟩
  | .hbm, ⟨59, _⟩ => ⟨S262x1024, .bf16⟩
  | .hbm, ⟨60, _⟩ => ⟨S1x1024, .f32⟩
  | .hbm, ⟨61, _⟩ => ⟨S1024x1, .f32⟩
  | .hbm, ⟨62, _⟩ => ⟨S1x1, .f32⟩
  | .hbm, ⟨63, _⟩ => ⟨S1024x100x262, .f32⟩
  | .hbm, ⟨64, _⟩ => ⟨S16x50x128, .f32⟩
  | .hbm, ⟨65, _⟩ => ⟨S100x1024x128, .f32⟩
  | .hbm, ⟨66, _⟩ => ⟨S1024x100x128, .f32⟩
  | .hbm, ⟨67, _⟩ => ⟨S1024x100, .f32⟩
  | .local .tc .vmem, ⟨0, _⟩ => ⟨S64x200x128, .f32⟩
  | .local .tc .vmem, ⟨1, _⟩ => ⟨S64x200x128, .f32⟩
  | .local .tc .vmem, ⟨2, _⟩ => ⟨S128x128, .f32⟩
  | .local .tc .vmem, ⟨3, _⟩ => ⟨S1x128, .f32⟩
  | .local .tc .vmem, ⟨4, _⟩ => ⟨S64x128, .f32⟩
  | .local .tc .vmem, ⟨5, _⟩ => ⟨S64x128, .f32⟩
  | .local .tc .vmem, ⟨6, _⟩ => ⟨S6400x128, .f32⟩
  | .local .tc .vmem, ⟨7, _⟩ => ⟨S6400x128, .f32⟩
  | .local .tc .vmem, ⟨8, _⟩ => ⟨S64x128, .f32⟩
  | .local .tc .vmem, ⟨9, _⟩ => ⟨S64x128, .f32⟩
  | .local .tc .vmem, ⟨10, _⟩ => ⟨S5x6400, .f32⟩
  | .local .tc .vmem, ⟨11, _⟩ => ⟨S5x6400, .f32⟩
  | .local .tc .vmem, ⟨12, _⟩ => ⟨S6400x64, .f32⟩
  | .local .tc .vmem, ⟨13, _⟩ => ⟨S262x1024, .bf16⟩
  | .local .tc .vmem, ⟨14, _⟩ => ⟨S1x1024, .f32⟩
  | .local .tc .vmem, ⟨15, _⟩ => ⟨S1024x1, .f32⟩
  | .local .tc .vmem, ⟨16, _⟩ => ⟨S1x1, .f32⟩
  | .local .tc .vmem, ⟨17, _⟩ => ⟨S64x100x262, .f32⟩
  | .local .tc .vmem, ⟨18, _⟩ => ⟨S64x100x262, .f32⟩
  | .local .tc .vmem, ⟨19, _⟩ => ⟨S1x50x128, .f32⟩
  | .local .tc .vmem, ⟨20, _⟩ => ⟨S1x50x128, .f32⟩
  | .local .tc .vmem, ⟨21, _⟩ => ⟨S256x128, .f32⟩
  | .local .tc .vmem, ⟨22, _⟩ => ⟨S256x128, .f32⟩
  | .local .tc .vmem, ⟨23, _⟩ => ⟨S100x256x128, .f32⟩
  | .local .tc .vmem, ⟨24, _⟩ => ⟨S100x256x128, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | _, _ => ⟨S1024x100, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31_0 : Ref sig .tc := ⟨.hbm, 63, rfl⟩
abbrev main_v31_1 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_arg8_scv : Ref sig .scVector := ⟨.hbm, 8, rfl⟩
abbrev main_v1_scv : Ref sig .scVector := ⟨.hbm, 16, rfl⟩
abbrev main_v2_scv : Ref sig .scVector := ⟨.hbm, 17, rfl⟩
abbrev main_arg7_scv : Ref sig .scVector := ⟨.hbm, 7, rfl⟩
abbrev main_v4_scv : Ref sig .scVector := ⟨.hbm, 19, rfl⟩
abbrev main_v5_scv : Ref sig .scVector := ⟨.hbm, 20, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg2_0 : Ref sig .tc := ⟨.vmem, 3, rfl⟩
abbrev cc2_stg3_0 : Ref sig .tc := ⟨.vmem, 4, rfl⟩
abbrev cc2_stg3_1 : Ref sig .tc := ⟨.vmem, 5, rfl⟩
abbrev cc3_stg0_0 : Ref sig .tc := ⟨.vmem, 6, rfl⟩
abbrev cc3_stg0_1 : Ref sig .tc := ⟨.vmem, 7, rfl⟩
abbrev cc3_stg1_0 : Ref sig .tc := ⟨.vmem, 8, rfl⟩
abbrev cc3_stg1_1 : Ref sig .tc := ⟨.vmem, 9, rfl⟩
abbrev cc3_stg2_0 : Ref sig .tc := ⟨.vmem, 10, rfl⟩
abbrev cc3_stg2_1 : Ref sig .tc := ⟨.vmem, 11, rfl⟩
abbrev cc3_stg3_0 : Ref sig .tc := ⟨.vmem, 12, rfl⟩
abbrev cc3_stg4_0 : Ref sig .tc := ⟨.vmem, 13, rfl⟩
abbrev cc3_stg5_0 : Ref sig .tc := ⟨.vmem, 14, rfl⟩
abbrev cc3_stg6_0 : Ref sig .tc := ⟨.vmem, 15, rfl⟩
abbrev cc3_stg7_0 : Ref sig .tc := ⟨.vmem, 16, rfl⟩
abbrev cc3_stg8_0 : Ref sig .tc := ⟨.vmem, 17, rfl⟩
abbrev cc3_stg8_1 : Ref sig .tc := ⟨.vmem, 18, rfl⟩
abbrev cc3_stg9_0 : Ref sig .tc := ⟨.vmem, 19, rfl⟩
abbrev cc3_stg9_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem8_0 : DmaSem sig := 27
abbrev cc3_sem8_1 : DmaSem sig := 28
abbrev cc3_sem9_0 : DmaSem sig := 29
abbrev cc3_sem9_1 : DmaSem sig := 30
abbrev cc4_sem0_0 : DmaSem sig := 31
abbrev cc4_sem0_1 : DmaSem sig := 32
abbrev cc4_sem1_0 : DmaSem sig := 33
abbrev cc4_sem1_1 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c25_i32_27_r0 : BitVec 32 := 25#32
  let v32_r0 : BitVec 32 := Scalar.addi c0_i32_26_r0 c25_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c24_i32_68_r0 : BitVec 32 := 24#32
  let v83_r0 : BitVec 1 := Scalar.cmpi .sge arg5_r0 c24_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c24_i32_55_r0 : BitVec 32 := 24#32
  let v65_r0 : BitVec 1 := Scalar.cmpi .eq arg5_r0 c24_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x102400.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x102400.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S102400x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S102400x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x102400.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x102400.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S102400x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S102400x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c24_i32_33_r0 : BitVec 32 := 24#32
  let v37_r0 : BitVec 32 := Scalar.select v36_r0 c24_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S102400x128.size a)
theorem k0_off19_inb : ∀ (i : grid0.Coords) (v33_4_r0 : BitVec 32) (k0_hw5 : k0_chk5 i v33_4_r0), ∀ a, (k0_off19 i v33_4_r0) a + S128x128.size a ≤ S102400x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c50_i32_27_r0 : BitVec 32 := 50#32
  let v32_r0 : BitVec 32 := Scalar.addi c0_i32_26_r0 c50_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c49_i32_68_r0 : BitVec 32 := 49#32
  let v83_r0 : BitVec 1 := Scalar.cmpi .sge arg5_r0 c49_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c49_i32_55_r0 : BitVec 32 := 49#32
  let v65_r0 : BitVec 1 := Scalar.cmpi .eq arg5_r0 c49_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x204800.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x204800.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S204800x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S204800x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x204800.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x204800.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S204800x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S204800x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c49_i32_33_r0 : BitVec 32 := 49#32
  let v37_r0 : BitVec 32 := Scalar.select v36_r0 c49_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S204800x128.size a)
theorem k1_off19_inb : ∀ (i : grid1.Coords) (v33_4_r0 : BitVec 32) (k1_hw5 : k1_chk5 i v33_4_r0), ∀ a, (k1_off19 i v33_4_r0) a + S128x128.size a ≤ S204800x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S64x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S6400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5x6400 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S6400x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S262x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S64x100x262 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x50x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S256x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S100x256x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== KernelIdeal.lean ====
variable {F : FTy → Type} [FloatOps F] [Named F]
def κ : String → Option EReal := fun
  | "mean" => some ((200⁻¹ : ℝ) : EReal)
  | _ => none
-- ==== ReferenceIdeal.lean ====
abbrev S1024x100 : Shape := ⟨2, ![1024, 100]⟩
abbrev S1024x200 : Shape := ⟨2, ![1024, 200]⟩
abbrev S100000x128 : Shape := ⟨2, ![100000, 128]⟩
abbrev S128x128 : Shape := ⟨2, ![128, 128]⟩
abbrev S128 : Shape := ⟨1, ![128]⟩
abbrev S1024x262 : Shape := ⟨2, ![1024, 262]⟩
abbrev S1024 : Shape := ⟨1, ![1024]⟩
abbrev S1x1024 : Shape := ⟨2, ![1, 1024]⟩
abbrev S1 : Shape := ⟨1, ![1]⟩
abbrev S_ : Shape := ⟨0, ![]⟩
abbrev S1024x100x1 : Shape := ⟨3, ![1024, 100, 1]⟩
abbrev S1x1x1 : Shape := ⟨3, ![1, 1, 1]⟩
abbrev S1024x100x128 : Shape := ⟨3, ![1024, 100, 128]⟩
abbrev S1024x200x1 : Shape := ⟨3, ![1024, 200, 1]⟩
abbrev S1024x200x128 : Shape := ⟨3, ![1024, 200, 128]⟩
abbrev S1024x128 : Shape := ⟨2, ![1024, 128]⟩
abbrev S1024x1 : Shape := ⟨2, ![1024, 1]⟩
abbrev S1x128 : Shape := ⟨2, ![1, 128]⟩
abbrev S1024x1x128 : Shape := ⟨3, ![1024, 1, 128]⟩
abbrev S1024x100x262 : Shape := ⟨3, ![1024, 100, 262]⟩
abbrev S262x1024 : Shape := ⟨2, ![262, 1024]⟩
abbrev S1024x100x1024 : Shape := ⟨3, ![1024, 100, 1024]⟩
abbrev S1x1x1024 : Shape := ⟨3, ![1, 1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S1024x100, .i32⟩
  | .hbm, ⟨1, _⟩ => ⟨S1024x200, .i32⟩
  | .hbm, ⟨2, _⟩ => ⟨S1024x100, .f32⟩
  | .hbm, ⟨3, _⟩ => ⟨S1024x100, .f32⟩
  | .hbm, ⟨4, _⟩ => ⟨S1024x100, .f32⟩
  | .hbm, ⟨5, _⟩ => ⟨S1024x100, .f32⟩
  | .hbm, ⟨6, _⟩ => ⟨S1024x100, .f32⟩
  | .hbm, ⟨7, _⟩ => ⟨S100000x128, .f32⟩
  | .hbm, ⟨8, _⟩ => ⟨S100000x128, .f32⟩
  | .hbm, ⟨9, _⟩ => ⟨S128x128, .f32⟩
  | .hbm, ⟨10, _⟩ => ⟨S128, .f32⟩
  | .hbm, ⟨11, _⟩ => ⟨S1024x262, .f32⟩
  | .hbm, ⟨12, _⟩ => ⟨S1024, .f32⟩
  | .hbm, ⟨13, _⟩ => ⟨S1x1024, .f32⟩
  | .hbm, ⟨14, _⟩ => ⟨S1, .f32⟩
  | .hbm, ⟨15, _⟩ => ⟨S_, .i32⟩
  | .hbm, ⟨16, _⟩ => ⟨S1024x100, .i32⟩
  | .hbm, ⟨17, _⟩ => ⟨S1024x100, .i1⟩
  | .hbm, ⟨18, _⟩ => ⟨S_, .i32⟩
  | .hbm, ⟨19, _⟩ => ⟨S1024x100, .i32⟩
  | .hbm, ⟨20, _⟩ => ⟨S1024x100, .i32⟩
  | .hbm, ⟨21, _⟩ => ⟨S1024x100, .i32⟩
  | .hbm, ⟨22, _⟩ => ⟨S1024x100x1, .i32⟩
  | .hbm, ⟨23, _⟩ => ⟨S1, .i32⟩
  | .hbm, ⟨24, _⟩ => ⟨S_, .i32⟩
  | .hbm, ⟨25, _⟩ => ⟨S1024x100x1, .i32⟩
  | .hbm, ⟨26, _⟩ => ⟨S1024x100x1, .i1⟩
  | .hbm, ⟨27, _⟩ => ⟨S1x1x1, .i32⟩
  | .hbm, ⟨28, _⟩ => ⟨S1024x100x1, .i32⟩
  | .hbm, ⟨29, _⟩ => ⟨S1024x100x1, .i1⟩
  | .hbm, ⟨30, _⟩ => ⟨S1024x100x1, .i1⟩
  | .hbm, ⟨31, _⟩ => ⟨S_, .i1⟩
  | .hbm, ⟨32, _⟩ => ⟨S1024x100, .i1⟩
  | .hbm, ⟨33, _⟩ => ⟨S1024x100x128, .f32⟩
  | .hbm, ⟨34, _⟩ => ⟨S1024x100x128, .i1⟩
  | .hbm, ⟨35, _⟩ => ⟨S_, .f32⟩
  | .hbm, ⟨36, _⟩ => ⟨S1024x100x128, .f32⟩
  | .hbm, ⟨37, _⟩ => ⟨S1024x100x128, .f32⟩
  | .hbm, ⟨38, _⟩ => ⟨S_, .i32⟩
  | .hbm, ⟨39, _⟩ => ⟨S1024x200, .i32⟩
  | .hbm, ⟨40, _⟩ => ⟨S1024x200, .i1⟩
  | .hbm, ⟨41, _⟩ => ⟨S_, .i32⟩
  | .hbm, ⟨42, _⟩ => ⟨S1024x200, .i32⟩
  | .hbm, ⟨43, _⟩ => ⟨S1024x200, .i32⟩
  | .hbm, ⟨44, _⟩ => ⟨S1024x200, .i32⟩
  | .hbm, ⟨45, _⟩ => ⟨S1024x200x1, .i32⟩
  | .hbm, ⟨46, _⟩ => ⟨S1, .i32⟩
  | .hbm, ⟨47, _⟩ => ⟨S_, .i32⟩
  | .hbm, ⟨48, _⟩ => ⟨S1024x200x1, .i32⟩
  | .hbm, ⟨49, _⟩ => ⟨S1024x200x1, .i1⟩
  | .hbm, ⟨50, _⟩ => ⟨S1x1x1, .i32⟩
  | .hbm, ⟨51, _⟩ => ⟨S1024x200x1, .i32⟩
  | .hbm, ⟨52, _⟩ => ⟨S1024x200x1, .i1⟩
  | .hbm, ⟨53, _⟩ => ⟨S1024x200x1, .i1⟩
  | .hbm, ⟨54, _⟩ => ⟨S_, .i1⟩
  | .hbm, ⟨55, _⟩ => ⟨S1024x200, .i1⟩
  | .hbm, ⟨56, _⟩ => ⟨S1024x200x128, .f32⟩
  | .hbm, ⟨57, _⟩ => ⟨S1024x200x128, .i1⟩
  | .hbm, ⟨58, _⟩ => ⟨S_, .f32⟩
  | .hbm, ⟨59, _⟩ => ⟨S1024x200x128, .f32⟩
  | .hbm, ⟨60, _⟩ => ⟨S1024x200x128, .f32⟩
  | .hbm, ⟨61, _⟩ => ⟨S_, .f32⟩
  | .hbm, ⟨62, _⟩ => ⟨S1024x128, .f32⟩
  | .hbm, ⟨63, _⟩ => ⟨S_, .f32⟩
  | .hbm, ⟨64, _⟩ => ⟨S1024x128, .f32⟩
  | .hbm, ⟨65, _⟩ => ⟨S1024x128, .f32⟩
  | .hbm, ⟨66, _⟩ => ⟨S1024x128, .f32⟩
  | .hbm, ⟨67, _⟩ => ⟨S_, .f32⟩
  | .hbm, ⟨68, _⟩ => ⟨S1024, .f32⟩
  | .hbm, ⟨69, _⟩ => ⟨S1024x1, .f32⟩
  | .hbm, ⟨70, _⟩ => ⟨S1024x1, .f32⟩
  | .hbm, ⟨71, _⟩ => ⟨S_, .f32⟩
  | .hbm, ⟨72, _⟩ => ⟨S1024x1, .f32⟩
  | .hbm, ⟨73, _⟩ => ⟨S1024x1, .f32⟩
  | .hbm, ⟨74, _⟩ => ⟨S1024x128, .f32⟩
  | .hbm, ⟨75, _⟩ => ⟨S1024x128, .f32⟩
  | .hbm, ⟨76, _⟩ => ⟨S128x128, .f32⟩
  | .hbm, ⟨77, _⟩ => ⟨S1024x128, .f32⟩
  | .hbm, ⟨78, _⟩ => ⟨S1x128, .f32⟩
  | .hbm, ⟨79, _⟩ => ⟨S1024x128, .f32⟩
  | .hbm, ⟨80, _⟩ => ⟨S1024x128, .f32⟩
  | .hbm, ⟨81, _⟩ => ⟨S1024x1x128, .f32⟩
  | .hbm, ⟨82, _⟩ => ⟨S1024x100x128, .f32⟩
  | .hbm, ⟨83, _⟩ => ⟨S1024x100x128, .f32⟩
  | .hbm, ⟨84, _⟩ => ⟨S_, .f32⟩
  | .hbm, ⟨85, _⟩ => ⟨S1024x100, .f32⟩
  | .hbm, ⟨86, _⟩ => ⟨S1024x100x1, .f32⟩
  | .hbm, ⟨87, _⟩ => ⟨S1024x100x1, .f32⟩
  | .hbm, ⟨88, _⟩ => ⟨S1024x100x1, .f32⟩
  | .hbm, ⟨89, _⟩ => ⟨S1024x100x1, .f32⟩
  | .hbm, ⟨90, _⟩ => ⟨S1024x100x1, .f32⟩
  | .hbm, ⟨91, _⟩ => ⟨S1024x100x1, .f32⟩
  | .hbm, ⟨92, _⟩ => ⟨S1024x100x262, .f32⟩
  | .hbm, ⟨93, _⟩ => ⟨S262x1024, .f32⟩
  | .hbm, ⟨94, _⟩ => ⟨S1024x100x1024, .f32⟩
  | .hbm, ⟨95, _⟩ => ⟨S1x1x1024, .f32⟩
  | .hbm, ⟨96, _⟩ => ⟨S1024x100x1024, .f32⟩
  | .hbm, ⟨97, _⟩ => ⟨S1024x100x1024, .f32⟩
  | .hbm, ⟨98, _⟩ => ⟨S_, .f32⟩
  | .hbm, ⟨99, _⟩ => ⟨S1024x100x1024, .f32⟩
  | .hbm, ⟨100, _⟩ => ⟨S1024x100x1024, .f32⟩
  | .hbm, ⟨101, _⟩ => ⟨S1024x1, .f32⟩
  | .hbm, ⟨102, _⟩ => ⟨S1024x100x1, .f32⟩
  | .hbm, ⟨103, _⟩ => ⟨S1x1x1, .f32⟩
  | .hbm, ⟨104, _⟩ => ⟨S1024x100x1, .f32⟩
  | .hbm, ⟨105, _⟩ => ⟨S1024x100x1, .f32⟩
  | .hbm, ⟨106, _⟩ => ⟨S1024x100, .f32⟩
  | _, _ => ⟨S1024x100, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v0 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v1 : Ref sig .tc := ⟨.hbm, 60, rfl⟩
abbrev main_cst : Ref sig .tc := ⟨.hbm, 61, rfl⟩
abbrev main_v2 : Ref sig .tc := ⟨.hbm, 62, rfl⟩
abbrev main_cst_0 : Ref sig .tc := ⟨.hbm, 63, rfl⟩
abbrev main_v3 : Ref sig .tc := ⟨.hbm, 64, rfl⟩
abbrev main_v4 : Ref sig .tc := ⟨.hbm, 65, rfl⟩
abbrev main_call2_v0 : Ref sig .tc := ⟨.hbm, 66, rfl⟩
abbrev main_call2_cst : Ref sig .tc := ⟨.hbm, 67, rfl⟩
abbrev main_call2_v1 : Ref sig .tc := ⟨.hbm, 68, rfl⟩
abbrev main_call2_v2 : Ref sig .tc := ⟨.hbm, 69, rfl⟩
abbrev main_v5 : Ref sig .tc := ⟨.hbm, 70, rfl⟩
abbrev main_cst_1 : Ref sig .tc := ⟨.hbm, 71, rfl⟩
abbrev main_v6 : Ref sig .tc := ⟨.hbm, 72, rfl⟩
abbrev main_v7 : Ref sig .tc := ⟨.hbm, 73, rfl⟩
abbrev main_v8 : Ref sig .tc := ⟨.hbm, 74, rfl⟩
abbrev main_v9 : Ref sig .tc := ⟨.hbm, 75, rfl⟩
abbrev main_v10 : Ref sig .tc := ⟨.hbm, 76, rfl⟩
abbrev main_v11 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_cst_2 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_call3_cst : Ref sig .tc := ⟨.hbm, 98, rfl⟩
abbrev main_call3_v0 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩

abbrev nD : Nat := 1
abbrev τ : Topo := Topo.v7x

variable {F : FTy → Type} [FloatOps F]
-- ==== Proof.Tile.lean ====
/-
  The steps of a SparseCore tile's row gather, once for both gather kernels of the program. A tile walks over blocks of
  128 row numbers: it fetches a block of numbers into one of two slots, gathers the 128 table rows they name into one of
  two row slots, and writes those out to the block's rows of the output. `Env` names a tile's operands and what they hold;
  the assertions say which slot is idle, in flight or landed; and one lemma per transfer moves between them, at any memrefs
  and any number of row numbers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds, the pipelines' rounds, the transfers' counters -/

/-- Ghost state of the handshakes, -/
abbrev UH : Type := URounds (GSem nD τ sig) ℕ
/-- of the pipelines, -/
abbrev UP : Type := URounds (GSem nD τ sig) Unit
/-- and all of it. -/
abbrev UU : Type := UH × (UP × Counters)

local notation "𝕄" => MT nD τ sig (HIx 2) (Elt F) ℕ UU ℕ

/-! ## A tile's operands -/

/-- The shape of a list of `n` row numbers, and of the `n` rows they name. -/
abbrev sI (n : ℕ) : Shape := ⟨2, ![1, n]⟩
/-- The shape of the output. -/
abbrev sO (n : ℕ) : Shape := ⟨2, ![n, 128]⟩

/-- A tile's place, operands, semaphores, what the table, the list and the output hold at the start, and the shares held
    of the table (one) and of the list (one per slot). -/
structure Env (F : FTy → Type) (n : ℕ) where
  d : Dev nD
  c : Fin τ.nSC
  j : Fin τ.nSub
  tM : Memref sig .scVector .hbm S100000x128 .f32
  iM : Memref sig .scVector .hbm (sI n) .i32
  oM : Memref sig .scVector .hbm (sO n) .f32
  aM : Memref sig .scVector .vmem S2x1x128 .i32
  rM : Memref sig .scVector .vmem S2x128x128 .f32
  s5 : DmaSems sig S2
  s6 : DmaSems sig S2
  sg : DmaSems sig S_
  fT : Buf (Elt F) (tM.view.loc (V d c j))
  fI : Buf (Elt F) (iM.view.loc (V d c j))
  fO : Buf (Elt F) (oM.view.loc (V d c j))
  qT : PosShare TreeShare
  qI : Fin 2 → PosShare TreeShare

namespace Env

variable {n : ℕ} (E : Env F n)

/-- The tile's thread. -/
abbrev thr : Thread nD τ := V E.d E.c E.j

/-- The list's words, and the rows they name: row `r` of the output is the table's row at the list's word `r`. -/
abbrev words : (sI n).Idx → BitVec 32 := E.iM.view.read (Elt F) E.fI
/-- The table's contents. -/
abbrev table : S100000x128.Idx → Elt F .f32 := E.tM.view.read (Elt F) E.fT
end Env

/-- Entry `r` of a list of `n` numbers. -/
def colIx {n : ℕ} (r : Fin n) : (sI n).Idx := fun a => match a with | 0 => (⟨0, Nat.one_pos⟩ : Fin 1) | 1 => r

/-- The table's rows at the listed numbers: row `r`, lane `l` is lane `l` of the table's row at number `r` (taken below the
    table's height, which changes nothing for numbers in range). -/
def gath {n : ℕ} (T : S100000x128.Idx → Elt F .f32) (w : (sI n).Idx → BitVec 32) : (sO n).Idx → Elt F .f32 := fun y =>
  T (fun a => match a with
    | 0 => (⟨(w (colIx (y 0))).toNat % 100000, Nat.mod_lt _ (by decide)⟩ : Fin 100000)
    | 1 => (y 1 : Fin 128))

namespace Env

variable {n : ℕ} (E : Env F n)

/-- What the whole output comes to hold. -/
abbrev fG : Buf (Elt F) (E.oM.view.loc E.thr) := E.oM.view.write (Elt F) E.fO (gath E.table E.words) Finset.univ

/-- A slot of the numbers lies in its buffer; -/
theorem inb_a (s : Fin 2) : ∀ a, (![s.val, 0, 0] : Fin 3 → ℕ) a + S1x1x128.size a ≤ S2x1x128.size a := by
  revert s; decide
/-- a slot of the rows does; -/
theorem inb_r (s : Fin 2) : ∀ a, (![s.val, 0, 0] : Fin 3 → ℕ) a + S1x128x128.size a ≤ S2x128x128.size a := by
  revert s; decide
/-- a slot of the semaphores does. -/
theorem inb_s (s : Fin 2) : ∀ a, (![s.val] : Fin 1 → ℕ) a + S1.size a ≤ S2.size a := by
  revert s; decide

/-- Slot `s` of the numbers' buffer, of the rows' buffer, and the slots' semaphores. -/
abbrev aSlot (s : Fin 2) : Memref sig .scVector .vmem S1x128 .i32 :=
  (E.aM.slice (Rect.unit (s := S2x1x128) ![s.val, 0, 0] S1x1x128.size (inb_a s)) (fun _ => rfl)).squeeze S1x128 squeezes_S1x1x128_S1x128
/-- Slot `s` of the rows. -/
abbrev rSlot (s : Fin 2) : Memref sig .scVector .vmem S128x128 .f32 :=
  (E.rM.slice (Rect.unit (s := S2x128x128) ![s.val, 0, 0] S1x128x128.size (inb_r s)) (fun _ => rfl)).squeeze S128x128 squeezes_S1x128x128_S128x128
/-- The numbers' semaphore of slot `s`. -/
abbrev sem5 (s : Fin 2) : DmaSem sig := ((E.s5.slice (Rect.unit (s := S2) ![s.val] S1.size (inb_s s))).squeeze S_ squeezes_S1_S_).sem
/-- The rows' semaphore of slot `s`. -/
abbrev sem6 (s : Fin 2) : DmaSem sig := ((E.s6.slice (Rect.unit (s := S2) ![s.val] S1.size (inb_s s))).squeeze S_ squeezes_S1_S_).sem
/-- Block of 128 numbers from `o` on, and the block of 128 output rows from `o` on. -/
abbrev iBlk (o : ℕ) (h : ∀ a, (![0, o] : Fin 2 → ℕ) a + S1x128.size a ≤ (sI n).size a) : Memref sig .scVector .hbm S1x128 .i32 :=
  E.iM.slice (Rect.unit (s := sI n) ![0, o] S1x128.size h) (fun _ => rfl)
/-- Block of 128 rows from `o` of the output. -/
abbrev oBlk (o : ℕ) (h : ∀ a, (![o, 0] : Fin 2 → ℕ) a + S128x128.size a ≤ (sO n).size a) : Memref sig .scVector .hbm S128x128 .f32 :=
  E.oM.slice (Rect.unit (s := sO n) ![o, 0] S128x128.size h) (fun _ => rfl)
/-- A slot of numbers as the gather's list, and the table as the gather reads it. -/
abbrev offs (s : Fin 2) : Memref sig .scVector .vmem S128 .i32 :=
  ((E.aSlot s).slice (Rect.unit (s := S1x128) ![0, 0] S1x128.size inb_S1x128_S1x128_0_0) (fun _ => rfl)).squeeze S128 squeezes_S1x128_S128
/-- The table as the gather slices it. -/
abbrev tAll : Memref sig .scVector .hbm S100000x128 .f32 :=
  E.tM.slice (Rect.unit (s := S100000x128) ![0, 0] S100000x128.size inb_S100000x128_S100000x128_0_0) (fun _ => rfl)

/-- A block of numbers lies in the list. -/
theorem inbI {o : ℕ} (h : o + 128 ≤ n) : ∀ a, (![0, o] : Fin 2 → ℕ) a + S1x128.size a ≤ (sI n).size a :=
  Fin.forall_fin_two.mpr ⟨le_refl 1, h⟩
/-- A block of rows lies in the output. -/
theorem inbO {o : ℕ} (h : o + 128 ≤ n) : ∀ a, (![o, 0] : Fin 2 → ℕ) a + S128x128.size a ≤ (sO n).size a :=
  Fin.forall_fin_two.mpr ⟨h, le_refl 128⟩

/-! ## The assertions -/

/-- Slot `s` of the numbers' buffer at some contents; and with block `o` of the list in it. -/
def aAny (s : Fin 2) : sProp 𝕄 := iprop(∃ f, (E.aSlot s).view.loc E.thr ↦[(E.aSlot s).view.set]{fullShare} f)
/-- Slot `s` holds the numbers from `o`. -/
def aAt (s : Fin 2) (o : ℕ) : sProp 𝕄 := iprop(∃ f, ⌜∀ (x : S1x128.Idx) (y : (sI n).Idx), (y 1).val = o + (x 1).val → (E.aSlot s).view.read (Elt F) f x = E.words y⌝
  ∗ (E.aSlot s).view.loc E.thr ↦[(E.aSlot s).view.set]{fullShare} f)
/-- The whole list, at slot `s`'s share. -/
abbrev lst (s : Fin 2) : sProp 𝕄 := E.iM.view.loc E.thr ↦[E.iM.view.set]{E.qI s} E.fI
/-- Slot `s` of the numbers idle, its semaphore at zero. -/
def idleI (s : Fin 2) : sProp 𝕄 := iprop(E.aAny s ∗ semVal (E.thr, .dma (E.sem5 s)) 0 ∗ E.lst s)
/-- Slot `s` with block `o` landed. -/
def landI (s : Fin 2) (o : ℕ) : sProp 𝕄 := iprop(E.aAt s o ∗ semVal (E.thr, .dma (E.sem5 s)) 0 ∗ E.lst s)
/-- Block `o` of the list in flight to slot `s`. -/
def flyI (s : Fin 2) (o : ℕ) : sProp 𝕄 := iprop(∃ h : o + 128 ≤ n,
  Transfers.Flight countersEmb E.thr (.dma (E.sem5 s)) (default : HIx 2) (E.aSlot s).view.dmaCredit
      iprop(E.aAt s o ∗ E.iM.view.loc E.thr ↦[(E.iBlk o (inbI h)).view.set]{E.qI s} E.fI)
    ∗ E.iM.view.loc E.thr ↦[E.iM.view.set \ (E.iBlk o (inbI h)).view.set]{E.qI s} E.fI)

/-- The output's rows from `a` up to `b`. -/
def rowsIn (a b : ℕ) : Finset (Idx (E.oM.view.loc E.thr)) :=
  (Finset.univ.filter fun y : (sO n).Idx => a ≤ (y 0).val ∧ (y 0).val < b).map E.oM.view.emb

/-- Slot `s` of the rows holds anything. -/
def rAny (s : Fin 2) : sProp 𝕄 := iprop(∃ f, (E.rSlot s).view.loc E.thr ↦[(E.rSlot s).view.set]{fullShare} f)
/-- Slot `s` holds the rows gathered by the numbers from `o`. -/
def rAt (s : Fin 2) (o : ℕ) : sProp 𝕄 := iprop(∃ f, ⌜∀ (x : S128x128.Idx) (y : (sO n).Idx), (y 0).val = o + (x 0).val → (y 1).val = (x 1).val →
    (E.rSlot s).view.read (Elt F) f x = gath E.table E.words y⌝
  ∗ (E.rSlot s).view.loc E.thr ↦[(E.rSlot s).view.set]{fullShare} f)
/-- Slot `s` of the rows is free. -/
def idleO (s : Fin 2) : sProp 𝕄 := iprop(E.rAny s ∗ semVal (E.thr, .dma (E.sem6 s)) 0)
/-- Slot `s` holds gathered rows, none in flight. -/
def landO (s : Fin 2) (o : ℕ) : sProp 𝕄 := iprop(E.rAt s o ∗ semVal (E.thr, .dma (E.sem6 s)) 0)
/-- The rows of block `o`, gathered in slot `s`, in flight to the output. -/
def flyO (s : Fin 2) (o : ℕ) : sProp 𝕄 :=
  Transfers.Flight countersEmb E.thr (.dma (E.sem6 s)) (default : HIx 2) (E.oM.view.ref.dmaCredit S128x128 .f32)
      iprop((E.oM.view.loc E.thr ↦[E.rowsIn o (o + 128)]{fullShare} E.fG) ∗ E.rAny s)
/-- The table, and the gather's semaphore at zero. -/
def tab : sProp 𝕄 := iprop((E.tM.view.loc E.thr ↦[E.tM.view.set]{E.qT} E.fT) ∗ semVal (E.thr, .dma E.sg.sem) 0)
/-- What the tile owes, having recorded beyond `W` only pairs at index `none`. -/
def ow (O : CellTallies nD τ sig (HIx 2)) (W : Waits sig (HIx 2)) : sProp 𝕄 := iprop(∃ W', ⌜∀ p ∈ W', p ∈ W ∨ p.2 = none⌝ ∗ owes E.thr O W')

end Env

/-! ## The index sets and the contents -/

section Sets

variable {n : ℕ} (E : Env F n)

/-- A row is in a range of rows by its number. -/
theorem mem_rowsIn {a b : ℕ} {y : (sO n).Idx} : E.oM.view.emb y ∈ E.rowsIn a b ↔ a ≤ (y 0).val ∧ (y 0).val < b := by
  unfold Env.rowsIn; rw [Finset.mem_map' ]; simp

/-- A block is its range of rows. -/
theorem set_oBlk (o : ℕ) (h : ∀ a, (![o, 0] : Fin 2 → ℕ) a + S128x128.size a ≤ (sO n).size a) :
    (E.oBlk o h).view.set = E.rowsIn o (o + 128) := by
  show (E.oM.view.slice _).set = _
  rw [View.set_slice]; unfold Env.rowsIn; congr 1
  ext y
  rw [Rect.mem_set_unit, Fin.forall_fin_two]
  simp only [Finset.mem_filter, Finset.mem_univ, true_and]
  have : (y 1).val < 128 := (y 1).isLt
  constructor
  · exact fun hh => hh.1
  · exact fun hh => ⟨hh, Nat.zero_le _, by show (y 1).val < 0 + 128; omega⟩

/-- Ranges join, -/
theorem rowsIn_union {a b c : ℕ} (h₁ : a ≤ b) (h₂ : b ≤ c) : E.rowsIn a c = E.rowsIn a b ∪ E.rowsIn b c := by
  unfold Env.rowsIn; rw [← Finset.map_union]; congr 1
  ext y; simp only [Finset.mem_filter, Finset.mem_univ, true_and, Finset.mem_union]; omega

/-- are disjoint, -/
theorem rowsIn_disjoint {a b c : ℕ} : Disjoint (E.rowsIn a b) (E.rowsIn b c) := by
  unfold Env.rowsIn; rw [Finset.disjoint_map, Finset.disjoint_left]
  intro y; simp only [Finset.mem_filter, Finset.mem_univ, true_and]; omega

/-- are held together or apart, -/
theorem rowsIn_split {a b c : ℕ} (h₁ : a ≤ b) (h₂ : b ≤ c) (f : Buf (Elt F) (E.oM.view.loc E.thr)) :
    (E.oM.view.loc E.thr ↦[E.rowsIn a c]{fullShare} f : sProp 𝕄)
      = iprop((E.oM.view.loc E.thr ↦[E.rowsIn a b]{fullShare} f) ∗ E.oM.view.loc E.thr ↦[E.rowsIn b c]{fullShare} f) := by
  rw [rowsIn_union E h₁ h₂]
  exact BI.Entails.antisymm (pointsTo_union (rowsIn_disjoint E)).1 (pointsTo_union (rowsIn_disjoint E)).2

/-- and may be empty. -/
theorem rowsIn_empty (a : ℕ) : E.rowsIn a a = ∅ := by
  unfold Env.rowsIn
  rw [Finset.map_eq_empty, Finset.filter_eq_empty_iff]; intro y _; omega

end Sets

end Cert.Proof.Tile

end
-- ==== Proof.Split.lean ====
/-
  How one gather call's operands are divided: the table and the list by shares, the output by rows, over the two
  SparseCores and each one's sixteen tiles.
-/
module

public import proofs.«01_k».proof.Proof.Tile
public import Idealize.ShloMosaic.Lib.ShareLeaves

@[expose] public section

noncomputable section

namespace Cert.Proof.Split

open Cert.KernelIdeal Cert.KernelIdeal.Gen
open Idealize.ShloMosaic
open Idealize.ShloMosaic.SparseCore.Cfg (HIx)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Cert.Proof.Tile

variable {F : FTy → Type}

local notation "𝕄" => MT nD τ sig (HIx 2) (Elt F) ℕ UU ℕ

/-- SparseCore `c`'s share of an operand that every tile reads; tile `i`'s; and the two halves of it, one per slot. -/
abbrev cq (c : Fin 2) : PosShare TreeShare := leaf 1 fullShare c
/-- A tile's share of the table and of the list. -/
abbrev tq (c : Fin 2) (i : Fin 16) : PosShare TreeShare := leaf 4 (cq c) i
/-- A slot's share of a tile's. -/
abbrev lq (c : Fin 2) (i : Fin 16) (s : Fin 2) : PosShare TreeShare := leaf 1 (tq c i) s

/-- A call's three operands: where the table, the list and the output lie, what the first two hold, and the output's
    elements of each tile. -/
structure Call (F : FTy → Type) where
  ℓT : Loc nD τ sig
  ℓI : Loc nD τ sig
  ℓO : Loc nD τ sig
  fT : Buf (Elt F) ℓT
  fI : Buf (Elt F) ℓI
  R : Fin 2 → Fin 16 → Finset (Idx ℓO)
  disj : ∀ c c' i i', (c, i) ≠ (c', i') → Disjoint (R c i) (R c' i')
  cover : ∀ x, ∃ c i, x ∈ R c i

namespace Call

variable (A : Call F)

/-- The output's elements of SparseCore `c`. -/
def RC (c : Fin 2) : Finset (Idx A.ℓO) := Finset.univ.biUnion (A.R c)

/-- What tile `i` of SparseCore `c` holds, the output at `f`; what the SparseCore holds; what the device holds. -/
def tile (c : Fin 2) (i : Fin 16) (f : Buf (Elt F) A.ℓO) : sProp 𝕄 :=
  iprop((A.ℓT ↦[Finset.univ]{tq c i} A.fT) ∗ ((A.ℓI ↦[Finset.univ]{lq c i 0} A.fI) ∗ A.ℓI ↦[Finset.univ]{lq c i 1} A.fI) ∗ A.ℓO ↦[A.R c i]{fullShare} f)
/-- What one SparseCore is given of a gather. -/
def core (c : Fin 2) (f : Buf (Elt F) A.ℓO) : sProp 𝕄 :=
  iprop((A.ℓT ↦[Finset.univ]{cq c} A.fT) ∗ (A.ℓI ↦[Finset.univ]{cq c} A.fI) ∗ A.ℓO ↦[A.RC c]{fullShare} f)
/-- What the device gives a gather. -/
def dev (f : Buf (Elt F) A.ℓO) : sProp 𝕄 :=
  iprop((A.ℓT ↦{fullShare} A.fT) ∗ (A.ℓI ↦{fullShare} A.fI) ∗ A.ℓO ↦{fullShare} f)

/-- A tile's share of the list is its two slots' shares. -/
theorem slots (c : Fin 2) (i : Fin 16) :
    (A.ℓI ↦[Finset.univ]{tq c i} A.fI : sProp 𝕄) = iprop((A.ℓI ↦[Finset.univ]{lq c i 0} A.fI) ∗ A.ℓI ↦[Finset.univ]{lq c i 1} A.fI) := by
  rw [pointsTo_leaves Finset.univ A.fI 1 (tq c i)]
  exact BI.bigSep_fin_two _

/-- A SparseCore's holding is its tiles' holdings. -/
theorem core_tiles (c : Fin 2) (f : Buf (Elt F) A.ℓO) :
    A.core c f = bigSep (Finset.univ : Finset (Fin 16)) fun i => A.tile c i f := by
  unfold core tile RC
  rw [bigSep_sep', bigSep_sep', ← bigSep_congr (s := (Finset.univ : Finset (Fin 16))) (fun i _ => A.slots c i),
    pointsTo_biUnion Finset.univ (A.R c) (fun i _ i' _ h => A.disj c c i i' fun e => h (Prod.mk.inj e).2),
    pointsTo_leaves Finset.univ A.fT 4 (cq c), pointsTo_leaves Finset.univ A.fI 4 (cq c)]
  rfl

/-- The device's holding is its SparseCores'. -/
theorem dev_cores (f : Buf (Elt F) A.ℓO) : A.dev f = bigSep (Finset.univ : Finset (Fin 2)) fun c => A.core c f := by
  unfold dev core
  have hU : (Finset.univ : Finset (Fin 2)).biUnion A.RC = Finset.univ := by
    ext x; simp only [Finset.mem_biUnion, Finset.mem_univ, true_and, iff_true, RC]
    exact A.cover x
  have hD : ∀ c ∈ (Finset.univ : Finset (Fin 2)), ∀ c' ∈ (Finset.univ : Finset (Fin 2)), c ≠ c' → Disjoint (A.RC c) (A.RC c') := by
    intro c _ c' _ h
    unfold RC
    rw [Finset.disjoint_biUnion_left]; intro i _
    rw [Finset.disjoint_biUnion_right]; intro i' _
    exact A.disj c c' i i' fun e => h (Prod.mk.inj e).1
  rw [bigSep_sep', bigSep_sep', ← pointsTo_biUnion Finset.univ A.RC hD, hU]
  rw [show (A.ℓT ↦{fullShare} A.fT : sProp 𝕄) = bigSep (Finset.univ : Finset (Fin 2)) fun c => (A.ℓT ↦[Finset.univ]{cq c} A.fT : sProp 𝕄) from
    pointsTo_leaves Finset.univ A.fT 1 fullShare,
    show (A.ℓI ↦{fullShare} A.fI : sProp 𝕄) = bigSep (Finset.univ : Finset (Fin 2)) fun c => (A.ℓI ↦[Finset.univ]{cq c} A.fI : sProp 𝕄) from
    pointsTo_leaves Finset.univ A.fI 1 fullShare]

end Call

/-! ## Rows of an output, divided in blocks of `k` -/

/-- Tile `i` of SparseCore `c` has the `k` rows from `k * (i + 16 * c)` on. -/
def blk {n : ℕ} (k : ℕ) (c : Fin 2) (i : Fin 16) : Finset (sO n).Idx :=
  Finset.univ.filter fun y => k * (i.val + 16 * c.val) ≤ (y 0).val ∧ (y 0).val < k * (i.val + 16 * c.val) + k

/-- Different tiles have different rows. -/
theorem blk_disj {n : ℕ} (k : ℕ) (c c' : Fin 2) (i i' : Fin 16) (h : (c, i) ≠ (c', i')) : Disjoint (blk (n := n) k c i) (blk k c' i') := by
  rw [Finset.disjoint_left]
  intro y hy hy'
  simp only [blk, Finset.mem_filter, Finset.mem_univ, true_and] at hy hy'
  apply h
  have e : i.val + 16 * c.val = i'.val + 16 * c'.val := by
    rcases Nat.lt_trichotomy (i.val + 16 * c.val) (i'.val + 16 * c'.val) with hl | hl | hl
    · have := Nat.mul_le_mul_left k (Nat.succ_le_of_lt hl); rw [Nat.mul_succ] at this; omega
    · exact hl
    · have := Nat.mul_le_mul_left k (Nat.succ_le_of_lt hl); rw [Nat.mul_succ] at this; omega
  exact Prod.ext (Fin.ext (by show c.val = c'.val; omega)) (Fin.ext (by show i.val = i'.val; omega))

/-- Every row is some tile's. -/
theorem blk_cover {n : ℕ} (k : ℕ) (hk : 0 < k) (hn : n = k * 32) (y : (sO n).Idx) : ∃ c i, y ∈ blk (n := n) k c i := by
  have hy : (y 0).val < n := (y 0).isLt
  have hq : (y 0).val / k < 32 := by rw [Nat.div_lt_iff_lt_mul hk]; omega
  refine ⟨⟨(y 0).val / k / 16, by omega⟩, ⟨(y 0).val / k % 16, by omega⟩, ?_⟩
  simp only [blk, Finset.mem_filter, Finset.mem_univ, true_and]
  rw [show (y 0).val / k % 16 + 16 * ((y 0).val / k / 16) = (y 0).val / k by omega]
  have := Nat.div_add_mod (y 0).val k
  have := Nat.mod_lt (y 0).val hk
  constructor <;> omega

end Cert.Proof.Split

end
-- ==== Proof.Steps.lean ====
/-
  The five transfers of a tile's row gather, each as one rule: fetching a block of numbers, its wait, the gather with its
  wait, writing a block of rows out, its wait.
-/
module

public import proofs.«01_k».proof.Proof.Tile

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 2) (Elt F) ℕ UU ℕ

/-- No step loops by a variant. -/
abbrev 𝒱₀ : Variants := Variants.none

variable {n : ℕ} (E : Env F n)

/-! ## The contents a transfer leaves -/

/-- Two contents that a view reads alike agree on the view's elements. -/
theorem eq_of_read {sp : Space} {s : Shape} {e : EltTy} (v : View sig .scVector sp s e) {f g : v.ty.Contents (Elt F)} {x : s.Idx}
    (h : v.read (Elt F) f x = v.read (Elt F) g x) : f (v.emb x) = g (v.emb x) := by
  rw [View.read_apply, View.read_apply] at h
  exact (cast_bijective _).1 h

/-- A block of the list, placed. -/
theorem emb_iBlk (o : ℕ) (h) (x : S1x128.Idx) (y : (sI n).Idx) (hy : (y 1).val = o + (x 1).val) :
    (Rect.unit (s := sI n) ![0, o] S1x128.size h).emb x = y := by
  funext a
  refine Fin.ext ?_
  have h0 : (y 0).val = 0 := Nat.lt_one_iff.mp (y 0).isLt
  have h0' : (x 0).val = 0 := Nat.lt_one_iff.mp (x 0).isLt
  match a with
  | 0 => show 0 + 1 * (x 0).val = (y 0).val; omega
  | 1 => show o + 1 * (x 1).val = (y 1).val; omega

/-- A block of the output, placed. -/
theorem emb_oBlk (o : ℕ) (h) (x : S128x128.Idx) (y : (sO n).Idx) (h0 : (y 0).val = o + (x 0).val) (h1 : (y 1).val = (x 1).val) :
    (Rect.unit (s := sO n) ![o, 0] S128x128.size h).emb x = y := by
  funext a
  refine Fin.ext ?_
  match a with
  | 0 => show o + 1 * (x 0).val = (y 0).val; omega
  | 1 => show 0 + 1 * (x 1).val = (y 1).val; omega

/-! ## Fetching a block of numbers -/

/-- The fetch of a block's numbers starts. -/
theorem wp_issueI (s : Fin 2) (o : ℕ) (ho : o + 128 ≤ n) {off4 : Fin 3 → ℕ} {off5 : Fin 2 → ℕ} {off6 : Fin 1 → ℕ}
    (h4 : off4 = ![s.val, 0, 0]) (h5 : off5 = ![0, o]) (h6 : off6 = ![s.val]) {p4 p5 p6 hsrc hdst hsem} {Q : PUnit → sProp 𝕄} :
    E.idleI s ⊢ iprop((E.flyI s o -∗ Q ⟨⟩) -∗ wp frame (wpE (defs₀ (F := F)) 𝒱₀ E.thr none) Set.univ
      (Prog.lift (.enqueueDma (E.iM.slice (Rect.unit (s := sI n) off5 S1x128.size p5) (fun _ => rfl))
        (.here ((E.aM.slice (Rect.unit (s := S2x1x128) off4 S1x1x128.size p4) (fun _ => rfl)).squeeze S1x128 squeezes_S1x1x128_S1x128))
        (.dma ((E.s5.slice (Rect.unit (s := S2) off6 S1.size p6)).squeeze S_ squeezes_S1_S_).sem) hsrc hdst hsem)) Q) := by
  subst h4 h5 h6
  unfold Env.idleI Env.aAny
  iintro ⟨⟨%f, Ha⟩, Hv, Hl⟩ HQ
  have hsub : (E.iBlk o (Env.inbI ho)).view.set ⊆ E.iM.view.set := View.set_slice_subset _ _
  ihave Hl' := (pointsTo_split_subset hsub).1 $$ Hl
  icases Hl' with ⟨Hb, Hr⟩
  iapply (Transfers.wp_dmaLocal countersEmb 𝒱₀ E.thr none (src := E.iBlk o (Env.inbI ho)) (dst := E.aSlot s) (sm := .dma (E.sem5 s)) (via := .same)
    (default : HIx 2) (E.aSlot s).view.dmaCredit rfl (View.dmaCredit_pos _ (by decide)) (le_refl _)) $$ [Ha Hb Hv]
  · isplitl [Hb]; · iexact Hb
    isplitl [Ha] <;> iassumption
  iintro Hfl
  rw [wp_ret]; imodintro
  iapply HQ
  unfold Env.flyI
  iexists ho
  isplitl [Hfl]
  · iapply (Transfers.Flight_mono (EC := countersEmb) (c := E.thr) ?_) $$ Hfl
    unfold Env.aAt
    iintro ⟨Ha, Hb⟩
    isplitl [Ha]
    · iexists _
      isplitr
      swap; · iexact Ha
      ipureintro
      intro x y hy
      rw [View.read_write_univ]
      show E.iM.view.read (Elt F) E.fI ((Rect.unit (s := sI n) ![0, o] S1x128.size _).emb x) = _
      rw [emb_iBlk o _ x y hy]
    · iexact Hb
  · iexact Hr

/-- The fetch has landed. -/
theorem wp_waitI (s : Fin 2) (o : ℕ) {off7 : Fin 3 → ℕ} {off8 : Fin 2 → ℕ} {off9 : Fin 1 → ℕ}
    (h7 : off7 = ![s.val, 0, 0]) (h9 : off9 = ![s.val]) {p7 p8 p9 hsrc hdst} (O : CellTallies nD τ sig (HIx 2)) (W : Waits sig (HIx 2)) {Q : PUnit → sProp 𝕄} :
    iprop(E.flyI s o ∗ E.ow O W ∗ Transfers.MayWaits E.thr (default : HIx 2) O) ⊢ iprop((E.landI s o ∗ E.ow O W -∗ Q ⟨⟩) -∗ wp frame (wpE (defs₀ (F := F)) 𝒱₀ E.thr none) Set.univ
      (Prog.lift (.waitDma2 ((E.s5.slice (Rect.unit (s := S2) off9 S1.size p9)).squeeze S_ squeezes_S1_S_).sem
        (E.iM.slice (Rect.unit (s := sI n) off8 S1x128.size p8) (fun _ => rfl))
        ((E.aM.slice (Rect.unit (s := S2x1x128) off7 S1x1x128.size p7) (fun _ => rfl)).squeeze S1x128 squeezes_S1x1x128_S1x128) hsrc hdst)) Q) := by
  subst h7 h9
  unfold Env.flyI Env.ow
  iintro ⟨⟨%ho, Hfl, Hr⟩, ⟨%W', %hW', HO⟩, Hmw⟩ HQ
  iapply (Transfers.wp_waitLocalO countersEmb 𝒱₀ E.thr none (default : HIx 2) (rfl : (E.aSlot s).view.dmaCredit = _)) $$ [Hfl HO Hmw]
  · isplitl [Hfl]; · iexact Hfl
    isplitl [HO]; · iexact HO
    iapply (Transfers.MayWaits.elim (SemLoc.dma (E.sem5 s))) $$ Hmw
  iintro ⟨⟨Ha, Hb⟩, Hv, HO⟩
  rw [wp_ret]; imodintro
  iapply HQ
  isplitr [HO]
  · unfold Env.landI
    isplitl [Ha]; · iexact Ha
    isplitl [Hv]; · iexact Hv
    have hsub : (E.iBlk o (Env.inbI ho)).view.set ⊆ E.iM.view.set := View.set_slice_subset _ _
    iapply (pointsTo_split_subset hsub).2
    isplitl [Hb] <;> iassumption
  · iexists _; isplitr
    swap; · iexact HO
    ipureintro; intro p hp
    rcases Finset.mem_insert.mp hp with hp | hp; · exact .inr (hp ▸ rfl)
    exact hW' p hp

/-- A slot read is a slot free. -/
theorem landI_idle (s : Fin 2) (o : ℕ) : E.landI s o ⊢ (E.idleI s : sProp 𝕄) := by
  unfold Env.landI Env.idleI Env.aAt Env.aAny
  iintro ⟨⟨%f, -, Ha⟩, H⟩
  isplitl [Ha]
  · iexists f; iexact Ha
  · iexact H

/-! ## Writing a block of rows out -/

/-- The copy of a block's rows out starts. -/
theorem wp_issueO (s : Fin 2) (o : ℕ) (ho : o + 128 ≤ n) {off12 : Fin 3 → ℕ} {off13 : Fin 2 → ℕ} {off14 : Fin 1 → ℕ}
    (h12 : off12 = ![s.val, 0, 0]) (h13 : off13 = ![o, 0]) (h14 : off14 = ![s.val]) {p12 p13 p14 hsrc hdst hsem} {Q : PUnit → sProp 𝕄} :
    iprop(E.landO s o ∗ E.oM.view.loc E.thr ↦[E.rowsIn o (o + 128)]{fullShare} E.fO) ⊢ iprop((E.flyO s o -∗ Q ⟨⟩) -∗ wp frame (wpE (defs₀ (F := F)) 𝒱₀ E.thr none) Set.univ
      (Prog.lift (.enqueueDma ((E.rM.slice (Rect.unit (s := S2x128x128) off12 S1x128x128.size p12) (fun _ => rfl)).squeeze S128x128 squeezes_S1x128x128_S128x128)
        (.here (E.oM.slice (Rect.unit (s := sO n) off13 S128x128.size p13) (fun _ => rfl)))
        (.dma ((E.s6.slice (Rect.unit (s := S2) off14 S1.size p14)).squeeze S_ squeezes_S1_S_).sem) hsrc hdst hsem)) Q) := by
  subst h12 h13 h14
  unfold Env.landO Env.rAt
  iintro ⟨⟨⟨%f, %hf, Hr⟩, Hv⟩, Ho⟩ HQ
  iapply (Transfers.wp_dmaLocal countersEmb 𝒱₀ E.thr none (src := E.rSlot s) (dst := E.oBlk o (Env.inbO ho)) (sm := .dma (E.sem6 s)) (via := .same)
    (default : HIx 2) (E.oM.view.ref.dmaCredit S128x128 .f32) rfl (View.dmaCredit_pos (E.oBlk o (Env.inbO ho)).view (by decide)) (Sd := E.rowsIn o (o + 128))
    (set_oBlk E o (Env.inbO ho) ▸ le_refl _)) $$ [Hr Ho Hv]
  · isplitl [Hr]; · iexact Hr
    isplitl [Ho] <;> iassumption
  iintro Hfl
  rw [wp_ret]; imodintro
  iapply HQ
  unfold Env.flyO
  iapply (Transfers.Flight_mono (EC := countersEmb) (c := E.thr) ?_) $$ Hfl
  unfold Env.rAny
  iintro ⟨Ho, Hr⟩
  isplitl [Ho]
  · iapply (Entails.of_eq (pointsTo_congr ?_)) $$ Ho
    intro i hi
    rw [← set_oBlk E o (Env.inbO ho)] at hi
    obtain ⟨x, -, rfl⟩ := Finset.mem_map.mp hi
    refine eq_of_read (F := F) (E.oBlk o (Env.inbO ho)).view (x := x) ?_
    refine (congrFun (View.read_write_univ _ _) x).trans ?_
    let y : (sO n).Idx := (Rect.unit (s := sO n) ![o, 0] S128x128.size (Env.inbO ho)).emb x
    have hy0 : (y 0).val = o + (x 0).val := by show o + 1 * (x 0).val = _; omega
    have hy1 : (y 1).val = (x 1).val := by show 0 + 1 * (x 1).val = _; omega
    refine (hf x y hy0 hy1).trans ?_
    show _ = E.oM.view.read (Elt F) E.fG y
    rw [View.read_write_univ]
  · iexists f; iexact Hr

/-- The copy has landed. -/
theorem wp_waitO (s : Fin 2) (o : ℕ) {off15 : Fin 3 → ℕ} {off16 : Fin 2 → ℕ} {off17 : Fin 1 → ℕ}
    (h17 : off17 = ![s.val]) {p15 p16 p17 hsrc hdst} (O : CellTallies nD τ sig (HIx 2)) (W : Waits sig (HIx 2)) {Q : PUnit → sProp 𝕄} :
    iprop(E.flyO s o ∗ E.ow O W ∗ Transfers.MayWaits E.thr (default : HIx 2) O) ⊢ iprop((E.idleO s ∗ (E.oM.view.loc E.thr ↦[E.rowsIn o (o + 128)]{fullShare} E.fG) ∗ E.ow O W -∗ Q ⟨⟩) -∗ wp frame (wpE (defs₀ (F := F)) 𝒱₀ E.thr none) Set.univ
      (Prog.lift (.waitDma2 ((E.s6.slice (Rect.unit (s := S2) off17 S1.size p17)).squeeze S_ squeezes_S1_S_).sem
        ((E.rM.slice (Rect.unit (s := S2x128x128) off15 S1x128x128.size p15) (fun _ => rfl)).squeeze S128x128 squeezes_S1x128x128_S128x128)
        (E.oM.slice (Rect.unit (s := sO n) off16 S128x128.size p16) (fun _ => rfl)) hsrc hdst)) Q) := by
  subst h17
  unfold Env.flyO Env.ow
  iintro ⟨Hfl, ⟨%W', %hW', HO⟩, Hmw⟩ HQ
  iapply (Transfers.wp_waitLocalO countersEmb 𝒱₀ E.thr none (dstw := E.oM.slice (Rect.unit (s := sO n) off16 S128x128.size p16) (fun _ => rfl)) (default : HIx 2) (N := E.oM.view.ref.dmaCredit S128x128 .f32) rfl) $$ [Hfl HO Hmw]
  · isplitl [Hfl]; · iexact Hfl
    isplitl [HO]; · iexact HO
    iapply (Transfers.MayWaits.elim (SemLoc.dma (E.sem6 s))) $$ Hmw
  iintro ⟨⟨Ho, Hr⟩, Hv, HO⟩
  rw [wp_ret]; imodintro
  iapply HQ
  isplitl [Hr Hv]
  · unfold Env.idleO
    isplitl [Hr] <;> iassumption
  isplitl [Ho]; · iexact Ho
  iexists _; isplitr
  swap; · iexact HO
  ipureintro; intro p hp
  rcases Finset.mem_insert.mp hp with hp | hp; · exact .inr (hp ▸ rfl)
  exact hW' p hp

/-! ## The gather -/

/-- The offset list reads the slot of numbers in order. -/
theorem read_offs (s : Fin 2) (o : ℕ) (f : Buf (Elt F) ((E.aSlot s).view.loc E.thr))
    (hf : ∀ (x : S1x128.Idx) (y : (sI n).Idx), (y 1).val = o + (x 1).val → (E.aSlot s).view.read (Elt F) f x = E.words y)
    (k : S128.Idx) (y : (sI n).Idx) (hy : (y 1).val = o + (k 0).val) : (E.offs s).view.read (Elt F) f k = E.words y := by
  let x : S1x128.Idx := fun a => match a with | 0 => (⟨0, Nat.one_pos⟩ : Fin 1) | 1 => (⟨(k 0).val, (k 0).isLt⟩ : Fin 128)
  refine Eq.trans ?_ (hf x y hy)
  show (E.aSlot s).view.read (Elt F) f ((Rect.unit (s := S1x128) ![0, 0] S1x128.size inb_S1x128_S1x128_0_0).emb (Shape.reshapeEquiv _ k)) = _
  congr 1
  have e : Shape.reshapeEquiv squeezes_S1x128_S128.numel_eq k = x := by
    refine Shape.reshapeEquiv_eq_of_rowMajor (s := S1x128) (s' := S128) _ ?_
    rw [Shape.rowMajor_val_two, Shape.rowMajor_val_one]
    show 0 * 128 + (k 0).val = (k 0).val
    omega
  rw [show Shape.reshapeEquiv _ k = x from e]
  funext a
  refine Fin.ext ?_
  match a with
  | 0 => show 0 + 1 * 0 = 0; rfl
  | 1 => show 0 + 1 * (k 0).val = (k 0).val; omega

/-- A slot's list is the slot. -/
theorem set_offs (s : Fin 2) : (E.offs s).view.set = (E.aSlot s).view.set := by
  show (((E.aSlot s).view.slice (Rect.unit (s := S1x128) ![0, 0] S1x128.size inb_S1x128_S1x128_0_0)).reshape S128 squeezes_S1x128_S128.numel_eq).set = _
  rw [View.set_reshape, View.set_slice]
  unfold View.set
  congr 1

/-- The table as the gather slices it is the table. -/
theorem set_tAll : E.tAll.view.set = E.tM.view.set := by
  show (E.tM.view.slice _).set = _
  rw [View.set_slice]
  unfold View.set
  refine congrArg (Finset.map E.tM.view.emb) (Finset.eq_univ_of_forall fun i => ?_)
  rw [Rect.mem_set_unit]
  exact (Fin.forall_fin_two (p := fun a => (![0, 0] : Fin 2 → ℕ) a ≤ (i a).val ∧ (i a).val < (![0, 0] : Fin 2 → ℕ) a + S100000x128.size a)).mpr
    ⟨⟨Nat.zero_le _, (Nat.zero_add _).symm ▸ (i 0).isLt⟩, ⟨Nat.zero_le _, (Nat.zero_add _).symm ▸ (i 1).isLt⟩⟩

/-- The gather's payload at a block of numbers: the rows they name. -/
theorem payload_eq (s : Fin 2) (o : ℕ) (ho : o + 128 ≤ n) (hpre : ∀ y, (E.words y).toNat < 100000) (f : Buf (Elt F) ((E.aSlot s).view.loc E.thr))
    (hf : ∀ (x : S1x128.Idx) (y : (sI n).Idx), (y 1).val = o + (x 1).val → (E.aSlot s).view.read (Elt F) f x = E.words y)
    {hn} {hin : ∀ x, ((E.offs s).view.read (Elt F) f x).toNat < S100000x128.size gathers_S100000x128_S128x128.axis}
    (x : S128x128.Idx) (y : (sO n).Idx) (h0 : (y 0).val = o + (x 0).val) (h1 : (y 1).val = (x 1).val) :
    SparseCore.gatherPayload gathers_S100000x128_S128x128 (E.tAll.view.read (Elt F) E.fT) (SparseCore.rows ((E.offs s).view.read (Elt F) f) hn hin) x
      = gath E.table E.words y := by
  unfold SparseCore.gatherPayload gath
  show E.table ((Rect.unit (s := S100000x128) ![0, 0] S100000x128.size inb_S100000x128_S100000x128_0_0).emb _) = E.table _
  congr 1
  funext a
  refine Fin.ext ?_
  match a with
  | 0 =>
    show 0 + 1 * ((E.offs s).view.read (Elt F) f (S128.rowMajor.symm (Fin.cast hn.symm (x 0)))).toNat = (E.words (colIx (y 0))).toNat % 100000
    have hk : ((S128.rowMajor.symm (Fin.cast hn.symm (x 0))) 0).val = (x 0).val := by
      have := Shape.rowMajor_val_one (d := ![128]) (S128.rowMajor.symm (Fin.cast hn.symm (x 0)))
      rw [Equiv.apply_symm_apply] at this
      exact this.symm
    rw [read_offs E s o f hf _ (colIx (y 0)) (by rw [hk]; exact h0), Nat.mod_eq_of_lt (hpre _)]
    omega
  | 1 => show 0 + 1 * (x 1).val = (y 1).val; omega

/-- The gather brings the listed rows into the slot. -/
theorem wp_gather (s s' : Fin 2) (o : ℕ) (ho : o + 128 ≤ n) (hpre : ∀ y, (E.words y).toNat < 100000) {off10 off11 : Fin 3 → ℕ}
    (h10 : off10 = ![s'.val, 0, 0]) (h11 : off11 = ![s.val, 0, 0]) {p10 p11 hp hn hsrc he hsp hr hsrc' hdst'}
    (hN : ∀ h : S100000x128.Gathers 0 S128x128, ∑ j, ((E.rSlot s').slice (S128x128.rowRect h.axis' j) (S128x128.stride_rowRect h.axis' j)).view.dmaCredit = (E.rSlot s').view.dmaCredit)
    (O : CellTallies nD τ sig (HIx 2)) (W : Waits sig (HIx 2)) {Q : PUnit → sProp 𝕄} :
    iprop(E.landI s o ∗ E.idleO s' ∗ E.tab ∗ E.ow O W ∗ Transfers.MayWaits E.thr (default : HIx 2) O)
      ⊢ iprop((E.idleI s ∗ E.landO s' o ∗ E.tab ∗ E.ow O W -∗ Q ⟨⟩) -∗ wp frame (wpE (defs₀ (F := F)) 𝒱₀ E.thr none) Set.univ
        (SparseCore.enqueueIndirectGather hp E.tAll
            ((E.rM.slice (Rect.unit (s := S2x128x128) off10 S1x128x128.size p10) (fun _ => rfl)).squeeze S128x128 squeezes_S1x128x128_S128x128)
            gathers_S100000x128_S128x128
            ((((E.aM.slice (Rect.unit (s := S2x1x128) off11 S1x1x128.size p11) (fun _ => rfl)).squeeze S1x128 squeezes_S1x1x128_S1x128).slice
              (Rect.unit (s := S1x128) ![0, 0] S1x128.size inb_S1x128_S1x128_0_0) (fun _ => rfl)).squeeze S128 squeezes_S1x128_S128)
            hn E.sg.sem hsrc he hsp hr)
        fun _ => wp frame (wpE (defs₀ (F := F)) 𝒱₀ E.thr none) Set.univ
          (SparseCore.waitIndirectGather E.sg.sem E.tAll
            ((E.rM.slice (Rect.unit (s := S2x128x128) off10 S1x128x128.size p10) (fun _ => rfl)).squeeze S128x128 squeezes_S1x128x128_S128x128) hsrc' hdst') Q) := by
  subst h10 h11
  unfold Env.landI Env.aAt Env.idleO Env.rAny Env.tab Env.ow
  iintro ⟨⟨⟨%f, %hf, Ha⟩, Hv5, Hl⟩, ⟨⟨%g, Hr⟩, Hv6⟩, ⟨Ht, Hvg⟩, ⟨%W', %hW', HO⟩, Hmw⟩ HQ
  have hin : ∀ x, ((E.offs s).view.read (Elt F) f x).toNat < S100000x128.size gathers_S100000x128_S128x128.axis := fun x => by
    have hx : (x 0).val < 128 := (x 0).isLt
    rw [read_offs E s o f hf x (colIx ⟨o + (x 0).val, by omega⟩) rfl]
    exact hpre _
  rw [← wp_bind]
  iapply (SparseCore.wp_indirectGatherLocal countersEmb 𝒱₀ E.thr none (src := E.tAll) (dst := E.rSlot s') (offs := E.offs s) (sem := E.sg.sem)
      (hg := gathers_S100000x128_S128x128) (default : HIx 2) (E.rSlot s').view.dmaCredit (hN _) (by decide) hin) $$ [Ha Hr Ht Hvg]
  · isplitl [Ht]; · rw [set_tAll]; iexact Ht
    isplitl [Hr]; · iexact Hr
    isplitl [Ha]; · rw [set_offs]; iexact Ha
    iexact Hvg
  iintro Hfl
  unfold SparseCore.waitIndirectGather
  iapply (Transfers.wp_waitLocalO countersEmb 𝒱₀ E.thr none (default : HIx 2) (rfl : (E.rSlot s').view.dmaCredit = _)) $$ [Hfl HO Hmw]
  · isplitl [Hfl]; · iexact Hfl
    isplitl [HO]; · iexact HO
    iapply (Transfers.MayWaits.elim (SemLoc.dma E.sg.sem)) $$ Hmw
  iintro ⟨⟨Hr, Ht, Ha⟩, Hvg, HO⟩
  rw [wp_ret]; imodintro
  iapply HQ
  isplitl [Ha Hv5 Hl]
  · unfold Env.idleI Env.aAny
    isplitl [Ha]; · iexists f; rw [set_offs]; iexact Ha
    isplitl [Hv5] <;> iassumption
  isplitl [Hr Hv6]
  · unfold Env.landO Env.rAt
    isplitr [Hv6]
    · iexists _
      isplitr
      swap; · iexact Hr
      ipureintro
      intro x y h0 h1
      rw [View.read_write_univ]
      exact payload_eq E s o ho hpre f hf x y h0 h1
    · iexact Hv6
  isplitl [Ht Hvg]
  · isplitl [Ht]; · rw [set_tAll]; iexact Ht
    iexact Hvg
  iexists _; isplitr
  swap; · iexact HO
  ipureintro; intro p hp
  rcases Finset.mem_insert.mp hp with hp | hp; · exact .inr (hp ▸ rfl)
  exact hW' p hp

end Cert.Proof.Tile

end
-- ==== Proof.Trip.lean ====
/-
  One trip of a tile's gather loop, over the steps: what the tile holds before trip `t`, and the steps under the
  conditions the kernel computes.
-/
module

public import proofs.«01_k».proof.Proof.Steps

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 2) (Elt F) ℕ UU ℕ

variable {n : ℕ} (E : Env F n)

/-- The slot of block `t`. -/
def sl (t : ℕ) : Fin 2 := ⟨t % 2, Nat.mod_lt _ (by decide)⟩
/-- The slots alternate. -/
theorem sl_add_two (t : ℕ) : sl (t + 2) = sl t := Fin.ext (Nat.add_mod_right t 2)
/-- The slot before is the slot after. -/
theorem sl_pred {t : ℕ} (h : 0 < t) : sl (t - 1) = sl (t + 1) := by
  rw [← sl_add_two (t - 1)]; congr 1; omega

/-- Before trip `t` of `N`, the tile's blocks starting at `B`: the slot of block `t`, its numbers in flight if there is
    such a block; -/
def nums (B N t : ℕ) (s : Fin 2) : sProp 𝕄 := if t < N then E.flyI s (B + 128 * t) else E.idleI s
/-- the slot of block `t - 1`, its rows in flight to the output if there is such a block. -/
def outs (B t : ℕ) (s : Fin 2) : sProp 𝕄 := if t = 0 then E.idleO s else E.flyO s (B + 128 * (t - 1))

/-- What the tile holds before trip `t`: both slots of each buffer, the table, the rows written and the rows to write. -/
def inv (B N : ℕ) (O : CellTallies nD τ sig (HIx 2)) (W : Waits sig (HIx 2)) (t : ℕ) : sProp 𝕄 :=
  iprop(nums E B N t (sl t) ∗ E.idleI (sl (t + 1)) ∗ outs E B t (sl (t + 1)) ∗ E.idleO (sl t) ∗ E.tab ∗ E.ow O W
    ∗ Transfers.MayWaits E.thr (default : HIx 2) O
    ∗ (E.oM.view.loc E.thr ↦[E.rowsIn B (B + 128 * (t - 1))]{fullShare} E.fG)
    ∗ E.oM.view.loc E.thr ↦[E.rowsIn (B + 128 * t) (B + 128 * N)]{fullShare} E.fO)

variable {B N t : ℕ}

/-- A transfer under a condition the kernel computes: where the condition says so, the transfer's rule; elsewhere
    nothing happens. -/
theorem wp_cond {thr : Thread nD τ} {cond : BitVec 1} {φ : Prop} (hc : cond = 1#1 ↔ φ) {A R : sProp 𝕄} {α : Type}
    {b : cond = 1#1 → Prog (TpuEff nD τ sig (Elt F) Λ₀ thr.2) PUnit} {K : Prog (TpuEff nD τ sig (Elt F) Λ₀ thr.2) α} {Q : α → sProp 𝕄}
    (hT : φ → ∀ (h : cond = 1#1) (Q' : PUnit → sProp 𝕄), A ⊢ iprop((R -∗ Q' ⟨⟩) -∗ wp frame (wpE (defs₀ (F := F)) 𝒱₀ thr none) Set.univ (b h) Q'))
    (hF : ¬φ → A ⊢ R) :
    A ⊢ iprop((R -∗ wp frame (wpE (defs₀ (F := F)) 𝒱₀ thr none) Set.univ K Q) -∗ wp frame (wpE (defs₀ (F := F)) 𝒱₀ thr none) Set.univ
      (if h : cond = 1#1 then (b h >>= fun _ => K) else K) Q) := by
  by_cases hφ : φ
  · rw [dif_pos (hc.mpr hφ), wp_bind]
    exact hT hφ (hc.mpr hφ) fun _ => wp frame (wpE (defs₀ (F := F)) 𝒱₀ thr none) Set.univ K Q
  · rw [dif_neg (fun h => hφ (hc.mp h))]
    iintro H HQ; iapply HQ; iapply (hF hφ) $$ H

/-- A condition both of whose ways go on alike. -/
theorem same_cond {thr : Thread nD τ} {c : Prop} [Decidable c] {α : Type} {K : Prog (TpuEff nD τ sig (Elt F) Λ₀ thr.2) α} {Q : α → sProp 𝕄} :
    wp frame (wpE (defs₀ (F := F)) 𝒱₀ thr none) Set.univ K Q ⊢ wp frame (wpE (defs₀ (F := F)) 𝒱₀ thr none) Set.univ (if c then K else K) Q := by
  rw [ite_self]

/-- The end of a piece of the program. -/
theorem pure_end {thr : Thread nD τ} {α : Type} {a : α} {Q : α → sProp 𝕄} :
    Q a ⊢ wp frame (wpE (defs₀ (F := F)) 𝒱₀ thr none) Set.univ (pure a : Prog (TpuEff nD τ sig (Elt F) Λ₀ thr.2) α) Q := by
  rw [wp_pure]; exact fupd_intro

/-- A side condition that holds. -/
theorem assume_lift {thr : Thread nD τ} {P : Prop} {dec : Decidable P} (h : P) {Q : PLift P → sProp 𝕄} :
    Q ⟨h⟩ ⊢ wp frame (wpE (defs₀ (F := F)) 𝒱₀ thr none) Set.univ (Prog.lift (TpuEff.assume P dec) : Prog (TpuEff nD τ sig (Elt F) Λ₀ thr.2) _) Q := by
  refine .trans ?_ (wp_assume 𝒱₀ _ none Set.univ (k := Prog.ret) h)
  show _ ⊢ wp frame (wpE (defs₀ (F := F)) 𝒱₀ thr none) Set.univ (pure (⟨h⟩ : PLift P)) Q
  rw [wp_pure]
  exact fupd_intro

/-- Two operations, then the rest. -/
theorem bind_two {thr : Thread nD τ} {α β γ : Type} {p : Prog (TpuEff nD τ sig (Elt F) Λ₀ thr.2) α} {q : α → Prog (TpuEff nD τ sig (Elt F) Λ₀ thr.2) β}
    {r : α → β → Prog (TpuEff nD τ sig (Elt F) Λ₀ thr.2) γ} {Q : γ → sProp 𝕄} :
    wp frame (wpE (defs₀ (F := F)) 𝒱₀ thr none) Set.univ p (fun a => wp frame (wpE (defs₀ (F := F)) 𝒱₀ thr none) Set.univ (q a)
        fun b => wp frame (wpE (defs₀ (F := F)) 𝒱₀ thr none) Set.univ (r a b) Q)
      ⊢ wp frame (wpE (defs₀ (F := F)) 𝒱₀ thr none) Set.univ (p >>= fun a => q a >>= r a) Q := by
  simp only [wp_bind]; exact .rfl

/-- Past the last block the slot of numbers is free. -/
theorem idleI_nums_of_not {s : Fin 2} (h : ¬t < N) : E.idleI s ⊢ (nums E B N t s : sProp 𝕄) := by
  unfold nums; rw [if_neg h]
/-- Until then its fetch is in flight. -/
theorem flyI_nums {s : Fin 2} (h : t < N) : E.flyI s (B + 128 * t) = (nums E B N t s : sProp 𝕄) := by
  unfold nums; rw [if_pos h]
/-- From the second trip on the copy of the block before is in flight. -/
theorem flyO_outs {s : Fin 2} (h : 0 < t) : E.flyO s (B + 128 * (t - 1)) = (outs E B t s : sProp 𝕄) := by
  unfold outs; rw [if_neg (by omega)]
/-- Before, the slot of rows is free. -/
theorem outs_zero {s : Fin 2} : (outs E B 0 s : sProp 𝕄) = E.idleO s := by
  unfold outs; rw [if_pos rfl]

/-- After the last trip. -/
theorem inv_last (O : CellTallies nD τ sig (HIx 2)) (W : Waits sig (HIx 2)) (hN : 0 < N) (ht : t = N) :
    (Tile.inv E B N O W t : sProp 𝕄) ⊢ iprop(E.idleI (sl N) ∗ E.idleI (sl (N + 1)) ∗ E.flyO (sl (N + 1)) (B + 128 * (N - 1)) ∗ E.idleO (sl N) ∗ E.tab ∗ E.ow O W
      ∗ E.oM.view.loc E.thr ↦[E.rowsIn B (B + 128 * (N - 1))]{fullShare} E.fG) := by
  subst ht
  unfold Tile.inv nums outs
  rw [if_neg (by omega), if_neg (by omega), rowsIn_empty, pointsTo_empty]
  iintro ⟨H1, H2, H3, H4, H5, H6, -, H7, -⟩
  isplitl [H1]; · iexact H1
  isplitl [H2]; · iexact H2
  isplitl [H3]; · iexact H3
  isplitl [H4]; · iexact H4
  isplitl [H5]; · iexact H5
  isplitl [H6]; · iexact H6
  iexact H7

/-- Before the first trip. -/
theorem inv_first (O : CellTallies nD τ sig (HIx 2)) (W : Waits sig (HIx 2)) (hN : 0 < N) :
    iprop(E.flyI (sl 0) (B + 128 * 0) ∗ E.idleI (sl 1) ∗ E.idleO (sl 1) ∗ E.idleO (sl 0) ∗ E.tab ∗ E.ow O W
      ∗ Transfers.MayWaits E.thr (default : HIx 2) O ∗ E.oM.view.loc E.thr ↦[E.rowsIn B (B + 128 * N)]{fullShare} E.fO) ⊢ (Tile.inv E B N O W 0 : sProp 𝕄) := by
  unfold Tile.inv nums outs
  rw [if_pos hN, if_pos rfl, show B + 128 * (0 - 1) = B by omega, rowsIn_empty, pointsTo_empty]
  iintro ⟨H1, H2, H3, H4, H5, H6, H8, H7⟩
  isplitl [H1]; · iexact H1
  isplitl [H2]; · iexact H2
  isplitl [H3]; · iexact H3
  isplitl [H4]; · iexact H4
  isplitl [H5]; · iexact H5
  isplitl [H6]; · iexact H6
  isplitl [H8]; · iexact H8
  isplitr; · iempintro
  iexact H7

end Cert.Proof.Tile

end
-- ==== Proof.Tiles.lean ====
/-
  A tile's launch resources as the gather's assertions: its two scratch buffers as four idle slots, its five semaphores
  at zero, its part of the operands; and the same put back together at the end.
-/
module

public import proofs.«01_k».proof.Proof.Split
public import proofs.«01_k».proof.Proof.Trip

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-! ## Five of a thread's semaphores, two of its buffers -/

/-- The thread's own semaphores at zero, five different ones named. -/
theorem ownSems_five (thr : Thread nD τ) (a b c e f : DmaSem sig) (hs : ∀ x ∈ [a, b, c, e, f], (SemLoc.dma x : SemLoc sig).isScoped thr.2.kind = true)
    (hn : [a, b, c, e, f].Nodup) :
    ∃ R : sProp 𝕄, (ownSems0 thr : sProp 𝕄) = iprop(semVal (thr, .dma a) 0 ∗ semVal (thr, .dma b) 0 ∗ semVal (thr, .dma c) 0 ∗ semVal (thr, .dma e) 0
      ∗ semVal (thr, .dma f) 0 ∗ R) := by
  simp only [List.nodup_cons, List.mem_cons, List.not_mem_nil, or_false, not_or, not_false_eq_true, List.nodup_nil, and_true] at hn
  obtain ⟨⟨h1, h2, h3, h4⟩, ⟨h5, h6, h7⟩, ⟨h8, h9⟩, h10⟩ := hn
  have hm : ∀ x ∈ [a, b, c, e, f], ((thr, SemLoc.dma x) : GSem nD τ sig) ∈ ownCells thr := fun x hx => mem_ownCells.mpr ⟨rfl, hs x hx⟩
  have hne : ∀ x y : DmaSem sig, ¬ x = y → ((thr, SemLoc.dma y) : GSem nD τ sig) ≠ (thr, SemLoc.dma x) := fun x y h e => h (by
    have := (Prod.mk.inj e).2; exact (SemLoc.dma.inj this).symm)
  unfold SparseCore.Cfg.ownSems0
  rw [SparseCore.bigSep_erase' (hm a (by simp)),
    SparseCore.bigSep_erase' (Finset.mem_erase.mpr ⟨hne _ _ h1, hm b (by simp)⟩),
    SparseCore.bigSep_erase' (Finset.mem_erase.mpr ⟨hne _ _ h5, Finset.mem_erase.mpr ⟨hne _ _ h2, hm c (by simp)⟩⟩),
    SparseCore.bigSep_erase' (Finset.mem_erase.mpr ⟨hne _ _ h8, Finset.mem_erase.mpr ⟨hne _ _ h6, Finset.mem_erase.mpr ⟨hne _ _ h3, hm e (by simp)⟩⟩⟩),
    SparseCore.bigSep_erase' (Finset.mem_erase.mpr ⟨hne _ _ h10, Finset.mem_erase.mpr ⟨hne _ _ h9, Finset.mem_erase.mpr ⟨hne _ _ h7, Finset.mem_erase.mpr ⟨hne _ _ h4, hm f (by simp)⟩⟩⟩⟩)]
  exact ⟨_, rfl⟩

/-- The thread's own buffers, two different ones named. -/
theorem ownBufs_two (d : Dev nD) (p : Proc τ) (a b : Ref sig p.kind) (ha : (p.devRef a).owner = .proc p) (hb : (p.devRef b).owner = .proc p) (hne : b ≠ a) :
    ∃ R : sProp 𝕄, (ownBufs (d, p) : sProp 𝕄) = iprop((∃ f, ((d, p.devRef a) : Loc nD τ sig) ↦{fullShare} f)
      ∗ (∃ f, ((d, p.devRef b) : Loc nD τ sig) ↦{fullShare} f) ∗ R) := by
  have e := SparseCore.bigSep_erase' (Φ := fun b => (iprop(∃ f, ((d, b) : Loc nD τ sig) ↦{fullShare} f) : sProp 𝕄)) (SparseCore.Cfg.mem_ownRefs_of_owner ha)
  rw [SparseCore.bigSep_erase' (Finset.mem_erase.mpr ⟨fun e => hne (Proc.devRef_injective _ e), SparseCore.Cfg.mem_ownRefs_of_owner hb⟩)] at e
  exact ⟨_, e⟩

/-! ## A buffer in two halves -/

/-- A buffer at something is its two halves, each at something. -/
theorem halves {ℓ : Loc nD τ sig} {I J : Finset (Idx ℓ)} (hd : Disjoint I J) (hu : I ∪ J = Finset.univ) :
    (iprop(∃ f, ℓ ↦{fullShare} f) : sProp 𝕄) = iprop((∃ f, ℓ ↦[I]{fullShare} f) ∗ ∃ f, ℓ ↦[J]{fullShare} f) := by
  have h : iprop(∃ f, ℓ ↦{fullShare} f) ⊣⊢ (iprop((∃ f, ℓ ↦[I]{fullShare} f) ∗ ∃ f, ℓ ↦[J]{fullShare} f) : sProp 𝕄) := by
   constructor
   · iintro ⟨%f, H⟩
     ihave H' := (Entails.of_eq (show (ℓ ↦{fullShare} f : sProp 𝕄) = ℓ ↦[I ∪ J]{fullShare} f by rw [hu])) $$ H
     ihave H2 := (pointsTo_union hd).1 $$ H'
     icases H2 with ⟨H1, H2⟩
     isplitl [H1]; · iexists f; iexact H1
     iexists f; iexact H2
   · iintro ⟨⟨%f, H1⟩, %g, H2⟩
     ihave H := (pointsTo_join (f := f) (g := g) hd) $$ [H1 H2]
     · isplitl [H1] <;> iassumption
     iexists (J.piecewise g f)
     iapply (Entails.of_eq (show (ℓ ↦[I ∪ J]{fullShare} (J.piecewise g f) : sProp 𝕄) = ℓ ↦{fullShare} (J.piecewise g f) by rw [hu])); iexact H
  exact BI.Entails.antisymm h.1 h.2

variable {n : ℕ} (E : Env F n)

/-- The elements of a slot of the numbers. -/
theorem set_aSlot (s : Fin 2) : (E.aSlot s).view.set = (Finset.univ.filter fun x : S2x1x128.Idx => (x 0).val = s.val).map E.aM.view.emb := by
  show ((E.aM.view.slice _).reshape _ _).set = _
  rw [View.set_reshape, View.set_slice]; congr 1
  ext x
  rw [Rect.mem_set_unit]
  simp only [Finset.mem_filter, Finset.mem_univ, true_and]
  constructor
  · intro h; have := h 0; simp at this; omega
  · intro h a
    match a with
    | 0 => simp; omega
    | 1 => have : (x 1).val < 1 := (x 1).isLt; simp; omega
    | 2 => have : (x 2).val < 128 := (x 2).isLt; simp; omega

/-- The elements of a slot of the rows. -/
theorem set_rSlot (s : Fin 2) : (E.rSlot s).view.set = (Finset.univ.filter fun x : S2x128x128.Idx => (x 0).val = s.val).map E.rM.view.emb := by
  show ((E.rM.view.slice _).reshape _ _).set = _
  rw [View.set_reshape, View.set_slice]; congr 1
  ext x
  rw [Rect.mem_set_unit]
  simp only [Finset.mem_filter, Finset.mem_univ, true_and]
  constructor
  · intro h; have := h 0; simp at this; omega
  · intro h a
    match a with
    | 0 => simp; omega
    | 1 => have : (x 1).val < 128 := (x 1).isLt; simp; omega
    | 2 => have : (x 2).val < 128 := (x 2).isLt; simp; omega

/-- The numbers' buffer is its two slots. -/
theorem aSlots (hA : E.aM.view.set = Finset.univ) :
    (iprop(∃ f, E.aM.view.loc E.thr ↦{fullShare} f) : sProp 𝕄) = iprop(E.aAny 0 ∗ E.aAny 1) := by
  refine halves (ℓ := E.aM.view.loc E.thr) (I := (E.aSlot 0).view.set) (J := (E.aSlot 1).view.set) ?_ ?_
  · rw [set_aSlot, set_aSlot, Finset.disjoint_map, Finset.disjoint_left]
    intro x; simp only [Finset.mem_filter, Finset.mem_univ, true_and]; intro h; rw [h]; decide
  · rw [set_aSlot, set_aSlot, ← Finset.map_union]
    refine (congrArg (Finset.map E.aM.view.emb) ?_).trans (show Finset.univ.map E.aM.view.emb = Finset.univ from hA)
    ext x; simp only [Finset.mem_union, Finset.mem_filter, Finset.mem_univ, true_and, iff_true]
    have : (x 0).val < 2 := (x 0).isLt
    show (x 0).val = 0 ∨ (x 0).val = 1
    omega

/-- The rows' buffer is its two slots. -/
theorem rSlots (hR : E.rM.view.set = Finset.univ) :
    (iprop(∃ f, E.rM.view.loc E.thr ↦{fullShare} f) : sProp 𝕄) = iprop(E.rAny 0 ∗ E.rAny 1) := by
  refine halves (ℓ := E.rM.view.loc E.thr) (I := (E.rSlot 0).view.set) (J := (E.rSlot 1).view.set) ?_ ?_
  · rw [set_rSlot, set_rSlot, Finset.disjoint_map, Finset.disjoint_left]
    intro x; simp only [Finset.mem_filter, Finset.mem_univ, true_and]; intro h; rw [h]; decide
  · rw [set_rSlot, set_rSlot, ← Finset.map_union]
    refine (congrArg (Finset.map E.rM.view.emb) ?_).trans (show Finset.univ.map E.rM.view.emb = Finset.univ from hR)
    ext x; simp only [Finset.mem_union, Finset.mem_filter, Finset.mem_univ, true_and, iff_true]
    have : (x 0).val < 2 := (x 0).isLt
    show (x 0).val = 0 ∨ (x 0).val = 1
    omega

/-! ## In and out of the gather's assertions -/

/-- Everything a tile brings, beside the output's rows: its shares of the table and the list, its two scratch buffers, its
    five semaphores at zero. -/
def kit : sProp 𝕄 :=
  iprop((E.tM.view.loc E.thr ↦[Finset.univ]{E.qT} E.fT) ∗ ((E.iM.view.loc E.thr ↦[Finset.univ]{E.qI 0} E.fI) ∗ E.iM.view.loc E.thr ↦[Finset.univ]{E.qI 1} E.fI)
    ∗ (∃ f, E.aM.view.loc E.thr ↦{fullShare} f) ∗ (∃ f, E.rM.view.loc E.thr ↦{fullShare} f)
    ∗ semVal (E.thr, .dma (E.sem5 0)) 0 ∗ semVal (E.thr, .dma (E.sem5 1)) 0 ∗ semVal (E.thr, .dma (E.sem6 0)) 0 ∗ semVal (E.thr, .dma (E.sem6 1)) 0
    ∗ semVal (E.thr, .dma E.sg.sem) 0)

/-- That is the four slots idle and the table at hand. -/
theorem kit_eq (hT : E.tM.view.set = Finset.univ) (hI : E.iM.view.set = Finset.univ) (hA : E.aM.view.set = Finset.univ) (hR : E.rM.view.set = Finset.univ) :
    kit E ⊣⊢ iprop(E.idleI (sl 0) ∗ E.idleI (sl 1) ∗ E.idleO (sl 0) ∗ E.idleO (sl 1) ∗ E.tab) := by
  rw [show sl 0 = 0 from rfl, show sl 1 = 1 from rfl]
  unfold kit Env.idleI Env.idleO Env.tab Env.lst
  rw [aSlots E hA, rSlots E hR, hT, hI]
  constructor
  · iintro ⟨HT, ⟨HI0, HI1⟩, ⟨Ha0, Ha1⟩, ⟨Hr0, Hr1⟩, H50, H51, H60, H61, Hg⟩
    isplitl [Ha0 H50 HI0]
    · isplitl [Ha0]; · iexact Ha0
      isplitl [H50]; · iexact H50
      iexact HI0
    isplitl [Ha1 H51 HI1]
    · isplitl [Ha1]; · iexact Ha1
      isplitl [H51]; · iexact H51
      iexact HI1
    isplitl [Hr0 H60]
    · isplitl [Hr0]; · iexact Hr0
      iexact H60
    isplitl [Hr1 H61]
    · isplitl [Hr1]; · iexact Hr1
      iexact H61
    isplitl [HT]; · iexact HT
    iexact Hg
  · iintro ⟨⟨Ha0, H50, HI0⟩, ⟨Ha1, H51, HI1⟩, ⟨Hr0, H60⟩, ⟨Hr1, H61⟩, HT, Hg⟩
    isplitl [HT]; · iexact HT
    isplitl [HI0 HI1]
    · isplitl [HI0]; · iexact HI0
      iexact HI1
    isplitl [Ha0 Ha1]
    · isplitl [Ha0]; · iexact Ha0
      iexact Ha1
    isplitl [Hr0 Hr1]
    · isplitl [Hr0]; · iexact Hr0
      iexact Hr1
    isplitl [H50]; · iexact H50
    isplitl [H51]; · iexact H51
    isplitl [H60]; · iexact H60
    isplitl [H61]; · iexact H61
    iexact Hg

end Cert.Proof.Tile

end
-- ==== Proof.Arith0.lean ====
/-
  What the integer chain of the first gather kernel computes: the loop's carried values before trip `t`, and at them the
  conditions, offsets and side conditions of the trip.
-/
module

public import proofs.«01_k».proof.Proof.Trip

@[expose] public section

namespace Cert.Proof.Body0

open Cert.KernelIdeal Cert.KernelIdeal.Gen
open Idealize.ShloMosaic Idealize.SL.Sem
open Cert.Proof.Tile (sl)

/-- The tile's first row of the output. -/
def base (i : grid0.Coords) : ℕ := 3200 * ((i 1).val + 16 * (i 0).val)

/-- What the loop carries before trip `t`. -/
def st (t : ℕ) : BitVec 32 × BitVec 32 × BitVec 32 × BitVec 32 × BitVec 32 :=
  (BitVec.ofNat 32 (min (t + 1) 25), BitVec.ofNat 32 t, BitVec.ofNat 32 t, BitVec.ofNat 32 (t - 1), BitVec.ofNat 32 (t % 25))

/-- The next block of numbers is fetched while one is left. -/
theorem cond1 : ∀ (i : grid0.Coords) (t : Fin k0_t1_loop.trips), k0_cond1 i t (st t.val).2.2.2.2 = 1#1 ↔ t.val + 1 < 25 := by decide +kernel
/-- Each trip waits for its block's numbers. -/
theorem cond2 : ∀ (i : grid0.Coords) (t : Fin k0_t1_loop.trips), k0_cond2 i t (st t.val).2.2.2.2 = 1#1 := by decide +kernel
/-- Each trip writes its block's rows out. -/
theorem cond5 : ∀ (i : grid0.Coords) (t : Fin k0_t1_loop.trips), k0_cond5 i t (st t.val).2.2.2.2 = 1#1 := by decide +kernel
/-- From the second trip on the block before is waited for. -/
theorem cond7 : ∀ (i : grid0.Coords) (t : Fin k0_t1_loop.trips), k0_cond7 i t (st t.val).2.2.2.2 = 1#1 ↔ 0 < t.val := by decide +kernel
/-- The trip's bounds hold at the words it carries. -/
theorem chk1 : ∀ (i : grid0.Coords) (t : Fin k0_t1_loop.trips),
    k0_chk1 i t (st t.val).1 (st t.val).2.1 (st t.val).2.2.1 (st t.val).2.2.2.1 (st t.val).2.2.2.2 := by decide +kernel
/-- The slot of the rows is in range. -/
theorem chk2 : ∀ t : Fin k0_t1_loop.trips, k0_chk2 (st t.val).2.2.1 := by decide +kernel
/-- The slot of the numbers is in range. -/
theorem chk3 : ∀ t : Fin k0_t1_loop.trips, k0_chk3 (st t.val).2.1 := by decide +kernel
/-- After the loop the last block lies in the output. -/
theorem chk5 : ∀ i : grid0.Coords, k0_chk5 i (st 25).2.2.2.2 := by decide +kernel
/-- After the loop the slot of the last block is in range. -/
theorem chk4 : k0_chk4 (st 25).2.2.2.1 := by decide +kernel

/-- The first fetch goes to slot 0 of the numbers. -/
theorem off1 : k0_off1 = ![(sl 0).val, 0, 0] := by decide +kernel
/-- It comes from the tile's first block. -/
theorem off2 : ∀ i : grid0.Coords, k0_off2 i = ![0, base i + 128 * 0] := by decide +kernel
/-- It counts on slot 0's semaphore. -/
theorem off3 : k0_off3 = ![(sl 0).val] := by decide +kernel
/-- The next fetch goes to the next trip's slot. -/
theorem off4 : ∀ t : Fin k0_t1_loop.trips, t.val + 1 < 25 → k0_off4 (st t.val).1 = ![(sl (t.val + 1)).val, 0, 0] := by decide +kernel
/-- It comes from the next block. -/
theorem off5 : ∀ (i : grid0.Coords) (t : Fin k0_t1_loop.trips), t.val + 1 < 25 → k0_off5 i (st t.val).2.2.2.2 = ![0, base i + 128 * (t.val + 1)] := by decide +kernel
/-- It counts on the next slot's semaphore. -/
theorem off6 : ∀ t : Fin k0_t1_loop.trips, t.val + 1 < 25 → k0_off6 (st t.val).1 = ![(sl (t.val + 1)).val] := by decide +kernel
/-- The wait for the numbers is for the trip's slot, -/
theorem off7 : ∀ t : Fin k0_t1_loop.trips, k0_off7 (st t.val).2.1 = ![(sl t.val).val, 0, 0] := by decide +kernel
/-- on its semaphore. -/
theorem off9 : ∀ t : Fin k0_t1_loop.trips, k0_off9 (st t.val).2.1 = ![(sl t.val).val] := by decide +kernel
/-- The gathered rows land in the trip's slot. -/
theorem off10 : ∀ t : Fin k0_t1_loop.trips, k0_off10 (st t.val).2.2.1 = ![(sl t.val).val, 0, 0] := by decide +kernel
/-- The numbers are read from the trip's slot. -/
theorem off11 : ∀ t : Fin k0_t1_loop.trips, k0_off11 (st t.val).2.1 = ![(sl t.val).val, 0, 0] := by decide +kernel
/-- The rows are written out of the trip's slot, -/
theorem off12 : ∀ t : Fin k0_t1_loop.trips, k0_off12 (st t.val).2.2.1 = ![(sl t.val).val, 0, 0] := by decide +kernel
/-- to the trip's block of the output, -/
theorem off13 : ∀ (i : grid0.Coords) (t : Fin k0_t1_loop.trips), k0_off13 i (st t.val).2.2.2.2 = ![base i + 128 * t.val, 0] := by decide +kernel
/-- on the slot's semaphore. -/
theorem off14 : ∀ t : Fin k0_t1_loop.trips, k0_off14 (st t.val).2.2.1 = ![(sl t.val).val] := by decide +kernel
/-- The wait for the block before is on the other slot. -/
theorem off17 : ∀ t : Fin k0_t1_loop.trips, 0 < t.val → k0_off17 (st t.val).2.2.2.1 = ![(sl (t.val + 1)).val] := by decide +kernel
/-- The last wait is on the slot of the last block. -/
theorem off20 : k0_off20 (st 25).2.2.2.1 = ![(sl 26).val] := by decide +kernel
/-- A tile's blocks lie in the output. -/
theorem base_le : ∀ i : grid0.Coords, base i + 128 * 25 ≤ 102400 := by decide +kernel

/-- The number of the next block, back to the first after the last; and of the one before. -/
def nx (a : BitVec 32) : BitVec 32 :=
  Scalar.select (Scalar.cmpi .eq (Scalar.select 1#1 (Scalar.addi a 1#32) a) 25#32) 0#32 (Scalar.select 1#1 (Scalar.addi a 1#32) a)
/-- The number of the block before, back to the last from the first. -/
def pr (a : BitVec 32) : BitVec 32 :=
  Scalar.select (Scalar.cmpi .eq (Scalar.select 1#1 (Scalar.subi a 1#32) a) 4294967295#32) 24#32 (Scalar.select 1#1 (Scalar.subi a 1#32) a)
/-- The number, among all blocks, of the tile's first. -/
def v4 (i : grid0.Coords) : BitVec 32 :=
  Scalar.muli (Scalar.addi (Scalar.addi 0#32 (Scalar.muli (BitVec.ofNat 32 (i 1).val) 1#32)) (Scalar.muli (BitVec.ofNat 32 (i 0).val) 16#32)) 25#32
/-- Whether two blocks differ. -/
def ne (i : grid0.Coords) (a b : BitVec 32) : BitVec 1 := Scalar.cmpi .ne (Scalar.addi a (v4 i)) (Scalar.addi b (v4 i))

/-- What the trip carries on. -/
def step (i : grid0.Coords) (t : ℕ) (s : BitVec 32 × BitVec 32 × BitVec 32 × BitVec 32 × BitVec 32) : BitVec 32 × BitVec 32 × BitVec 32 × BitVec 32 × BitVec 32 :=
  (Scalar.select (Scalar.andi (Scalar.andi (ne i s.2.2.2.2 (nx s.2.2.2.2)) (Scalar.xori (Scalar.cmpi .sge (Scf.iv 0#32 1#32 t) 24#32) 1#1)) 1#1) (Scalar.addi s.1 1#32) s.1,
   Scalar.select (Scalar.ori (ne i s.2.2.2.2 (nx s.2.2.2.2)) (Scalar.cmpi .eq (Scf.iv 0#32 1#32 t) 24#32)) (Scalar.addi s.2.1 1#32) s.2.1,
   Scalar.select (Scalar.andi (Scalar.ori (ne i s.2.2.2.2 (nx s.2.2.2.2)) (Scalar.cmpi .eq (Scf.iv 0#32 1#32 t) 24#32)) 1#1) (Scalar.addi s.2.2.1 1#32) s.2.2.1,
   Scalar.select (Scalar.andi (Scalar.andi (ne i s.2.2.2.2 (pr s.2.2.2.2)) (Scalar.xori (Scalar.cmpi .eq (Scf.iv 0#32 1#32 t) 0#32) 1#1)) 1#1) (Scalar.addi s.2.2.2.1 1#32) s.2.2.2.1,
   nx s.2.2.2.2)
/-- A trip carries on what the next one is stated with. -/
theorem next : ∀ (i : grid0.Coords) (t : Fin k0_t1_loop.trips), step i t.val (st t.val) = st (t.val + 1) := by decide +kernel

end Cert.Proof.Body0
-- ==== Proof.Body0.lean ====
/-
  The first gather kernel's body on one tile.
-/
module

public import proofs.«01_k».proof.Proof.Arith0

@[expose] public section

noncomputable section

namespace Cert.Proof.Body0

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Tile

variable {F : FTy → Type} [FloatOps F] [Named F]

local notation "𝕄" => MT nD τ sig (HIx 2) (Elt F) ℕ UU ℕ

variable (d : Dev nD) (i : grid0.Coords)
  (tM : Memref sig .scVector .hbm S100000x128 .f32) (htM : tM.IsWhole) (iM : Memref sig .scVector .hbm S1x102400 .i32) (hiM : iM.IsWhole)
  (oM : Memref sig .scVector .hbm S102400x128 .f32) (hoM : oM.IsWhole)
  (aM : Memref sig .scVector .vmem S2x1x128 .i32) (haM : aM.IsWhole) (s5 : DmaSems sig S2)
  (rM : Memref sig .scVector .vmem S2x128x128 .f32) (hrM : rM.IsWhole) (s6 : DmaSems sig S2) (sg : DmaSems sig S_)
  (fT : Buf (Elt F) (tM.view.loc (V d ((i 0).castLE hcore0) ((i 1).castLE hsub0)))) (fI : Buf (Elt F) (iM.view.loc (V d ((i 0).castLE hcore0) ((i 1).castLE hsub0))))
  (fO : Buf (Elt F) (oM.view.loc (V d ((i 0).castLE hcore0) ((i 1).castLE hsub0)))) (qT : PosShare TreeShare) (qI : Fin 2 → PosShare TreeShare)

/-- The tile's operands. -/
abbrev env : Env F 102400 :=
  { d := d, c := (i 0).castLE hcore0, j := (i 1).castLE hsub0, tM := tM, iM := iM, oM := oM, aM := aM, rM := rM, s5 := s5, s6 := s6, sg := sg,
    fT := fT, fI := fI, fO := fO, qT := qT, qI := qI }

local notation "EE" => env (F := F) d i tM iM oM aM s5 rM s6 sg fT fI fO qT qI

set_option maxHeartbeats 4000000 in
/-- The tile's program writes its rows and hands back all it held. -/
theorem body (hpre : ∀ y, (Env.words EE y).toNat < 100000)
    (hN : ∀ (s : Fin 2) (h : S100000x128.Gathers 0 S128x128), ∑ j, ((Env.rSlot EE s).slice (S128x128.rowRect h.axis' j) (S128x128.stride_rowRect h.axis' j)).view.dmaCredit = (Env.rSlot EE s).view.dmaCredit)
    (O : CellTallies nD τ sig (HIx 2)) (W : Waits sig (HIx 2)) :
    iprop(Env.idleI EE (sl 0) ∗ Env.idleI EE (sl 1) ∗ Env.idleO EE (sl 0) ∗ Env.idleO EE (sl 1) ∗ Env.tab EE ∗ Env.ow EE O W
        ∗ Transfers.MayWaits (Env.thr EE) (default : HIx 2) O
        ∗ (oM.view.loc (Env.thr EE) ↦[Env.rowsIn EE (base i) (base i + 128 * 25)]{fullShare} fO))
      ⊢ wp frame (wpE (defs₀ (F := F)) 𝒱₀ (Env.thr EE) none) Set.univ
          (cc0_gather_kernel i tM htM iM hiM oM hoM aM haM s5 rM hrM s6 sg)
          fun _ => iprop(Env.idleI EE (sl 0) ∗ Env.idleI EE (sl 1) ∗ Env.idleO EE (sl 0) ∗ Env.idleO EE (sl 1) ∗ Env.tab EE ∗ Env.ow EE O W
        ∗ (oM.view.loc (Env.thr EE) ↦[Env.rowsIn EE (base i) (base i + 128 * 25)]{fullShare} Env.fG EE)) := by
  have hB := base_le i
  unfold cc0_gather_kernel k0_part3 k0_part4
  simp only [wp_bind, wp_pure]
  iintro ⟨Ha0, Ha1, Hr0, Hr1, Ht, HO, #Hmw, Ho⟩
  iapply (wp_issueI EE (sl 0) (base i + 128 * 0) (by omega) off1 (off2 i) off3) $$ Ha0
  iintro Hf
  imodintro
  iapply (Scf.wp_for _ _ _ _ _ _ _ _ _ (I := fun t acc => iprop(inv EE (base i) 25 O W t ∗ ⌜acc = st t⌝)) ?_)
  · intro t acc
    iintro ⟨H, %hacc⟩
    subst hacc
    unfold k0_part1 k0_part2
    simp only [wp_bind, wp_pure]
    iapply (assume_lift (chk3 t))
    iapply (assume_lift (chk2 t))
    iapply (assume_lift (chk1 i t))
    unfold Tile.inv
    icases H with ⟨Hn, Ha, Ho1, Ho0, Ht, HO, #Hmw, Hdone, Htodo⟩
    have ht : t.val < 25 := lt_of_lt_of_le t.isLt (by decide)
    ihave Hn := (Entails.of_eq (flyI_nums EE ht).symm) $$ Hn
    -- the next block's numbers
    iapply (wp_cond (cond1 i t) (R := nums EE (base i) 25 (t.val + 1) (sl (t.val + 1)))
      (fun hφ h Q' => by
        rw [← flyI_nums EE hφ]
        exact wp_issueI EE (sl (t.val + 1)) (base i + 128 * (t.val + 1)) (by omega) (off4 t hφ) (off5 i t hφ) (off6 t hφ))
      (fun hφ => idleI_nums_of_not EE hφ)) $$ Ha
    iintro Hn'
    iapply pure_end
    -- this block's numbers have landed; its rows
    iapply (wp_cond (iff_true_intro (cond2 i t)) (fun _ h Q' => wp_waitI EE (sl t.val) (base i + 128 * t.val) (off7 t) (off9 t) O W)
      (fun h => absurd trivial h)) $$ [Hn HO]
    · isplitl [Hn]; · iexact Hn
      isplitl [HO]; · iexact HO
      iexact Hmw
    iintro ⟨Hland, HO⟩
    iapply same_cond
    iapply bind_two
    iapply (wp_gather EE (sl t.val) (sl t.val) (base i + 128 * t.val) (by omega) hpre (off10 t) (off11 t) (hN _) O W) $$ [Hland Ho0 Ht HO]
    · isplitl [Hland]; · iexact Hland
      isplitl [Ho0]; · iexact Ho0
      isplitl [Ht]; · iexact Ht
      isplitl [HO]; · iexact HO
      iexact Hmw
    iintro ⟨Ha, Hrow, Ht, HO⟩
    iapply same_cond
    iapply pure_end
    -- the rows go to the output
    ihave Htodo := (Entails.of_eq (rowsIn_split EE (a := base i + 128 * t.val) (b := base i + 128 * t.val + 128) (c := base i + 128 * 25) (by omega) (by omega) fO)) $$ Htodo
    icases Htodo with ⟨Hnow, Htodo⟩
    iapply (wp_cond (iff_true_intro (cond5 i t)) (fun _ h Q' => wp_issueO EE (sl t.val) (base i + 128 * t.val) (by omega) (off12 t) (off13 i t) (off14 t))
      (fun h => absurd trivial h)) $$ [Hrow Hnow]
    · isplitl [Hrow]; · iexact Hrow
      iexact Hnow
    iintro Hfly
    iapply same_cond
    -- the previous block's rows have landed
    iapply (wp_cond (cond7 i t)
      (A := iprop(outs EE (base i) t.val (sl (t.val + 1)) ∗ Env.ow EE O W ∗ Transfers.MayWaits (Env.thr EE) (default : HIx 2) O))
      (R := iprop(Env.idleO EE (sl (t.val + 1))
        ∗ (oM.view.loc (Env.thr EE) ↦[Env.rowsIn EE (base i + 128 * (t.val - 1)) (base i + 128 * t.val)]{fullShare} Env.fG EE) ∗ Env.ow EE O W))
      (fun hφ h Q' => by
        rw [show outs EE (base i) t.val (sl (t.val + 1)) = _ from (flyO_outs EE hφ).symm, show base i + 128 * t.val = base i + 128 * (t.val - 1) + 128 by omega]
        exact wp_waitO EE (sl (t.val + 1)) (base i + 128 * (t.val - 1)) (off17 t hφ) O W)
      (fun hφ => by
        rw [show t.val = 0 by omega, outs_zero, rowsIn_empty, pointsTo_empty]
        iintro ⟨H, HO, -⟩
        isplitl [H]; · iexact H
        isplitr; · iempintro
        iexact HO)) $$ [Ho1 HO]
    · isplitl [Ho1]; · iexact Ho1
      isplitl [HO]; · iexact HO
      iexact Hmw
    iintro ⟨Ho1, Hprev, HO⟩
    iapply pure_end
    isplitl
    · rw [← sl_add_two t.val]
      isplitl [Hn']; · iexact Hn'
      isplitl [Ha]; · iexact Ha
      isplitl [Hfly]; · iapply (Entails.of_eq (flyO_outs EE (t := t.val + 1) (Nat.succ_pos _))); iexact Hfly
      isplitl [Ho1]; · iexact Ho1
      isplitl [Ht]; · iexact Ht
      isplitl [HO]; · iexact HO
      isplitr; · iexact Hmw
      isplitl [Hdone Hprev]
      · iapply (Entails.of_eq (rowsIn_split EE (a := base i) (b := base i + 128 * (t.val - 1)) (c := base i + 128 * t.val) (by omega) (by omega) (Env.fG EE)).symm)
        isplitl [Hdone]; · iexact Hdone
        iexact Hprev
      · iexact Htodo
    · ipureintro
      exact next i t
  · isplitl [Hf Ha1 Hr0 Hr1 Ht HO Ho]
    · isplitl
      · iapply (inv_first EE O W (by decide))
        isplitl [Hf]; · iexact Hf
        isplitl [Ha1]; · iexact Ha1
        isplitl [Hr1]; · iexact Hr1
        isplitl [Hr0]; · iexact Hr0
        isplitl [Ht]; · iexact Ht
        isplitl [HO]; · iexact HO
        isplitr; · iexact Hmw
        iexact Ho
      · ipureintro; rfl
    · iintro %acc ⟨H, %hacc⟩
      subst hacc
      iapply (assume_lift (chk5 i))
      iapply (assume_lift chk4)
      imodintro
      ihave H := (inv_last EE O W (by decide) (show Scf.trips k0_t1_loop.lb k0_t1_loop.ub k0_t1_loop.st = 25 by decide)) $$ H
      icases H with ⟨Ha1, Ha0, Ho0, Hr1, Ht, HO, Hdone⟩
      iapply (wp_waitO EE (sl 26) (base i + 128 * 24) off20 O W) $$ [Ho0 HO]
      · isplitl [Ho0]; · iexact Ho0
        isplitl [HO]; · iexact HO
        iexact Hmw
      iintro ⟨Hr0, Hlast, HO⟩
      imodintro
      isplitl [Ha0]; · iexact Ha0
      isplitl [Ha1]; · iexact Ha1
      isplitl [Hr0]; · iexact Hr0
      isplitl [Hr1]; · iexact Hr1
      isplitl [Ht]; · iexact Ht
      isplitl [HO]; · iexact HO
      iapply (Entails.of_eq (rowsIn_split EE (a := base i) (b := base i + 128 * 24) (c := base i + 128 * 25) (by omega) (by omega) (Env.fG EE)).symm)
      isplitl [Hdone]; · iexact Hdone
      iexact Hlast

end Cert.Proof.Body0

end
-- ==== Proof.Arith1.lean ====
/-
  What the integer chain of the second gather kernel computes: the loop's carried values before trip `t`, and at them the
  conditions, offsets and side conditions of the trip.
-/
module

public import proofs.«01_k».proof.Proof.Trip

@[expose] public section

namespace Cert.Proof.Body1

open Cert.KernelIdeal Cert.KernelIdeal.Gen
open Idealize.ShloMosaic Idealize.SL.Sem
open Cert.Proof.Tile (sl)

/-- The tile's first row of the output. -/
def base (i : grid1.Coords) : ℕ := 6400 * ((i 1).val + 16 * (i 0).val)

/-- What the loop carries before trip `t`. -/
def st (t : ℕ) : BitVec 32 × BitVec 32 × BitVec 32 × BitVec 32 × BitVec 32 :=
  (BitVec.ofNat 32 (min (t + 1) 50), BitVec.ofNat 32 t, BitVec.ofNat 32 t, BitVec.ofNat 32 (t - 1), BitVec.ofNat 32 (t % 50))

/-- The next block of numbers is fetched while one is left. -/
theorem cond1 : ∀ (i : grid1.Coords) (t : Fin k1_t1_loop.trips), k1_cond1 i t (st t.val).2.2.2.2 = 1#1 ↔ t.val + 1 < 50 := by decide +kernel
/-- Each trip waits for its block's numbers. -/
theorem cond2 : ∀ (i : grid1.Coords) (t : Fin k1_t1_loop.trips), k1_cond2 i t (st t.val).2.2.2.2 = 1#1 := by decide +kernel
/-- Each trip writes its block's rows out. -/
theorem cond5 : ∀ (i : grid1.Coords) (t : Fin k1_t1_loop.trips), k1_cond5 i t (st t.val).2.2.2.2 = 1#1 := by decide +kernel
/-- From the second trip on the block before is waited for. -/
theorem cond7 : ∀ (i : grid1.Coords) (t : Fin k1_t1_loop.trips), k1_cond7 i t (st t.val).2.2.2.2 = 1#1 ↔ 0 < t.val := by decide +kernel
/-- The trip's bounds hold at the words it carries. -/
theorem chk1 : ∀ (i : grid1.Coords) (t : Fin k1_t1_loop.trips),
    k1_chk1 i t (st t.val).1 (st t.val).2.1 (st t.val).2.2.1 (st t.val).2.2.2.1 (st t.val).2.2.2.2 := by decide +kernel
/-- The slot of the rows is in range. -/
theorem chk2 : ∀ t : Fin k1_t1_loop.trips, k1_chk2 (st t.val).2.2.1 := by decide +kernel
/-- The slot of the numbers is in range. -/
theorem chk3 : ∀ t : Fin k1_t1_loop.trips, k1_chk3 (st t.val).2.1 := by decide +kernel
/-- After the loop the last block lies in the output. -/
theorem chk5 : ∀ i : grid1.Coords, k1_chk5 i (st 50).2.2.2.2 := by decide +kernel
/-- After the loop the slot of the last block is in range. -/
theorem chk4 : k1_chk4 (st 50).2.2.2.1 := by decide +kernel

/-- The first fetch goes to slot 0 of the numbers. -/
theorem off1 : k1_off1 = ![(sl 0).val, 0, 0] := by decide +kernel
/-- It comes from the tile's first block. -/
theorem off2 : ∀ i : grid1.Coords, k1_off2 i = ![0, base i + 128 * 0] := by decide +kernel
/-- It counts on slot 0's semaphore. -/
theorem off3 : k1_off3 = ![(sl 0).val] := by decide +kernel
/-- The next fetch goes to the next trip's slot. -/
theorem off4 : ∀ t : Fin k1_t1_loop.trips, t.val + 1 < 50 → k1_off4 (st t.val).1 = ![(sl (t.val + 1)).val, 0, 0] := by decide +kernel
/-- It comes from the next block. -/
theorem off5 : ∀ (i : grid1.Coords) (t : Fin k1_t1_loop.trips), t.val + 1 < 50 → k1_off5 i (st t.val).2.2.2.2 = ![0, base i + 128 * (t.val + 1)] := by decide +kernel
/-- It counts on the next slot's semaphore. -/
theorem off6 : ∀ t : Fin k1_t1_loop.trips, t.val + 1 < 50 → k1_off6 (st t.val).1 = ![(sl (t.val + 1)).val] := by decide +kernel
/-- The wait for the numbers is for the trip's slot, -/
theorem off7 : ∀ t : Fin k1_t1_loop.trips, k1_off7 (st t.val).2.1 = ![(sl t.val).val, 0, 0] := by decide +kernel
/-- on its semaphore. -/
theorem off9 : ∀ t : Fin k1_t1_loop.trips, k1_off9 (st t.val).2.1 = ![(sl t.val).val] := by decide +kernel
/-- The gathered rows land in the trip's slot. -/
theorem off10 : ∀ t : Fin k1_t1_loop.trips, k1_off10 (st t.val).2.2.1 = ![(sl t.val).val, 0, 0] := by decide +kernel
/-- The numbers are read from the trip's slot. -/
theorem off11 : ∀ t : Fin k1_t1_loop.trips, k1_off11 (st t.val).2.1 = ![(sl t.val).val, 0, 0] := by decide +kernel
/-- The rows are written out of the trip's slot, -/
theorem off12 : ∀ t : Fin k1_t1_loop.trips, k1_off12 (st t.val).2.2.1 = ![(sl t.val).val, 0, 0] := by decide +kernel
/-- to the trip's block of the output, -/
theorem off13 : ∀ (i : grid1.Coords) (t : Fin k1_t1_loop.trips), k1_off13 i (st t.val).2.2.2.2 = ![base i + 128 * t.val, 0] := by decide +kernel
/-- on the slot's semaphore. -/
theorem off14 : ∀ t : Fin k1_t1_loop.trips, k1_off14 (st t.val).2.2.1 = ![(sl t.val).val] := by decide +kernel
/-- The wait for the block before is on the other slot. -/
theorem off17 : ∀ t : Fin k1_t1_loop.trips, 0 < t.val → k1_off17 (st t.val).2.2.2.1 = ![(sl (t.val + 1)).val] := by decide +kernel
/-- The last wait is on the slot of the last block. -/
theorem off20 : k1_off20 (st 50).2.2.2.1 = ![(sl 51).val] := by decide +kernel
/-- A tile's blocks lie in the output. -/
theorem base_le : ∀ i : grid1.Coords, base i + 128 * 50 ≤ 204800 := by decide +kernel

/-- The number of the next block, back to the first after the last; and of the one before. -/
def nx (a : BitVec 32) : BitVec 32 :=
  Scalar.select (Scalar.cmpi .eq (Scalar.select 1#1 (Scalar.addi a 1#32) a) 50#32) 0#32 (Scalar.select 1#1 (Scalar.addi a 1#32) a)
/-- The number of the block before, back to the last from the first. -/
def pr (a : BitVec 32) : BitVec 32 :=
  Scalar.select (Scalar.cmpi .eq (Scalar.select 1#1 (Scalar.subi a 1#32) a) 4294967295#32) 49#32 (Scalar.select 1#1 (Scalar.subi a 1#32) a)
/-- The number, among all blocks, of the tile's first. -/
def v4 (i : grid1.Coords) : BitVec 32 :=
  Scalar.muli (Scalar.addi (Scalar.addi 0#32 (Scalar.muli (BitVec.ofNat 32 (i 1).val) 1#32)) (Scalar.muli (BitVec.ofNat 32 (i 0).val) 16#32)) 50#32
/-- Whether two blocks differ. -/
def ne (i : grid1.Coords) (a b : BitVec 32) : BitVec 1 := Scalar.cmpi .ne (Scalar.addi a (v4 i)) (Scalar.addi b (v4 i))

/-- What the trip carries on. -/
def step (i : grid1.Coords) (t : ℕ) (s : BitVec 32 × BitVec 32 × BitVec 32 × BitVec 32 × BitVec 32) : BitVec 32 × BitVec 32 × BitVec 32 × BitVec 32 × BitVec 32 :=
  (Scalar.select (Scalar.andi (Scalar.andi (ne i s.2.2.2.2 (nx s.2.2.2.2)) (Scalar.xori (Scalar.cmpi .sge (Scf.iv 0#32 1#32 t) 49#32) 1#1)) 1#1) (Scalar.addi s.1 1#32) s.1,
   Scalar.select (Scalar.ori (ne i s.2.2.2.2 (nx s.2.2.2.2)) (Scalar.cmpi .eq (Scf.iv 0#32 1#32 t) 49#32)) (Scalar.addi s.2.1 1#32) s.2.1,
   Scalar.select (Scalar.andi (Scalar.ori (ne i s.2.2.2.2 (nx s.2.2.2.2)) (Scalar.cmpi .eq (Scf.iv 0#32 1#32 t) 49#32)) 1#1) (Scalar.addi s.2.2.1 1#32) s.2.2.1,
   Scalar.select (Scalar.andi (Scalar.andi (ne i s.2.2.2.2 (pr s.2.2.2.2)) (Scalar.xori (Scalar.cmpi .eq (Scf.iv 0#32 1#32 t) 0#32) 1#1)) 1#1) (Scalar.addi s.2.2.2.1 1#32) s.2.2.2.1,
   nx s.2.2.2.2)
/-- A trip carries on what the next one is stated with. -/
theorem next : ∀ (i : grid1.Coords) (t : Fin k1_t1_loop.trips), step i t.val (st t.val) = st (t.val + 1) := by decide +kernel

end Cert.Proof.Body1
-- ==== Proof.Body1.lean ====
/-
  The second gather kernel's body on one tile.
-/
module

public import proofs.«01_k».proof.Proof.Arith1

@[expose] public section

noncomputable section

namespace Cert.Proof.Body1

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Tile

variable {F : FTy → Type} [FloatOps F] [Named F]

local notation "𝕄" => MT nD τ sig (HIx 2) (Elt F) ℕ UU ℕ

variable (d : Dev nD) (i : grid1.Coords)
  (tM : Memref sig .scVector .hbm S100000x128 .f32) (htM : tM.IsWhole) (iM : Memref sig .scVector .hbm S1x204800 .i32) (hiM : iM.IsWhole)
  (oM : Memref sig .scVector .hbm S204800x128 .f32) (hoM : oM.IsWhole)
  (aM : Memref sig .scVector .vmem S2x1x128 .i32) (haM : aM.IsWhole) (s5 : DmaSems sig S2)
  (rM : Memref sig .scVector .vmem S2x128x128 .f32) (hrM : rM.IsWhole) (s6 : DmaSems sig S2) (sg : DmaSems sig S_)
  (fT : Buf (Elt F) (tM.view.loc (V d ((i 0).castLE hcore0) ((i 1).castLE hsub0)))) (fI : Buf (Elt F) (iM.view.loc (V d ((i 0).castLE hcore0) ((i 1).castLE hsub0))))
  (fO : Buf (Elt F) (oM.view.loc (V d ((i 0).castLE hcore0) ((i 1).castLE hsub0)))) (qT : PosShare TreeShare) (qI : Fin 2 → PosShare TreeShare)

/-- The tile's operands. -/
abbrev env : Env F 204800 :=
  { d := d, c := (i 0).castLE hcore0, j := (i 1).castLE hsub0, tM := tM, iM := iM, oM := oM, aM := aM, rM := rM, s5 := s5, s6 := s6, sg := sg,
    fT := fT, fI := fI, fO := fO, qT := qT, qI := qI }

local notation "EE" => env (F := F) d i tM iM oM aM s5 rM s6 sg fT fI fO qT qI

set_option maxHeartbeats 4000000 in
/-- The tile's program writes its rows and hands back all it held. -/
theorem body (hpre : ∀ y, (Env.words EE y).toNat < 100000)
    (hN : ∀ (s : Fin 2) (h : S100000x128.Gathers 0 S128x128), ∑ j, ((Env.rSlot EE s).slice (S128x128.rowRect h.axis' j) (S128x128.stride_rowRect h.axis' j)).view.dmaCredit = (Env.rSlot EE s).view.dmaCredit)
    (O : CellTallies nD τ sig (HIx 2)) (W : Waits sig (HIx 2)) :
    iprop(Env.idleI EE (sl 0) ∗ Env.idleI EE (sl 1) ∗ Env.idleO EE (sl 0) ∗ Env.idleO EE (sl 1) ∗ Env.tab EE ∗ Env.ow EE O W
        ∗ Transfers.MayWaits (Env.thr EE) (default : HIx 2) O
        ∗ (oM.view.loc (Env.thr EE) ↦[Env.rowsIn EE (base i) (base i + 128 * 50)]{fullShare} fO))
      ⊢ wp frame (wpE (defs₀ (F := F)) 𝒱₀ (Env.thr EE) none) Set.univ
          (cc1_gather_kernel i tM htM iM hiM oM hoM aM haM s5 rM hrM s6 sg)
          fun _ => iprop(Env.idleI EE (sl 0) ∗ Env.idleI EE (sl 1) ∗ Env.idleO EE (sl 0) ∗ Env.idleO EE (sl 1) ∗ Env.tab EE ∗ Env.ow EE O W
        ∗ (oM.view.loc (Env.thr EE) ↦[Env.rowsIn EE (base i) (base i + 128 * 50)]{fullShare} Env.fG EE)) := by
  have hB := base_le i
  unfold cc1_gather_kernel k1_part3 k1_part4
  simp only [wp_bind, wp_pure]
  iintro ⟨Ha0, Ha1, Hr0, Hr1, Ht, HO, #Hmw, Ho⟩
  iapply (wp_issueI EE (sl 0) (base i + 128 * 0) (by omega) off1 (off2 i) off3) $$ Ha0
  iintro Hf
  imodintro
  iapply (Scf.wp_for _ _ _ _ _ _ _ _ _ (I := fun t acc => iprop(inv EE (base i) 50 O W t ∗ ⌜acc = st t⌝)) ?_)
  · intro t acc
    iintro ⟨H, %hacc⟩
    subst hacc
    unfold k1_part1 k1_part2
    simp only [wp_bind, wp_pure]
    iapply (assume_lift (chk3 t))
    iapply (assume_lift (chk2 t))
    iapply (assume_lift (chk1 i t))
    unfold Tile.inv
    icases H with ⟨Hn, Ha, Ho1, Ho0, Ht, HO, #Hmw, Hdone, Htodo⟩
    have ht : t.val < 50 := lt_of_lt_of_le t.isLt (by decide)
    ihave Hn := (Entails.of_eq (flyI_nums EE ht).symm) $$ Hn
    -- the next block's numbers
    iapply (wp_cond (cond1 i t) (R := nums EE (base i) 50 (t.val + 1) (sl (t.val + 1)))
      (fun hφ h Q' => by
        rw [← flyI_nums EE hφ]
        exact wp_issueI EE (sl (t.val + 1)) (base i + 128 * (t.val + 1)) (by omega) (off4 t hφ) (off5 i t hφ) (off6 t hφ))
      (fun hφ => idleI_nums_of_not EE hφ)) $$ Ha
    iintro Hn'
    iapply pure_end
    -- this block's numbers have landed; its rows
    iapply (wp_cond (iff_true_intro (cond2 i t)) (fun _ h Q' => wp_waitI EE (sl t.val) (base i + 128 * t.val) (off7 t) (off9 t) O W)
      (fun h => absurd trivial h)) $$ [Hn HO]
    · isplitl [Hn]; · iexact Hn
      isplitl [HO]; · iexact HO
      iexact Hmw
    iintro ⟨Hland, HO⟩
    iapply same_cond
    iapply bind_two
    iapply (wp_gather EE (sl t.val) (sl t.val) (base i + 128 * t.val) (by omega) hpre (off10 t) (off11 t) (hN _) O W) $$ [Hland Ho0 Ht HO]
    · isplitl [Hland]; · iexact Hland
      isplitl [Ho0]; · iexact Ho0
      isplitl [Ht]; · iexact Ht
      isplitl [HO]; · iexact HO
      iexact Hmw
    iintro ⟨Ha, Hrow, Ht, HO⟩
    iapply same_cond
    iapply pure_end
    -- the rows go to the output
    ihave Htodo := (Entails.of_eq (rowsIn_split EE (a := base i + 128 * t.val) (b := base i + 128 * t.val + 128) (c := base i + 128 * 50) (by omega) (by omega) fO)) $$ Htodo
    icases Htodo with ⟨Hnow, Htodo⟩
    iapply (wp_cond (iff_true_intro (cond5 i t)) (fun _ h Q' => wp_issueO EE (sl t.val) (base i + 128 * t.val) (by omega) (off12 t) (off13 i t) (off14 t))
      (fun h => absurd trivial h)) $$ [Hrow Hnow]
    · isplitl [Hrow]; · iexact Hrow
      iexact Hnow
    iintro Hfly
    iapply same_cond
    -- the previous block's rows have landed
    iapply (wp_cond (cond7 i t)
      (A := iprop(outs EE (base i) t.val (sl (t.val + 1)) ∗ Env.ow EE O W ∗ Transfers.MayWaits (Env.thr EE) (default : HIx 2) O))
      (R := iprop(Env.idleO EE (sl (t.val + 1))
        ∗ (oM.view.loc (Env.thr EE) ↦[Env.rowsIn EE (base i + 128 * (t.val - 1)) (base i + 128 * t.val)]{fullShare} Env.fG EE) ∗ Env.ow EE O W))
      (fun hφ h Q' => by
        rw [show outs EE (base i) t.val (sl (t.val + 1)) = _ from (flyO_outs EE hφ).symm, show base i + 128 * t.val = base i + 128 * (t.val - 1) + 128 by omega]
        exact wp_waitO EE (sl (t.val + 1)) (base i + 128 * (t.val - 1)) (off17 t hφ) O W)
      (fun hφ => by
        rw [show t.val = 0 by omega, outs_zero, rowsIn_empty, pointsTo_empty]
        iintro ⟨H, HO, -⟩
        isplitl [H]; · iexact H
        isplitr; · iempintro
        iexact HO)) $$ [Ho1 HO]
    · isplitl [Ho1]; · iexact Ho1
      isplitl [HO]; · iexact HO
      iexact Hmw
    iintro ⟨Ho1, Hprev, HO⟩
    iapply pure_end
    isplitl
    · rw [← sl_add_two t.val]
      isplitl [Hn']; · iexact Hn'
      isplitl [Ha]; · iexact Ha
      isplitl [Hfly]; · iapply (Entails.of_eq (flyO_outs EE (t := t.val + 1) (Nat.succ_pos _))); iexact Hfly
      isplitl [Ho1]; · iexact Ho1
      isplitl [Ht]; · iexact Ht
      isplitl [HO]; · iexact HO
      isplitr; · iexact Hmw
      isplitl [Hdone Hprev]
      · iapply (Entails.of_eq (rowsIn_split EE (a := base i) (b := base i + 128 * (t.val - 1)) (c := base i + 128 * t.val) (by omega) (by omega) (Env.fG EE)).symm)
        isplitl [Hdone]; · iexact Hdone
        iexact Hprev
      · iexact Htodo
    · ipureintro
      exact next i t
  · isplitl [Hf Ha1 Hr0 Hr1 Ht HO Ho]
    · isplitl
      · iapply (inv_first EE O W (by decide))
        isplitl [Hf]; · iexact Hf
        isplitl [Ha1]; · iexact Ha1
        isplitl [Hr1]; · iexact Hr1
        isplitl [Hr0]; · iexact Hr0
        isplitl [Ht]; · iexact Ht
        isplitl [HO]; · iexact HO
        isplitr; · iexact Hmw
        iexact Ho
      · ipureintro; rfl
    · iintro %acc ⟨H, %hacc⟩
      subst hacc
      iapply (assume_lift (chk5 i))
      iapply (assume_lift chk4)
      imodintro
      ihave H := (inv_last EE O W (by decide) (show Scf.trips k1_t1_loop.lb k1_t1_loop.ub k1_t1_loop.st = 50 by decide)) $$ H
      icases H with ⟨Ha0, Ha1, Ho1, Hr0, Ht, HO, Hdone⟩
      iapply (wp_waitO EE (sl 51) (base i + 128 * 49) off20 O W) $$ [Ho1 HO]
      · isplitl [Ho1]; · iexact Ho1
        isplitl [HO]; · iexact HO
        iexact Hmw
      iintro ⟨Hr1, Hlast, HO⟩
      imodintro
      isplitl [Ha0]; · iexact Ha0
      isplitl [Ha1]; · iexact Ha1
      isplitl [Hr0]; · iexact Hr0
      isplitl [Hr1]; · iexact Hr1
      isplitl [Ht]; · iexact Ht
      isplitl [HO]; · iexact HO
      iapply (Entails.of_eq (rowsIn_split EE (a := base i) (b := base i + 128 * 49) (c := base i + 128 * 50) (by omega) (by omega) (Env.fG EE)).symm)
      isplitl [Hdone]; · iexact Hdone
      iexact Hlast

end Cert.Proof.Body1

end
-- ==== Proof.Launch.lean ====
/-
  The two gather calls as the launch sees them: what each handshake carries (the tables and the lists by shares, the
  outputs by rows, what they hold included), each tile's obligation from the kernels' bodies, and the division of a call's
  operands over the tiles.
-/
module

public import proofs.«01_k».proof.Proof.Tiles
public import proofs.«01_k».proof.Proof.Body0
public import proofs.«01_k».proof.Proof.Body1
public import proofs.«01_k».proof.Proof.Gen.KernelIdeal.Launch

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Tile Cert.Proof.Split

variable {F : FTy → Type}

local notation "𝕄" => MT nD τ sig (HIx 2) (Elt F) ℕ UU ℕ

/-! ## The program as the launch theorem sees it -/

/-- The labels of the three pipelines' program. -/
abbrev ΛP : Labels := Pipeline.Sig Λ₀ (Fin 3) fun p => (pcfgs (F := F) p).Adm
/-- The two SparseCore calls. -/
abbrev K : SparseCore.Cfg τ sig (ΛP (F := F)) 2 := sc (F := F)
/-- The bodies that the pipelines and the gathers call. -/
abbrev D [FloatOps F] [Named F] : Defs nD τ sig (Elt F) (ΛP (F := F)) := Pipeline.defs pcfgs defs₀
/-- No loop needs a variant, -/
abbrev 𝒱 : Variants := 𝒱₀.lift
/-- and none is given. -/
abbrev v₀ : 𝒱.V := Sum.inl none

/-- The calls' handshakes use different semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the handshakes' ghost state lies. -/
abbrev EH : Emb UH (MT nD τ sig (HIx 2) (Elt F) ℕ UU ℕ) := embL

/-! ## The calls -/

/-- What buffer `b` of the TensorCore holds at a valuation. -/
abbrev at_ (W : Valuation τ sig (Elt F)) (b : Ref sig .tc) : b.ty.Contents (Elt F) := W (Proc.devRef .tc b)

/-- The first gather's operands on device `d`, at the valuation it is entered at; and the second's. -/
abbrev call0 (d : Dev nD) (W : Valuation τ sig (Elt F)) : Call F where
  ℓT := (SparseCore.T (nD := nD) (τ := τ) d).loc main_arg8
  ℓI := (SparseCore.T (nD := nD) (τ := τ) d).loc main_v1
  ℓO := (SparseCore.T (nD := nD) (τ := τ) d).loc main_v2
  fT := at_ W main_arg8
  fI := at_ W main_v1
  R := fun c i => blk (n := 102400) 3200 c i
  disj := blk_disj (n := 102400) 3200
  cover := blk_cover (n := 102400) 3200 (by decide) rfl

/-- The second gather at a valuation. -/
abbrev call1 (d : Dev nD) (W : Valuation τ sig (Elt F)) : Call F where
  ℓT := (SparseCore.T (nD := nD) (τ := τ) d).loc main_arg7
  ℓI := (SparseCore.T (nD := nD) (τ := τ) d).loc main_v4
  ℓO := (SparseCore.T (nD := nD) (τ := τ) d).loc main_v5
  fT := at_ W main_arg7
  fI := at_ W main_v4
  R := fun c i => blk (n := 204800) 6400 c i
  disj := blk_disj (n := 204800) 6400
  cover := blk_cover (n := 204800) 6400 (by decide) rfl

/-- What each leaves in its output. -/
def out0 (W : Valuation τ sig (Elt F)) : main_v2.ty.Contents (Elt F) := gath (n := 102400) (at_ W main_arg8) (at_ W main_v1)
/-- What the second leaves. -/
def out1 (W : Valuation τ sig (Elt F)) : main_v5.ty.Contents (Elt F) := gath (n := 204800) (at_ W main_arg7) (at_ W main_v4)

variable (W0 W1 : Dev nD → Valuation τ sig (Elt F))

/-- A call takes its three operands and brings them back, the output at the gathered rows. -/
def P : (K (F := F)).Pay (nD := nD) (Val := Elt F) (Name := ℕ) (U := UU) where
  st := fun q d c => match q with
    | 0 => (call0 d (W0 d)).core c (at_ (W0 d) main_v2)
    | 1 => (call1 d (W1 d)).core c (at_ (W1 d) main_v5)
  dn := fun q d c => match q with
    | 0 => (call0 d (W0 d)).core c (out0 (W0 d))
    | 1 => (call1 d (W1 d)).core c (out1 (W1 d))
  go := fun q d c i => match q with
    | 0 => (call0 d (W0 d)).tile c i (at_ (W0 d) main_v2)
    | 1 => (call1 d (W1 d)).tile c i (at_ (W1 d) main_v5)
  td := fun q d c i => match q with
    | 0 => (call0 d (W0 d)).tile c i (out0 (W0 d))
    | 1 => (call1 d (W1 d)).tile c i (out1 (W1 d))
  x := fun _ _ => iprop(emp)

instance tile_storable (A : Call F) (c i f) : BI.Storable (upEmb : UEmb _ 𝕄) (A.tile c i f) := by unfold Call.tile; infer_instance
instance core_storable (A : Call F) (c f) : BI.Storable (upEmb : UEmb _ 𝕄) (A.core c f) := by unfold Call.core; infer_instance

instance P_storable : (P (F := F) W0 W1).IsStorable where
  st q d c := match q with
    | 0 => core_storable (call0 d (W0 d)) c (at_ (W0 d) main_v2)
    | 1 => core_storable (call1 d (W1 d)) c (at_ (W1 d) main_v5)
  dn q d c := match q with
    | 0 => core_storable (call0 d (W0 d)) c (out0 (W0 d))
    | 1 => core_storable (call1 d (W1 d)) c (out1 (W1 d))
  go q d c i := match q with
    | 0 => tile_storable (call0 d (W0 d)) c i (at_ (W0 d) main_v2)
    | 1 => tile_storable (call1 d (W1 d)) c i (at_ (W1 d) main_v5)
  td q d c i := match q with
    | 0 => tile_storable (call0 d (W0 d)) c i (out0 (W0 d))
    | 1 => tile_storable (call1 d (W1 d)) c i (out1 (W1 d))

/-- Every number of both lists names a row of its table. -/
structure InRange : Prop where
  h0 : ∀ d y, (at_ (W0 d) main_v1 y).toNat < 100000
  h1 : ∀ d y, (at_ (W1 d) main_v4 y).toNat < 100000

/-- The division of a call's operands over a SparseCore's tiles, and back. -/
theorem vecSplit (q : Fin 2) : (K (F := F)).VecSplit' (P W0 W1) q := by
  intro d c
  have key : ∀ (A : Call F) (f g : Buf (Elt F) A.ℓO) (c : Fin 2), A.core c f ⊢ |={Set.univ}=> iprop((bigSep (Finset.univ : Finset (Fin 16)) fun i => A.tile c i f)
      ∗ ((bigSep (Finset.univ : Finset (Fin 16)) fun i => A.tile c i g) -∗ A.core c g)) := by
    intro A f g c
    rw [A.core_tiles c f, A.core_tiles c g]
    iintro H; imodintro
    isplitl [H]; · iexact H
    iintro H'; iexact H'
  match q with
  | 0 => exact key (call0 d (W0 d)) _ _ c
  | 1 => exact key (call1 d (W1 d)) _ _ c

/-! ## A tile's obligation -/

section Obligation

variable [FloatOps F] [Named F]

/-- A task that adds only waits of its own to what it has recorded hands back what the launch asks for. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's coordinates in the kernels' grids. -/
def co0 (c : Fin (grid0.bound 0)) (s : Fin (grid0.bound 1)) : grid0.Coords :=
  fun | 0 => c | 1 => s | ⟨_ + 2, h⟩ => absurd h (Nat.not_lt.2 (Nat.le_add_left _ _))
/-- A tile's coordinates in the second call. -/
def co1 (c : Fin (grid1.bound 0)) (s : Fin (grid1.bound 1)) : grid1.Coords :=
  fun | 0 => c | 1 => s | ⟨_ + 2, h⟩ => absurd h (Nat.not_lt.2 (Nat.le_add_left _ _))

/-- The first gather's operands as tile `i` addresses them. -/
abbrev env0 (d : Dev nD) (W : Valuation τ sig (Elt F)) (c : Fin (grid0.bound 0)) (s : Fin (grid0.bound 1)) : Env F 102400 :=
  Body0.env (F := F) d (co0 c s) (Memref.whole main_arg8_scv) (Memref.whole main_v1_scv) (Memref.whole main_v2_scv) (Memref.whole cc0_scoped0) cc0_scoped1
    (Memref.whole cc0_scoped2) cc0_scoped3 cc0_scoped4 (at_ W main_arg8) (at_ W main_v1) (at_ W main_v2) (tq c s) (lq c s)
/-- A tile's operands in the second. -/
abbrev env1 (d : Dev nD) (W : Valuation τ sig (Elt F)) (c : Fin (grid1.bound 0)) (s : Fin (grid1.bound 1)) : Env F 204800 :=
  Body1.env (F := F) d (co1 c s) (Memref.whole main_arg7_scv) (Memref.whole main_v4_scv) (Memref.whole main_v5_scv) (Memref.whole cc1_scoped0) cc1_scoped1
    (Memref.whole cc1_scoped2) cc1_scoped3 cc1_scoped4 (at_ W main_arg7) (at_ W main_v4) (at_ W main_v5) (tq c s) (lq c s)

/-- Out of a tile's launch resources: the gather's assertions beside what it leaves alone. `R` is the thread's other
    semaphores and buffers. -/
theorem enter {n : ℕ} (E : Env F n) (hF : (K (F := F)).Facts)
    (hT : E.tM.view.set = Finset.univ) (hI : E.iM.view.set = Finset.univ) (hA : E.aM.view.set = Finset.univ) (hR : E.rM.view.set = Finset.univ)
    (hs : ∀ x ∈ [E.sem5 0, E.sem5 1, E.sem6 0, E.sem6 1, E.sg.sem], (SemLoc.dma x : SemLoc sig).isScoped .scVector = true)
    (hn : [E.sem5 0, E.sem5 1, E.sem6 0, E.sem6 1, E.sg.sem].Nodup)
    (ha : (Proc.devRef (.scVector E.c E.j) E.aM.view.ref).owner = .proc (.scVector E.c E.j))
    (hb : (Proc.devRef (.scVector E.c E.j) E.rM.view.ref).owner = .proc (.scVector E.c E.j)) (hne : E.rM.view.ref ≠ E.aM.view.ref) :
    ∃ R : sProp 𝕄, iprop((E.tM.view.loc E.thr ↦[Finset.univ]{E.qT} E.fT)
        ∗ ((E.iM.view.loc E.thr ↦[Finset.univ]{E.qI 0} E.fI) ∗ E.iM.view.loc E.thr ↦[Finset.univ]{E.qI 1} E.fI) ∗ scopedBufs E.thr ∗ scopedSems0 E.thr)
      ⊣⊢ iprop((E.idleI (sl 0) ∗ E.idleI (sl 1) ∗ E.idleO (sl 0) ∗ E.idleO (sl 1) ∗ E.tab) ∗ R) := by
  obtain ⟨R1, h1⟩ := ownSems_five (F := F) E.thr (E.sem5 0) (E.sem5 1) (E.sem6 0) (E.sem6 1) E.sg.sem hs hn
  obtain ⟨R2, h2⟩ := ownBufs_two (F := F) E.d (.scVector E.c E.j) E.aM.view.ref E.rM.view.ref ha hb hne
  refine ⟨iprop(R1 ∗ R2), ?_⟩
  have hk := kit_eq E hT hI hA hR
  rw [(K (F := F)).scopedBufs_V hF E.d E.c E.j, SparseCore.Cfg.scopedSems0_V (Val := Elt F) E.d E.c E.j, h1, h2]
  constructor
  · iintro ⟨HT, HI, ⟨Ha, Hr, HR2⟩, H50, H51, H60, H61, Hg, HR1⟩
    isplitr [HR1 HR2]
    · iapply hk.1
      unfold kit
      isplitl [HT]; · iexact HT
      isplitl [HI]; · iexact HI
      isplitl [Ha]; · iexact Ha
      isplitl [Hr]; · iexact Hr
      isplitl [H50]; · iexact H50
      isplitl [H51]; · iexact H51
      isplitl [H60]; · iexact H60
      isplitl [H61]; · iexact H61
      iexact Hg
    · isplitl [HR1]; · iexact HR1
      iexact HR2
  · iintro ⟨Hk, HR1, HR2⟩
    ihave Hk := hk.2 $$ Hk
    unfold kit
    icases Hk with ⟨HT, HI, Ha, Hr, H50, H51, H60, H61, Hg⟩
    isplitl [HT]; · iexact HT
    isplitl [HI]; · iexact HI
    isplitl [Ha Hr HR2]
    · isplitl [Ha]; · iexact Ha
      isplitl [Hr]; · iexact Hr
      iexact HR2
    isplitl [H50]; · iexact H50
    isplitl [H51]; · iexact H51
    isplitl [H60]; · iexact H60
    isplitl [H61]; · iexact H61
    isplitl [Hg]; · iexact Hg
    iexact HR1

/-- A tile's task from the gather's run: `prog` from the assertions and `k` rows of the output, those rows gathered. -/
theorem task {n : ℕ} (E : Env F n) (A : Call F) (hF : (K (F := F)).Facts) (q : Fin 2) (c : Fin 2) (i : Fin 16) (f g : Buf (Elt F) A.ℓO) (prog : Prog (TpuEff nD τ sig (Elt F) Λ₀ (.scVector E.c E.j)) PUnit)
    (hT : E.tM.view.set = Finset.univ) (hI : E.iM.view.set = Finset.univ) (hA : E.aM.view.set = Finset.univ) (hR : E.rM.view.set = Finset.univ)
    (hs : ∀ x ∈ [E.sem5 0, E.sem5 1, E.sem6 0, E.sem6 1, E.sg.sem], (SemLoc.dma x : SemLoc sig).isScoped .scVector = true)
    (hn : [E.sem5 0, E.sem5 1, E.sem6 0, E.sem6 1, E.sg.sem].Nodup)
    (ha : (Proc.devRef (.scVector E.c E.j) E.aM.view.ref).owner = .proc (.scVector E.c E.j))
    (hb : (Proc.devRef (.scVector E.c E.j) E.rM.view.ref).owner = .proc (.scVector E.c E.j)) (hne : E.rM.view.ref ≠ E.aM.view.ref)
    (X Y : sProp 𝕄)
    (hin : A.tile c i f ⊢ iprop(((E.tM.view.loc E.thr ↦[Finset.univ]{E.qT} E.fT)
        ∗ ((E.iM.view.loc E.thr ↦[Finset.univ]{E.qI 0} E.fI) ∗ E.iM.view.loc E.thr ↦[Finset.univ]{E.qI 1} E.fI)) ∗ X))
    (hout : iprop(((E.tM.view.loc E.thr ↦[Finset.univ]{E.qT} E.fT)
        ∗ ((E.iM.view.loc E.thr ↦[Finset.univ]{E.qI 0} E.fI) ∗ E.iM.view.loc E.thr ↦[Finset.univ]{E.qI 1} E.fI)) ∗ Y) ⊢ A.tile c i g)
    (O : CellTallies nD τ sig (HIx 2)) (W : Waits sig (HIx 2)) (hO : ∀ g, O g none = 0)
    (hbody : iprop(E.idleI (sl 0) ∗ E.idleI (sl 1) ∗ E.idleO (sl 0) ∗ E.idleO (sl 1) ∗ E.tab ∗ E.ow O W ∗ Transfers.MayWaits E.thr (default : HIx 2) O ∗ X)
      ⊢ wp frame (wpE (defs₀ (F := F)) 𝒱₀ E.thr none) Set.univ prog
          fun _ => iprop(E.idleI (sl 0) ∗ E.idleI (sl 1) ∗ E.idleO (sl 0) ∗ E.idleO (sl 1) ∗ E.tab ∗ E.ow O W ∗ Y)) :
    iprop(levAts (K (F := F)).L (K (F := F)).lev ∗ emp ∗ A.tile c i f ∗ scopedBufs E.thr ∗ scopedSems0 E.thr ∗ owes E.thr O W)
      ⊢ wp frame (wpE (defs₀ (F := F)) 𝒱₀ E.thr none) Set.univ prog
          fun _ => iprop(A.tile c i g ∗ scopedBufs E.thr ∗ scopedSems0 E.thr ∗ ∃ W', ⌜∀ p ∈ W', p ∈ W ∨ p.2 = none ∨ p.2 = some q⌝ ∗ owes E.thr O W') := by
  obtain ⟨R, hR⟩ := enter E hF hT hI hA hR hs hn ha hb hne
  have hbody' : iprop(R ∗ (E.idleI (sl 0) ∗ E.idleI (sl 1) ∗ E.idleO (sl 0) ∗ E.idleO (sl 1) ∗ E.tab ∗ E.ow O W ∗ Transfers.MayWaits E.thr (default : HIx 2) O ∗ X))
      ⊢ wp frame (wpE (defs₀ (F := F)) 𝒱₀ E.thr none) Set.univ prog
          fun _ => iprop(R ∗ (E.idleI (sl 0) ∗ E.idleI (sl 1) ∗ E.idleO (sl 0) ∗ E.idleO (sl 1) ∗ E.tab ∗ E.ow O W ∗ Y)) :=
    (BI.Laws.sep_mono_right hbody).trans (wp_frame_l _ _ _)
  refine BIBase.Entails.trans ?_ (hbody'.trans (wp_mono frame _ _ fun _ => BIBase.Entails.trans ?_ (obl_post (q := q))))
  · iintro ⟨#Hlv, -, Ht, Hb, Hs, HO⟩
    ihave Hmw := (show levAts (K (F := F)).L (K (F := F)).lev ⊢ Transfers.MayWaits E.thr (default : HIx 2) O from
      (K (F := F)).mayWaits_none (thr := E.thr) hO) $$ Hlv
    ihave Ht := hin $$ Ht
    icases Ht with ⟨⟨HT, HI⟩, HX⟩
    ihave Hk := hR.1 $$ [HT HI Hb Hs]
    · isplitl [HT]; · iexact HT
      isplitl [HI]; · iexact HI
      isplitl [Hb]; · iexact Hb
      iexact Hs
    icases Hk with ⟨⟨H1, H2, H3, H4, H5⟩, HR⟩
    isplitl [HR]; · iexact HR
    isplitl [H1]; · iexact H1
    isplitl [H2]; · iexact H2
    isplitl [H3]; · iexact H3
    isplitl [H4]; · iexact H4
    isplitl [H5]; · iexact H5
    isplitl [HO]
    · unfold Env.ow; iexists W; isplitr; · ipureintro; exact fun p hp => .inl hp
      iexact HO
    isplitl [Hmw]; · iexact Hmw
    iexact HX
  · iintro ⟨HR, H1, H2, H3, H4, H5, HO, HY⟩
    ihave Hk := hR.2 $$ [HR H1 H2 H3 H4 H5]
    · isplitr [HR]
      · isplitl [H1]; · iexact H1
        isplitl [H2]; · iexact H2
        isplitl [H3]; · iexact H3
        isplitl [H4]; · iexact H4
        iexact H5
      iexact HR
    icases Hk with ⟨HT, HI, Hb, Hs⟩
    isplitl [HT HI HY]
    · iapply hout
      isplitr [HY]
      · isplitl [HT]; · iexact HT
        iexact HI
      iexact HY
    isplitl [Hb]; · iexact Hb
    isplitl [Hs]; · iexact Hs
    unfold Env.ow; iexact HO

/-- The rows the first gather's tile writes are its part of the output. -/
theorem rows0 (d : Dev nD) (W : Valuation τ sig (Elt F)) (c : Fin (grid0.bound 0)) (s : Fin (grid0.bound 1)) :
    (env0 d W c s).rowsIn (Body0.base (co0 c s)) (Body0.base (co0 c s) + 128 * 25) = blk (n := 102400) 3200 c s := by
  unfold Env.rowsIn
  exact Finset.map_refl
/-- A tile's rows in the second. -/
theorem rows1 (d : Dev nD) (W : Valuation τ sig (Elt F)) (c : Fin (grid1.bound 0)) (s : Fin (grid1.bound 1)) :
    (env1 d W c s).rowsIn (Body1.base (co1 c s)) (Body1.base (co1 c s) + 128 * 50) = blk (n := 204800) 6400 c s := by
  unfold Env.rowsIn
  exact Finset.map_refl

/-- What it writes is the gathered rows. -/
theorem fG0 (d : Dev nD) (W : Valuation τ sig (Elt F)) (c : Fin (grid0.bound 0)) (s : Fin (grid0.bound 1)) :
    (env0 d W c s).fG = out0 W := by
  unfold out0
  exact View.write_whole_univ _ _ _
/-- What a tile of the second writes is its part of the whole output. -/
theorem fG1 (d : Dev nD) (W : Valuation τ sig (Elt F)) (c : Fin (grid1.bound 0)) (s : Fin (grid1.bound 1)) :
    (env1 d W c s).fG = out1 W := by
  unfold out1
  exact View.write_whole_univ _ _ _

/-- The semaphore of slot `s`, and a row slot, of closed arrays. -/
abbrev slotSem (a : DmaSems sig S2) (s : Fin 2) : DmaSem sig := ((a.slice (Rect.unit (s := S2) ![s.val] S1.size (Env.inb_s s))).squeeze S_ squeezes_S1_S_).sem
/-- A slot of the row buffer. -/
abbrev slotRows (r : Memref sig .scVector .vmem S2x128x128 .f32) (s : Fin 2) : Memref sig .scVector .vmem S128x128 .f32 :=
  (r.slice (Rect.unit (s := S2x128x128) ![s.val, 0, 0] S1x128x128.size (Env.inb_r s)) (fun _ => rfl)).squeeze S128x128 squeezes_S1x128x128_S128x128

/-- The first gather's semaphores are of its tiles. -/
theorem sems0 : (∀ x ∈ [slotSem cc0_scoped1 0, slotSem cc0_scoped1 1, slotSem cc0_scoped3 0, slotSem cc0_scoped3 1, cc0_scoped4.sem], (SemLoc.dma x : SemLoc sig).isScoped .scVector = true)
    ∧ [slotSem cc0_scoped1 0, slotSem cc0_scoped1 1, slotSem cc0_scoped3 0, slotSem cc0_scoped3 1, cc0_scoped4.sem].Nodup := by
  constructor <;> decide +kernel
/-- So are the second's. -/
theorem sems1 : (∀ x ∈ [slotSem cc1_scoped1 0, slotSem cc1_scoped1 1, slotSem cc1_scoped3 0, slotSem cc1_scoped3 1, cc1_scoped4.sem], (SemLoc.dma x : SemLoc sig).isScoped .scVector = true)
    ∧ [slotSem cc1_scoped1 0, slotSem cc1_scoped1 1, slotSem cc1_scoped3 0, slotSem cc1_scoped3 1, cc1_scoped4.sem].Nodup := by
  constructor <;> decide +kernel
/-- The streams of a gather add up to its credit. -/
theorem credit0 : ∀ (s : Fin 2) (h : S100000x128.Gathers 0 S128x128), ∑ j, ((slotRows (Memref.whole cc0_scoped2) s).slice (S128x128.rowRect h.axis' j) (S128x128.stride_rowRect h.axis' j)).view.dmaCredit
    = (slotRows (Memref.whole cc0_scoped2) s).view.dmaCredit := by decide +kernel
/-- A gather of the second credits a slot's bytes. -/
theorem credit1 : ∀ (s : Fin 2) (h : S100000x128.Gathers 0 S128x128), ∑ j, ((slotRows (Memref.whole cc1_scoped2) s).slice (S128x128.rowRect h.axis' j) (S128x128.stride_rowRect h.axis' j)).view.dmaCredit
    = (slotRows (Memref.whole cc1_scoped2) s).view.dmaCredit := by decide +kernel

/-- Each tile of the first gather: from its part of the operands, to the same with its rows gathered. -/
theorem tileObl0 (hF : (K (F := F)).Facts) (hpre : InRange W0 W1) : (K (F := F)).TileObl (D (F := F)) 𝒱 (P W0 W1) v₀ 0 := by
  intro d c i O W hO _ _
  simp only [show (P W0 W1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  refine task (env0 d (W0 d) ⟨_, hci.1⟩ ⟨_, hci.2⟩) (call0 d (W0 d)) hF 0 c i (at_ (W0 d) main_v2) (out0 (W0 d)) _ (View.set_whole _) (View.set_whole _) (View.set_whole _) (View.set_whole _)
    sems0.1 sems0.2 rfl rfl (show (cc0_scoped2 : Ref sig .scVector) ≠ cc0_scoped0 by decide) _ _ ?_ ?_ O W hO
    (Body0.body (F := F) d (co0 ⟨_, hci.1⟩ ⟨_, hci.2⟩) _ (Memref.isWhole_whole _) _ (Memref.isWhole_whole _) _ (Memref.isWhole_whole _) _ (Memref.isWhole_whole _) _ _ (Memref.isWhole_whole _) _ _
      _ _ _ _ _ (fun y => by have h := hpre.h0 d y; exact h) (fun s h => credit0 s h) O W)
  · have hr := rows0 d (W0 d) ⟨_, hci.1⟩ ⟨_, hci.2⟩
    unfold Call.tile
    iintro ⟨HT, HI, HO⟩
    isplitr [HO]
    · isplitl [HT]; · iexact HT
      iexact HI
    iapply (Entails.of_eq (congrArg (fun S => (((SparseCore.T (nD := nD) (τ := τ) d).loc main_v2) ↦[S]{fullShare} (at_ (W0 d) main_v2) : sProp 𝕄)) hr.symm)); iexact HO
  · have hr := rows0 d (W0 d) ⟨_, hci.1⟩ ⟨_, hci.2⟩
    have hg := fG0 d (W0 d) ⟨_, hci.1⟩ ⟨_, hci.2⟩
    unfold Call.tile
    iintro ⟨⟨HT, HI⟩, HO⟩
    isplitl [HT]; · iexact HT
    isplitl [HI]; · iexact HI
    iapply (Entails.of_eq (congrArg₂ (fun S f => (((SparseCore.T (nD := nD) (τ := τ) d).loc main_v2) ↦[S]{fullShare} f : sProp 𝕄)) hr hg)); iexact HO

/-- Each tile of the second gather: from its part of the operands, to the same with its rows gathered. -/
theorem tileObl1 (hF : (K (F := F)).Facts) (hpre : InRange W0 W1) : (K (F := F)).TileObl (D (F := F)) 𝒱 (P W0 W1) v₀ 1 := by
  intro d c i O W hO _ _
  simp only [show (P W0 W1).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  refine task (env1 d (W1 d) ⟨_, hci.1⟩ ⟨_, hci.2⟩) (call1 d (W1 d)) hF 1 c i (at_ (W1 d) main_v5) (out1 (W1 d)) _ (View.set_whole _) (View.set_whole _) (View.set_whole _) (View.set_whole _)
    sems1.1 sems1.2 rfl rfl (show (cc1_scoped2 : Ref sig .scVector) ≠ cc1_scoped0 by decide) _ _ ?_ ?_ O W hO
    (Body1.body (F := F) d (co1 ⟨_, hci.1⟩ ⟨_, hci.2⟩) _ (Memref.isWhole_whole _) _ (Memref.isWhole_whole _) _ (Memref.isWhole_whole _) _ (Memref.isWhole_whole _) _ _ (Memref.isWhole_whole _) _ _
      _ _ _ _ _ (fun y => by have h := hpre.h1 d y; exact h) (fun s h => credit1 s h) O W)
  · have hr := rows1 d (W1 d) ⟨_, hci.1⟩ ⟨_, hci.2⟩
    unfold Call.tile
    iintro ⟨HT, HI, HO⟩
    isplitr [HO]
    · isplitl [HT]; · iexact HT
      iexact HI
    iapply (Entails.of_eq (congrArg (fun S => (((SparseCore.T (nD := nD) (τ := τ) d).loc main_v5) ↦[S]{fullShare} (at_ (W1 d) main_v5) : sProp 𝕄)) hr.symm)); iexact HO
  · have hr := rows1 d (W1 d) ⟨_, hci.1⟩ ⟨_, hci.2⟩
    have hg := fG1 d (W1 d) ⟨_, hci.1⟩ ⟨_, hci.2⟩
    unfold Call.tile
    iintro ⟨⟨HT, HI⟩, HO⟩
    isplitl [HT]; · iexact HT
    isplitl [HI]; · iexact HI
    iapply (Entails.of_eq (congrArg₂ (fun S f => (((SparseCore.T (nD := nD) (τ := τ) d).loc main_v5) ↦[S]{fullShare} f : sProp 𝕄)) hr hg)); iexact HO

end Obligation

end Cert.Proof.Launch

end
-- ==== Proof.Bodies.lean ====
/-
  What the three TensorCore bodies compute, each as one triple: from its windows' staging buffers at the blocks they
  read, to the same with the results' buffers at functions of those blocks.
-/
module

public import proofs.«01_k».proof.Proof.Tile
public import proofs.«01_k».proof.Proof.Gen.KernelIdeal.Skeleton
public import Idealize.ShloMosaic.Lib.Pipeline.Value
public import Idealize.ShloMosaic.Lib.Pipeline.FrameBody
public import Idealize.ShloMosaic.Lib.WritesUnit
public import Idealize.ShloMosaic.Lib.Tactic

@[expose] public section

noncomputable section

namespace Cert.Proof.Bodies

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Tile (UU)

variable {F : FTy → Type} [FloatOps F] [Named F] [∀ e, Nonempty (Elt F e)]

local notation "𝕄" => MT nD τ sig (HIx 2) (Elt F) ℕ UU ℕ

/-- No body loops by a variant. -/
abbrev 𝒱₀ : Variants := Variants.none

/-- A staging buffer of core `c` held whole, reading `X`. -/
abbrev ow (c : Dev nD) {sp : Space} {S : Shape} {e : EltTy} (M : Memref sig .tc sp S e) (X : S.Idx → Elt F e) : sProp 𝕄 :=
  owns (c : Thread nD τ) M fullShare X

/-- A whole buffer held through its view is the buffer held. -/
theorem ow_eq (c : Dev nD) {sp : Space} {S : Shape} {e : EltTy} (M : Memref sig .tc sp S e) (h : M.IsWhole) (X : S.Idx → Elt F e) :
    (ow c M X : sProp 𝕄) = iprop(∃ f, ⌜M.view.read (Elt F) f = X⌝ ∗ (M.view.loc (c : Thread nD τ) ↦{fullShare} f)) := by
  unfold ow owns
  rw [Memref.IsWhole.set_eq_univ h]

/-- A store of a whole block leaves the payload it stored. -/
theorem one_write {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton.2 rfl, View.mem_set_unit_zero h inb y⟩), View.canon_unit_zero h]

/-- A load of a whole block reads the block. -/
theorem one_read {sp : Space} {S : Shape} {e : EltTy} (v : View sig .tc sp S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  View.ld_unit_zero h inb _

/-- The zero offset in two axes. -/
theorem off2 : (![0, 0] : Fin 2 → ℕ) = fun _ => 0 := by decide
/-- And in three. -/
theorem off3 : (![0, 0, 0] : Fin 3 → ℕ) = fun _ => 0 := by decide

/-- The broadcast of a block of context rows over the candidates. -/
theorem body4 (c : Dev nD) (i : grid4.Coords) (M1 : Memref sig .tc .vmem S256x128 .f32) (h1 : M1.IsWhole) (M2 : Memref sig .tc .vmem S100x256x128 .f32) (h2 : M2.IsWhole)
    (X1 : FVec F S256x128 .f32) (X2 : FVec F S100x256x128 .f32) :
    iprop(ow c M1 X1 ∗ ow c M2 X2) ⊢ wp frame (wpE (defs₀ (F := F)) 𝒱₀ (c : Thread nD τ) none) Set.univ (cc4__ctxout_body i M1 h1 M2 h2)
      fun _ => iprop(ow c M1 X1 ∗ ow c M2 (k4_pay1 X1)) := by
  rw [ow_eq c M1 h1, ow_eq c M2 h2, ow_eq c M2 h2]
  iintro ⟨⟨%f1, %e1, H1⟩, ⟨%f2, %e2, H2⟩⟩
  subst e1
  rw [cc4__ctxout_body_eq_skeleton]; unfold cc4__ctxout_body_skel
  sl_exec
  sl_step
  isplitl [H1]
  · iexists f1; isplitr; · ipureintro; rfl
    iexact H1
  iexists _; isplitr
  swap; · iexact H2
  ipureintro
  exact (one_write _ _ off3 _ _).trans (congrArg k4_pay1 (one_read _ _ off2 _))

/-- The context projection of a block of rows. -/
theorem body2 (c : Dev nD) (i : grid2.Coords) (M1 : Memref sig .tc .vmem S64x200x128 .f32) (h1 : M1.IsWhole) (M2 : Memref sig .tc .vmem S128x128 .f32) (h2 : M2.IsWhole)
    (M3 : Memref sig .tc .vmem S1x128 .f32) (h3 : M3.IsWhole) (M4 : Memref sig .tc .vmem S64x128 .f32) (h4 : M4.IsWhole)
    (X1 : FVec F S64x200x128 .f32) (X2 : FVec F S128x128 .f32) (X3 : FVec F S1x128 .f32) (X4 : FVec F S64x128 .f32) :
    iprop(ow c M1 X1 ∗ ow c M2 X2 ∗ ow c M3 X3 ∗ ow c M4 X4) ⊢ wp frame (wpE (defs₀ (F := F)) 𝒱₀ (c : Thread nD τ) none) Set.univ (cc2__ctx_body i M1 h1 M2 h2 M3 h3 M4 h4)
      fun _ => iprop(ow c M1 X1 ∗ ow c M2 X2 ∗ ow c M3 X3 ∗ ow c M4 (k2_pay1 X1 X2 X3)) := by
  rw [ow_eq c M1 h1, ow_eq c M2 h2, ow_eq c M3 h3, ow_eq c M4 h4, ow_eq c M4 h4]
  iintro ⟨⟨%f1, %e1, H1⟩, ⟨%f2, %e2, H2⟩, ⟨%f3, %e3, H3⟩, ⟨%f4, %e4, H4⟩⟩
  subst e1; subst e2; subst e3
  rw [cc2__ctx_body_eq_skeleton]; unfold cc2__ctx_body_skel
  sl_exec
  sl_step
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (one_write _ _ off2 _ _).trans ?_
  congr 1
  · exact one_read _ _ off3 _
  · exact one_read _ _ off2 _
  · exact one_read _ _ off2 _

/-- The row of the flat table of features that entry `y` of the block of tables is. -/
def frow (y : S64x100x262.Idx) : S6400x262.Idx := fun a => match a with
  | 0 => ⟨100 * (y 0).val + (y 1).val, by have h0 : (y 0).val < 64 := (y 0).isLt; have h1 : (y 1).val < 100 := (y 1).isLt; show _ < 6400; omega⟩
  | 1 => y 2

/-- The flat table of features as a block of one table per row of the batch. -/
def blk (v : FVec F S6400x262 .f32) : FVec F S64x100x262 .f32 := fun y => v (frow y)

/-- The features of a block: candidate row, context row, elementwise product with its sum, and the five scalars. -/
def feats3 (X1 : FVec F S6400x128 .f32) (X2 : FVec F S64x128 .f32) (X3 : FVec F S5x6400 .f32) (X4 : FVec F S6400x64 .f32) : FVec F S64x100x262 .f32 :=
  blk (k3_pay7 X2 X4 X1 X3)

/-- Columns `o` up to `o + 256` of the first layer's weights. -/
def w5 (X5 : FVec F S262x1024 .bf16) (o : ℕ) (inb : ∀ a, (![0, o] : Fin 2 → ℕ) a + S262x256.size a ≤ S262x1024.size a) : FVec F S262x256 .bf16 :=
  fun x => X5 ((Rect.unit (s := S262x1024) ![0, o] S262x256.size inb).emb x)

/-- and of its bias, -/
def w6 (X6 : FVec F S1x1024 .f32) (o : ℕ) (inb : ∀ a, (![0, o] : Fin 2 → ℕ) a + S1x256.size a ≤ S1x1024.size a) : FVec F S1x256 .f32 :=
  fun x => X6 ((Rect.unit (s := S1x1024) ![0, o] S1x256.size inb).emb x)

/-- and the same rows of the second layer's weights. -/
def w7 (X7 : FVec F S1024x1 .f32) (o : ℕ) (inb : ∀ a, (![o, 0] : Fin 2 → ℕ) a + S256x1.size a ≤ S1024x1.size a) : FVec F S256x1 .f32 :=
  fun x => X7 ((Rect.unit (s := S1024x1) ![o, 0] S256x1.size inb).emb x)

/-- The scores of a block. -/
def score3 (X1 : FVec F S6400x128 .f32) (X2 : FVec F S64x128 .f32) (X3 : FVec F S5x6400 .f32) (X4 : FVec F S6400x64 .f32) (X5 : FVec F S262x1024 .bf16)
    (X6 : FVec F S1x1024 .f32) (X7 : FVec F S1024x1 .f32) (X8 : FVec F S1x1 .f32) : FVec F S1x50x128 .f32 :=
  k3_pay6 (k3_pay14 (k3_pay12 (k3_pay8 X2 X4 X1 X3)
    (k3_pay9 X2 X4 X1 X3 (w5 X5 0 inb_S262x1024_S262x256_0_0) (w6 X6 0 inb_S1x1024_S1x256_0_0) (w7 X7 0 inb_S1024x1_S256x1_0_0))
    (k3_pay10 X2 X4 X1 X3 (w5 X5 256 inb_S262x1024_S262x256_0_256)) (k3_pay11 (w6 X6 256 inb_S1x1024_S1x256_0_256)) (w7 X7 256 inb_S1024x1_S256x1_256_0)
    (w5 X5 512 inb_S262x1024_S262x256_0_512) (w6 X6 512 inb_S1x1024_S1x256_0_512) (w7 X7 512 inb_S1024x1_S256x1_512_0)
    (w5 X5 768 inb_S262x1024_S262x256_0_768) (w6 X6 768 inb_S1x1024_S1x256_0_768) (w7 X7 768 inb_S1024x1_S256x1_768_0)) (k3_pay13 X8))

section Rows
variable {sp : Space} (v : View sig .tc sp S64x100x262 .f32) (f : v.ty.Contents (Elt F)) (T : FVec F S64x100x262 .f32)

/-- The writes `L` leave the first `j` tables at `T`. -/
def Rows (j : ℕ) (L : List (View.Piece (Elt F) S64x100x262 .f32)) : Prop :=
  ∀ y : S64x100x262.Idx, (y 0).val < j → v.read (Elt F) (v.writes (Elt F) f L) y = T y

/-- Before the first row is written nothing is asked. -/
theorem rows_nil : Rows v f T 0 [] := fun _ h => absurd h (Nat.not_lt_zero _)

/-- One more store, of table `j`. -/
theorem rows_cons {j : ℕ} {w : FVec F S1x100x262 .f32} {L : List (View.Piece (Elt F) S64x100x262 .f32)}
    (inb : ∀ a, (![j, 0, 0] : Fin 3 → ℕ) a + S1x100x262.size a ≤ S64x100x262.size a)
    (hw : ∀ (x : S1x100x262.Idx) (y : S64x100x262.Idx), (y 0).val = j → (y 1).val = (x 1).val → (y 2).val = (x 2).val → w x = T y)
    (hL : Rows v f T j L) : Rows v f T (j + 1) ((⟨Rect.unit (s := S64x100x262) ![j, 0, 0] S1x100x262.size inb, w⟩ : View.Piece (Elt F) S64x100x262 .f32) :: L) := by
  intro y hy
  by_cases h : (y 0).val = j
  · let x : S1x100x262.Idx := fun a => match a with
      | 0 => ⟨0, Nat.one_pos⟩
      | 1 => y 1
      | 2 => y 2
    refine (View.read_writes_cons_unit_of_mem v f inb w L y x rfl fun a => ?_).trans (hw x y h rfl rfl)
    fin_cases a
    · exact h
    · exact (Nat.zero_add _).symm
    · exact (Nat.zero_add _).symm
  · have hlt : (y 0).val < j := by omega
    exact (View.read_writes_cons_unit_of_not_mem v f inb w L y rfl (0 : Fin 3) (Or.inl hlt)).trans (hL y hlt)

/-- A context's hundred rows are a slice of the block's. -/
theorem slices_row (j : ℕ) (hj : j < 64) : S6400x262.Slices ![100 * j, 0] S100x262 := by
  refine ⟨rfl, fun a => ?_⟩
  fin_cases a
  · show 100 * j + 100 ≤ 6400
    omega
  · show 0 + 262 ≤ 262
    omega

/-- What the body stores as table `j` is rows `100 j` up to `100 j + 100` of the flat table. -/
theorem slab (V : FVec F S6400x262 .f32) {j o : ℕ} (ho : o = 100 * j) (h : S6400x262.Slices ![o, 0] S100x262) (h' : S100x262.ShapeCasts S1x100x262)
    (x : S1x100x262.Idx) (y : S64x100x262.Idx) (h0 : (y 0).val = j) (h1 : (y 1).val = (x 1).val) (h2 : (y 2).val = (x 2).val) :
    shapeCast S1x100x262 (extractStridedSlice S100x262 ![o, 0] V h) h' x = blk V y := by
  refine (shapeCast_addUnit_apply ![100, 262] _ h' x).trans ?_
  refine extractStridedSlice_apply _ _ h _ _ fun a => ?_
  fin_cases a
  · show 100 * (y 0).val + (y 1).val = o + (x 1).val
    omega
  · show (y 2).val = 0 + (x 2).val
    omega

end Rows

/-- The features and the scores of a block. -/
theorem body3 (c : Dev nD) (i : grid3.Coords) (M1 : Memref sig .tc .vmem S6400x128 .f32) (h1 : M1.IsWhole) (M2 : Memref sig .tc .vmem S64x128 .f32) (h2 : M2.IsWhole)
    (M3 : Memref sig .tc .vmem S5x6400 .f32) (h3 : M3.IsWhole) (M4 : Memref sig .tc .vmem S6400x64 .f32) (h4 : M4.IsWhole)
    (M5 : Memref sig .tc .vmem S262x1024 .bf16) (h5 : M5.IsWhole) (M6 : Memref sig .tc .vmem S1x1024 .f32) (h6 : M6.IsWhole)
    (M7 : Memref sig .tc .vmem S1024x1 .f32) (h7 : M7.IsWhole) (M8 : Memref sig .tc .vmem S1x1 .f32) (h8 : M8.IsWhole)
    (M9 : Memref sig .tc .vmem S64x100x262 .f32) (h9 : M9.IsWhole) (M10 : Memref sig .tc .vmem S1x50x128 .f32) (h10 : M10.IsWhole)
    (X1 : FVec F S6400x128 .f32) (X2 : FVec F S64x128 .f32) (X3 : FVec F S5x6400 .f32) (X4 : FVec F S6400x64 .f32) (X5 : FVec F S262x1024 .bf16)
    (X6 : FVec F S1x1024 .f32) (X7 : FVec F S1024x1 .f32) (X8 : FVec F S1x1 .f32) (X9 : FVec F S64x100x262 .f32) (X10 : FVec F S1x50x128 .f32) :
    iprop(ow c M1 X1 ∗ ow c M2 X2 ∗ ow c M3 X3 ∗ ow c M4 X4 ∗ ow c M5 X5 ∗ ow c M6 X6 ∗ ow c M7 X7 ∗ ow c M8 X8 ∗ ow c M9 X9 ∗ ow c M10 X10)
      ⊢ wp frame (wpE (defs₀ (F := F)) 𝒱₀ (c : Thread nD τ) none) Set.univ (cc3__mlp_body i M1 h1 M2 h2 M3 h3 M4 h4 M5 h5 M6 h6 M7 h7 M8 h8 M9 h9 M10 h10)
      fun _ => iprop(ow c M1 X1 ∗ ow c M2 X2 ∗ ow c M3 X3 ∗ ow c M4 X4 ∗ ow c M5 X5 ∗ ow c M6 X6 ∗ ow c M7 X7 ∗ ow c M8 X8 ∗ ow c M9 (feats3 X1 X2 X3 X4) ∗ ow c M10 (score3 X1 X2 X3 X4 X5 X6 X7 X8)) := by
  rw [ow_eq c M1 h1, ow_eq c M2 h2, ow_eq c M3 h3, ow_eq c M4 h4, ow_eq c M5 h5, ow_eq c M6 h6, ow_eq c M7 h7, ow_eq c M8 h8, ow_eq c M9 h9, ow_eq c M10 h10, ow_eq c M9 h9, ow_eq c M10 h10]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩
  subst e1; subst e2; subst e3; subst e4; subst e5; subst e6; subst e7; subst e8
  rw [cc3__mlp_body_eq_skeleton]; unfold cc3__mlp_body_skel
  sl_exec
  sl_step
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine Eq.trans (b := feats3 (M1.view.readAt (Elt F) (Rect.unit (s := S6400x128) ![0, 0] S6400x128.size inb_S6400x128_S6400x128_0_0).toLoadRect f1) (M2.view.readAt (Elt F) (Rect.unit (s := S64x128) ![0, 0] S64x128.size inb_S64x128_S64x128_0_0).toLoadRect f2) (M3.view.readAt (Elt F) (Rect.unit (s := S5x6400) ![0, 0] S5x6400.size inb_S5x6400_S5x6400_0_0).toLoadRect f3) (M4.view.readAt (Elt F) (Rect.unit (s := S6400x64) ![0, 0] S6400x64.size inb_S6400x64_S6400x64_0_0).toLoadRect f4)) (funext fun y => ?_)
      (by rw [one_read M1.view f1 off2 inb_S6400x128_S6400x128_0_0, one_read M2.view f2 off2 inb_S64x128_S64x128_0_0, one_read M3.view f3 off2 inb_S5x6400_S5x6400_0_0, one_read M4.view f4 off2 inb_S6400x64_S6400x64_0_0])
    refine (?_ : Rows M9.view f9 _ 64 _) y (y 0).isLt
    iterate 64 refine rows_cons _ _ _ _ (slab _ rfl (slices_row _ (by omega)) shapeCasts_S100x262_S1x100x262) ?_
    exact rows_nil _ _ _
  iexists _; isplitr
  swap; · iexact H10
  ipureintro
  refine (one_write _ _ off3 _ _).trans ?_
  refine Eq.trans (b := score3 (M1.view.readAt (Elt F) (Rect.unit (s := S6400x128) ![0, 0] S6400x128.size inb_S6400x128_S6400x128_0_0).toLoadRect f1) (M2.view.readAt (Elt F) (Rect.unit (s := S64x128) ![0, 0] S64x128.size inb_S64x128_S64x128_0_0).toLoadRect f2) (M3.view.readAt (Elt F) (Rect.unit (s := S5x6400) ![0, 0] S5x6400.size inb_S5x6400_S5x6400_0_0).toLoadRect f3) (M4.view.readAt (Elt F) (Rect.unit (s := S6400x64) ![0, 0] S6400x64.size inb_S6400x64_S6400x64_0_0).toLoadRect f4) (M5.view.read (Elt F) f5) (M6.view.read (Elt F) f6) (M7.view.read (Elt F) f7) (M8.view.readAt (Elt F) (Rect.unit (s := S1x1) ![0, 0] S1x1.size inb_S1x1_S1x1_0_0).toLoadRect f8)) rfl
    (by rw [one_read M1.view f1 off2 inb_S6400x128_S6400x128_0_0, one_read M2.view f2 off2 inb_S64x128_S64x128_0_0, one_read M3.view f3 off2 inb_S5x6400_S5x6400_0_0, one_read M4.view f4 off2 inb_S6400x64_S6400x64_0_0, one_read M8.view f8 off2 inb_S1x1_S1x1_0_0])

end Cert.Proof.Bodies

end
-- ==== Proof.Regions.lean ====
/-
  The three TensorCore pipelines: what each window's buffer holds at each point, as a function of the valuation its
  region is entered at; each body's obligation; each region over the TensorCore's unscoped buffers.
-/
module

public import proofs.«01_k».proof.Proof.Launch
public import proofs.«01_k».proof.Proof.Bodies
public import proofs.«01_k».proof.Proof.Gen.KernelIdeal.Points
public import Idealize.ShloMosaic.Lib.Pipeline.RegionArraysS

@[expose] public section

noncomputable section

namespace Cert.Proof.Regions

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Tile (UU)
open Cert.Proof.Bodies

variable {F : FTy → Type} [FloatOps F] [Named F] [∀ e, Nonempty (Elt F e)]

local notation "𝕄" => MT nD τ sig (HIx 2) (Elt F) ℕ UU ℕ

/-! ## The proof data, at an entry valuation -/

/-- What window `w` of a pipeline stages at point `t`: its block of the array, at the entry valuation. -/
abbrev stg (cfg : Cfg sig Λ₀) (W : Valuation τ sig (Elt F)) (w : Fin cfg.W) (t : Fin cfg.N) :=
  ((cfg.win w).blk t).view.read (Elt F) (W (Proc.devRef .tc (Pipeline.arrRef cfg.spec w)))

/-- What a pipeline holds beside its windows. -/
abbrev Φc {W : ℕ} {N : ℕ} (spec : Fin W → Pipeline.WinSpec sig N) (c : Dev nD) : sProp 𝕄 :=
  Pipeline.scopedRest (Ix := HIx 2) (Name := ℕ) (U := UU) (Lvl := ℕ) (Val := Elt F) spec c

/-- The context projection. -/
def dat2 (W : Valuation τ sig (Elt F)) (c : Dev nD) : Dat τ (Elt F) (HIx 2) ℕ UU ℕ cfg2 c where
  A w := W (Proc.devRef .tc (Pipeline.arrRef spec2 w))
  after w t := match w with
    | ⟨0, _⟩ => stg cfg2 W 0 t
    | ⟨1, _⟩ => stg cfg2 W 1 t
    | ⟨2, _⟩ => stg cfg2 W 2 t
    | ⟨3, _⟩ => k2_pay1 (stg cfg2 W 0 t) (stg cfg2 W 1 t) (stg cfg2 W 2 t)
  Φ _ := Φc spec2 c
  q _ := fullShare
  owed _ := 0

/-- The features and the scores. -/
def dat3 (W : Valuation τ sig (Elt F)) (c : Dev nD) : Dat τ (Elt F) (HIx 2) ℕ UU ℕ cfg3 c where
  A w := W (Proc.devRef .tc (Pipeline.arrRef spec3 w))
  after w t := match w with
    | ⟨0, _⟩ => stg cfg3 W 0 t
    | ⟨1, _⟩ => stg cfg3 W 1 t
    | ⟨2, _⟩ => stg cfg3 W 2 t
    | ⟨3, _⟩ => stg cfg3 W 3 t
    | ⟨4, _⟩ => stg cfg3 W 4 t
    | ⟨5, _⟩ => stg cfg3 W 5 t
    | ⟨6, _⟩ => stg cfg3 W 6 t
    | ⟨7, _⟩ => stg cfg3 W 7 t
    | ⟨8, _⟩ => feats3 (stg cfg3 W 0 t) (stg cfg3 W 1 t) (stg cfg3 W 2 t) (stg cfg3 W 3 t)
    | ⟨9, _⟩ => score3 (stg cfg3 W 0 t) (stg cfg3 W 1 t) (stg cfg3 W 2 t) (stg cfg3 W 3 t) (stg cfg3 W 4 t) (stg cfg3 W 5 t) (stg cfg3 W 6 t) (stg cfg3 W 7 t)
  Φ _ := Φc spec3 c
  q _ := fullShare
  owed _ := 0

/-- The broadcast of the contexts. -/
def dat4 (W : Valuation τ sig (Elt F)) (c : Dev nD) : Dat τ (Elt F) (HIx 2) ℕ UU ℕ cfg4 c where
  A w := W (Proc.devRef .tc (Pipeline.arrRef spec4 w))
  after w t := match w with
    | ⟨0, _⟩ => stg cfg4 W 0 t
    | ⟨1, _⟩ => k4_pay1 (stg cfg4 W 0 t)
  Φ _ := Φc spec4 c
  q _ := fullShare
  owed _ := 0

variable (adm : (p : Fin 3) → (pcfgs (F := F) p).Adm)

/-- The three pipelines' proof data, each at its region's entry valuation. -/
def pdats (W2 W3 W4 : Dev nD → Valuation τ sig (Elt F)) : (p : Fin 3) → (c : Dev nD) → Dat τ (Elt F) (HIx 2) ℕ UU ℕ (Pipeline.pin (pcfgs (F := F)) adm p) c
  | ⟨0, _⟩ => fun c => dat2 (W2 c) c
  | ⟨1, _⟩ => fun c => dat3 (W3 c) c
  | ⟨2, _⟩ => fun c => dat4 (W4 c) c

/-! ## What the bodies find -/

section
variable (W : Valuation τ sig (Elt F)) (c : Dev nD)

/-- Input 0 holds its block when the body starts. -/
theorem before2_0 (t : Fin cfg2.N) (d) : (dat2 W c).before 0 t d = stg cfg2 W 0 t :=
  (dat2 W c).before_in_eq_fetched 0 rfl (fun _ => rfl) (fun _ _ _ => rfl) (fun _ => rfl) t d
/-- Input 1 holds its block when the body starts. -/
theorem before2_1 (t : Fin cfg2.N) (d) : (dat2 W c).before 1 t d = stg cfg2 W 1 t :=
  (dat2 W c).before_in_eq_fetched 1 rfl (fun _ => rfl) (fun _ _ _ => rfl) (fun _ => rfl) t d
/-- Input 2 holds its block when the body starts. -/
theorem before2_2 (t : Fin cfg2.N) (d) : (dat2 W c).before 2 t d = stg cfg2 W 2 t :=
  (dat2 W c).before_in_eq_fetched 2 rfl (fun _ => rfl) (fun _ _ _ => rfl) (fun _ => rfl) t d
/-- Input 0 holds its block when the body starts. -/
theorem before3_0 (t : Fin cfg3.N) (d) : (dat3 W c).before 0 t d = stg cfg3 W 0 t :=
  (dat3 W c).before_in_eq_fetched 0 rfl (fun _ => rfl) (fun _ _ _ => rfl) (fun _ => rfl) t d
/-- Input 1 holds its block when the body starts. -/
theorem before3_1 (t : Fin cfg3.N) (d) : (dat3 W c).before 1 t d = stg cfg3 W 1 t :=
  (dat3 W c).before_in_eq_fetched 1 rfl (fun _ => rfl) (fun _ _ _ => rfl) (fun _ => rfl) t d
/-- Input 2 holds its block when the body starts. -/
theorem before3_2 (t : Fin cfg3.N) (d) : (dat3 W c).before 2 t d = stg cfg3 W 2 t :=
  (dat3 W c).before_in_eq_fetched 2 rfl (fun _ => rfl) (fun _ _ _ => rfl) (fun _ => rfl) t d
/-- Input 3 holds its block when the body starts. -/
theorem before3_3 (t : Fin cfg3.N) (d) : (dat3 W c).before 3 t d = stg cfg3 W 3 t :=
  (dat3 W c).before_in_eq_fetched 3 rfl (fun _ => rfl) (fun _ _ _ => rfl) (fun _ => rfl) t d
/-- Input 4 holds its block when the body starts. -/
theorem before3_4 (t : Fin cfg3.N) (d) : (dat3 W c).before 4 t d = stg cfg3 W 4 t :=
  (dat3 W c).before_in_eq_fetched 4 rfl (fun _ => rfl) (fun _ _ _ => rfl) (fun _ => rfl) t d
/-- Input 5 holds its block when the body starts. -/
theorem before3_5 (t : Fin cfg3.N) (d) : (dat3 W c).before 5 t d = stg cfg3 W 5 t :=
  (dat3 W c).before_in_eq_fetched 5 rfl (fun _ => rfl) (fun _ _ _ => rfl) (fun _ => rfl) t d
/-- Input 6 holds its block when the body starts. -/
theorem before3_6 (t : Fin cfg3.N) (d) : (dat3 W c).before 6 t d = stg cfg3 W 6 t :=
  (dat3 W c).before_in_eq_fetched 6 rfl (fun _ => rfl) (fun _ _ _ => rfl) (fun _ => rfl) t d
/-- Input 7 holds its block when the body starts. -/
theorem before3_7 (t : Fin cfg3.N) (d) : (dat3 W c).before 7 t d = stg cfg3 W 7 t :=
  (dat3 W c).before_in_eq_fetched 7 rfl (fun _ => rfl) (fun _ _ _ => rfl) (fun _ => rfl) t d
/-- Input 0 holds its block when the body starts. -/
theorem before4_0 (t : Fin cfg4.N) (d) : (dat4 W c).before 0 t d = stg cfg4 W 0 t :=
  (dat4 W c).before_in_eq_fetched 0 rfl (fun _ => rfl) (fun _ _ _ => rfl) (fun _ => rfl) t d

/-! ## The bodies' obligations -/

/-- A body's triple with the invariant and the debts riding beside it. -/
theorem beside {A B P : sProp 𝕄} {prog : Prog (TpuEff nD τ sig (Elt F) Λ₀ .tc) PUnit} {Φ Q : PUnit → sProp 𝕄}
    (h : P ⊢ wp frame (wpE (defs₀ (F := F)) 𝒱₀ (c : Thread nD τ) none) Set.univ prog Φ) (hQ : ∀ x, iprop(A ∗ B ∗ Φ x) ⊢ Q x) :
    iprop(A ∗ B ∗ P) ⊢ wp frame (wpE (defs₀ (F := F)) 𝒱₀ (c : Thread nD τ) none) Set.univ prog Q :=
  (((sep_mono_right (sep_mono_right h)).trans (sep_mono_right (wp_frame_l _ _ _))).trans (wp_frame_l _ _ _)).trans (wp_mono _ _ _ hQ)

/-- The broadcast's body does its part at every point. -/
theorem obl4 : BodyObligation (dat4 W c) (defs₀ (F := F)) 𝒱₀ (none : HIx 2) Set.univ := fun t => by
  rw [bigSep_W4, bigSep_W4]
  iintro ⟨HΦ, Howes, ⟨%d0, H0⟩, ⟨%d1, H1⟩⟩
  rw [before4_0]
  iapply (beside c (body4 c (grid4.coords t) (win4_0.stage (cfg4.slots t 0)) (hstage4_0 ((cfg4.slots t 0).cast nbuf4_0)) (win4_1.stage (cfg4.slots t 1)) (hstage4_1 ((cfg4.slots t 1).cast nbuf4_1)) (stg cfg4 W 0 t) ((dat4 W c).before 1 t d1))
    (A := (dat4 W c).Φ t.castSucc) (B := (dat4 W c).owesAt none t.castSucc) (fun _ => BIBase.Entails.rfl))
  isplitl [HΦ]; · iexact HΦ
  isplitl [Howes]; · iexact Howes
  isplitl [H0]; · iexact H0
  iexact H1

/-- So does the projection's, -/
theorem obl2 : BodyObligation (dat2 W c) (defs₀ (F := F)) 𝒱₀ (none : HIx 2) Set.univ := fun t => by
  rw [bigSep_W2, bigSep_W2]
  iintro ⟨HΦ, Howes, ⟨%d0, H0⟩, ⟨%d1, H1⟩, ⟨%d2, H2⟩, ⟨%d3, H3⟩⟩
  rw [before2_0, before2_1, before2_2]
  iapply (beside c (body2 c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3))
      (stg cfg2 W 0 t) (stg cfg2 W 1 t) (stg cfg2 W 2 t) ((dat2 W c).before 3 t d3))
    (A := (dat2 W c).Φ t.castSucc) (B := (dat2 W c).owesAt none t.castSucc) (fun _ => BIBase.Entails.rfl))
  isplitl [HΦ]; · iexact HΦ
  isplitl [Howes]; · iexact Howes
  isplitl [H0]; · iexact H0
  isplitl [H1]; · iexact H1
  isplitl [H2]; · iexact H2
  iexact H3

/-- and the head's. -/
theorem obl3 : BodyObligation (dat3 W c) (defs₀ (F := F)) 𝒱₀ (none : HIx 2) Set.univ := fun t => by
  rw [bigSep_W3, bigSep_W3]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before3_0, before3_1, before3_2, before3_3, before3_4, before3_5, before3_6, before3_7]
  iapply (beside c (body3 c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (win3_9.stage (cfg3.slots t 9)) (hstage3_9 ((cfg3.slots t 9).cast nbuf3_9))
      (stg cfg3 W 0 t) (stg cfg3 W 1 t) (stg cfg3 W 2 t) (stg cfg3 W 3 t) (stg cfg3 W 4 t) (stg cfg3 W 5 t) (stg cfg3 W 6 t) (stg cfg3 W 7 t) ((dat3 W c).before 8 t d8) ((dat3 W c).before 9 t d9))
    (A := (dat3 W c).Φ t.castSucc) (B := (dat3 W c).owesAt none t.castSucc) (fun _ => BIBase.Entails.rfl))
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end

/-! ## The regions -/

/-- The TensorCore's unscoped buffers. -/
def uc : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W (Proc.devRef .tc b)) : sProp 𝕄) = StableHlo.held (c : Thread nD τ) uc W := by
  unfold unscopedBufs StableHlo.held uc StableHlo.tcRefs
  rw [Finset.filter_map, bigSep_map]
  rfl

/-- The projection's arrays are among the buffers held; -/
theorem arrs2 : Pipeline.arrRefs (τ := τ) spec2 ⊆ uc := by decide +kernel
/-- so are the head's, -/
theorem arrs3 : Pipeline.arrRefs (τ := τ) spec3 ⊆ uc := by decide +kernel
/-- and the broadcast's. -/
theorem arrs4 : Pipeline.arrRefs (τ := τ) spec4 ⊆ uc := by decide +kernel

variable (W2 W3 W4 : Dev nD → Valuation τ sig (Elt F))

/-- The semaphores that the SparseCore calls use. -/
abbrev KL : GSem nD τ sig → Finset (HIx 2) := (Launch.K (F := F)).L
/-- Their levels. -/
abbrev Klev : GSem nD τ sig → HIx 2 → ℕ := (Launch.K (F := F)).lev

/-- A pipeline waits for nothing that the calls owe. -/
theorem cut (p : Fin 3) : Pipeline.LevelCut (pcfgs (F := F)) adm (none : HIx 2) (KL (F := F)) (Klev (F := F)) p (fun _ => (0 : CellTallies nD τ sig (HIx 2))) (fun _ => 0) where
  hι _ _ _ := Finset.mem_univ _
  hιb _ _ _ := Nat.le_refl 0
  hD _ _ _ h := absurd h (Nat.lt_irrefl 0)

set_option backward.isDefEq.respectTransparency.types false in
/-- The projection's entry, -/
theorem ent2 (c : Dev nD) : iprop(Pipeline.scopedRest (Pipeline.pin (pcfgs (F := F)) adm 0).spec c ∗ BI.emp) ⊢ (pdats adm W2 W3 W4 0 c).Φ 0 := by
  rw [show (pdats adm W2 W3 W4 0 c).Φ 0 = Φc spec2 c from rfl]
  iintro ⟨H, -⟩; iexact H

set_option backward.isDefEq.respectTransparency.types false in
/-- and its exit. -/
theorem ext2 (c : Dev nD) : (pdats adm W2 W3 W4 0 c).Φ (Fin.last _) ⊢ iprop(Pipeline.scopedRest (Pipeline.pin (pcfgs (F := F)) adm 0).spec c ∗ BI.emp) := by
  rw [show (pdats adm W2 W3 W4 0 c).Φ (Fin.last _) = Φc spec2 c from rfl]
  iintro H; isplitl [H]; (· iexact H); iempintro

set_option backward.isDefEq.respectTransparency.types false in
/-- The head's entry, -/
theorem ent3 (c : Dev nD) : iprop(Pipeline.scopedRest (Pipeline.pin (pcfgs (F := F)) adm 1).spec c ∗ BI.emp) ⊢ (pdats adm W2 W3 W4 1 c).Φ 0 := by
  rw [show (pdats adm W2 W3 W4 1 c).Φ 0 = Φc spec3 c from rfl]
  iintro ⟨H, -⟩; iexact H

set_option backward.isDefEq.respectTransparency.types false in
/-- and its exit. -/
theorem ext3 (c : Dev nD) : (pdats adm W2 W3 W4 1 c).Φ (Fin.last _) ⊢ iprop(Pipeline.scopedRest (Pipeline.pin (pcfgs (F := F)) adm 1).spec c ∗ BI.emp) := by
  rw [show (pdats adm W2 W3 W4 1 c).Φ (Fin.last _) = Φc spec3 c from rfl]
  iintro H; isplitl [H]; (· iexact H); iempintro

set_option backward.isDefEq.respectTransparency.types false in
/-- The broadcast's entry, -/
theorem ent4 (c : Dev nD) : iprop(Pipeline.scopedRest (Pipeline.pin (pcfgs (F := F)) adm 2).spec c ∗ BI.emp) ⊢ (pdats adm W2 W3 W4 2 c).Φ 0 := by
  rw [show (pdats adm W2 W3 W4 2 c).Φ 0 = Φc spec4 c from rfl]
  iintro ⟨H, -⟩; iexact H

set_option backward.isDefEq.respectTransparency.types false in
/-- and its exit. -/
theorem ext4 (c : Dev nD) : (pdats adm W2 W3 W4 2 c).Φ (Fin.last _) ⊢ iprop(Pipeline.scopedRest (Pipeline.pin (pcfgs (F := F)) adm 2).spec c ∗ BI.emp) := by
  rw [show (pdats adm W2 W3 W4 2 c).Φ (Fin.last _) = Φc spec4 c from rfl]
  iintro H; isplitl [H]; (· iexact H); iempintro

set_option backward.isDefEq.respectTransparency.types false in
/-- The projection as a segment of the program. -/
def reg2 (R : Dev nD → sProp 𝕄) : Pipeline.RegionSeg (pcfgs (F := F)) adm (pdats adm W2 W3 W4) (none : HIx 2) defs₀ 𝒱₀ (KL (F := F)) (Klev (F := F)) 0 :=
  Pipeline.RegionSeg.ofHeldIn (pcfgs (F := F)) adm (pdats adm W2 W3 W4) none defs₀ 𝒱₀ (KL (F := F)) (Klev (F := F)) 0 (fun _ => 0) uc (fun _ => BI.emp) (fun _ => BI.emp)
    (launch2.toP) rfl (fun c => (obl2 (W2 c) c).loose) (fun _ _ => rfl) (fun _ => rfl) (fun c => (pdats adm W2 W3 W4 0 c).share_full fun _ => rfl)
    (ent2 adm W2 W3 W4) (ext2 adm W2 W3 W4) (fun _ => 0) (cut adm 0) R W2 (fun _ _ => rfl)

set_option backward.isDefEq.respectTransparency.types false in
/-- The head as a segment. -/
def reg3 (R : Dev nD → sProp 𝕄) : Pipeline.RegionSeg (pcfgs (F := F)) adm (pdats adm W2 W3 W4) (none : HIx 2) defs₀ 𝒱₀ (KL (F := F)) (Klev (F := F)) 1 :=
  Pipeline.RegionSeg.ofHeldIn (pcfgs (F := F)) adm (pdats adm W2 W3 W4) none defs₀ 𝒱₀ (KL (F := F)) (Klev (F := F)) 1 (fun _ => 0) uc (fun _ => BI.emp) (fun _ => BI.emp)
    (launch3.toP) rfl (fun c => (obl3 (W3 c) c).loose) (fun _ _ => rfl) (fun _ => rfl) (fun c => (pdats adm W2 W3 W4 1 c).share_full fun _ => rfl)
    (ent3 adm W2 W3 W4) (ext3 adm W2 W3 W4) (fun _ => 0) (cut adm 1) R W3 (fun _ _ => rfl)

set_option backward.isDefEq.respectTransparency.types false in
/-- The broadcast as a segment. -/
def reg4 (R : Dev nD → sProp 𝕄) : Pipeline.RegionSeg (pcfgs (F := F)) adm (pdats adm W2 W3 W4) (none : HIx 2) defs₀ 𝒱₀ (KL (F := F)) (Klev (F := F)) 2 :=
  Pipeline.RegionSeg.ofHeldIn (pcfgs (F := F)) adm (pdats adm W2 W3 W4) none defs₀ 𝒱₀ (KL (F := F)) (Klev (F := F)) 2 (fun _ => 0) uc (fun _ => BI.emp) (fun _ => BI.emp)
    (launch4.toP) rfl (fun c => (obl4 (W4 c) c).loose) (fun _ _ => rfl) (fun _ => rfl) (fun c => (pdats adm W2 W3 W4 2 c).share_full fun _ => rfl)
    (ent4 adm W2 W3 W4) (ext4 adm W2 W3 W4) (fun _ => 0) (cut adm 2) R W4 (fun _ _ => rfl)

end Cert.Proof.Regions

end
-- ==== Proof.Ops.lean ====
/-
  The TensorCore's program as straight lines of host operations between the five calls, and the valuation of its
  buffers along the way.
-/
module

public import proofs.«01_k».proof.Proof.Regions
public import Idealize.ShloMosaic.Lib.StableHlo.Run

@[expose] public section

noncomputable section

namespace Cert.Proof.Host

open Cert.KernelIdeal Cert.KernelIdeal.Gen
open Idealize.ShloMosaic
open Idealize.ShloMosaic.StableHlo
open Idealize.ShloMosaic.TcCoe
open Idealize.SL Idealize.SL.RA Idealize.SL.BI
open Idealize.SL.Sem
open Cert.Proof.Launch Cert.Proof.Regions

variable {F : FTy → Type} [FloatOps F] [Named F] [∀ e, Nonempty (Elt F e)]

/-! ## The lines -/

/-- Before the first gather: the candidates as one list. -/
abbrev opsA : List (HloOp τ sig (Elt F)) :=
  [ reshape main_arg0 main_v0 (rfl : (.i32 : EltTy) = .i32) shapeCasts_S1024x100_S102400,
    reshape main_v0 main_v1 (rfl : (.i32 : EltTy) = .i32) shapeCasts_S102400_S1x102400 ]

/-- Between the gathers: the contexts as one list. -/
abbrev opsB : List (HloOp τ sig (Elt F)) :=
  [ reshape main_arg1 main_v3 (rfl : (.i32 : EltTy) = .i32) shapeCasts_S1024x200_S204800,
    reshape main_v3 main_v4 (rfl : (.i32 : EltTy) = .i32) shapeCasts_S204800_S1x204800 ]

/-- Before the projection: the gathered rows by batch, the matrix transposed, the bias as a row. -/
abbrev opsC : List (HloOp τ sig (Elt F)) :=
  [ reshape main_v5 main_v6 (rfl : (.f32 : EltTy) = .f32) shapeCasts_S204800x128_S1024x200x128,
    unary main_arg9 main_v7 ((transpose S128x128 [1, 0] · transposes_S128x128_S128x128_1_0) : (⟨S128x128, .f32⟩ : BufTy).Contents (Elt F) → (⟨S128x128, .f32⟩ : BufTy).Contents (Elt F)),
    reshape main_arg10 main_v8 (rfl : (.f32 : EltTy) = .f32) shapeCasts_S128_S1x128 ]

/-- Before the features: the five scalars stacked, the selector of a row's batch, the weights. -/
abbrev opsD : List (HloOp τ sig (Elt F)) :=
  [ unary main_arg2 main_v10 (broadcastInDim S1x1024x100 ![1, 2] bcast_S1024x100_S1x1024x100_1_2 : (⟨S1024x100, .f32⟩ : BufTy).Contents (Elt F) → (⟨S1x1024x100, .f32⟩ : BufTy).Contents (Elt F)),
    unary main_arg3 main_v11 (broadcastInDim S1x1024x100 ![1, 2] bcast_S1024x100_S1x1024x100_1_2 : (⟨S1024x100, .f32⟩ : BufTy).Contents (Elt F) → (⟨S1x1024x100, .f32⟩ : BufTy).Contents (Elt F)),
    unary main_arg4 main_v12 (broadcastInDim S1x1024x100 ![1, 2] bcast_S1024x100_S1x1024x100_1_2 : (⟨S1024x100, .f32⟩ : BufTy).Contents (Elt F) → (⟨S1x1024x100, .f32⟩ : BufTy).Contents (Elt F)),
    unary main_arg5 main_v13 (broadcastInDim S1x1024x100 ![1, 2] bcast_S1024x100_S1x1024x100_1_2 : (⟨S1024x100, .f32⟩ : BufTy).Contents (Elt F) → (⟨S1x1024x100, .f32⟩ : BufTy).Contents (Elt F)),
    unary main_arg6 main_v14 (broadcastInDim S1x1024x100 ![1, 2] bcast_S1024x100_S1x1024x100_1_2 : (⟨S1024x100, .f32⟩ : BufTy).Contents (Elt F) → (⟨S1x1024x100, .f32⟩ : BufTy).Contents (Elt F)),
    nary ![main_v10, main_v11, main_v12, main_v13, main_v14] main_v15 (fun u => (concatenate S5x1024x100 0 [⟨S1x1024x100, (u 0 : (⟨S1x1024x100, .f32⟩ : BufTy).Contents (Elt F))⟩, ⟨S1x1024x100, (u 1 : (⟨S1x1024x100, .f32⟩ : BufTy).Contents (Elt F))⟩, ⟨S1x1024x100, (u 2 : (⟨S1x1024x100, .f32⟩ : BufTy).Contents (Elt F))⟩, ⟨S1x1024x100, (u 3 : (⟨S1x1024x100, .f32⟩ : BufTy).Contents (Elt F))⟩, ⟨S1x1024x100, (u 4 : (⟨S1x1024x100, .f32⟩ : BufTy).Contents (Elt F))⟩] concatenates_S1x1024x100_S1x1024x100_S1x1024x100_S1x1024x100_S1x1024x100_S5x1024x100_d0 : (⟨S5x1024x100, .f32⟩ : BufTy).Contents (Elt F))),
    reshape main_v15 main_v16 (rfl : (.f32 : EltTy) = .f32) shapeCasts_S5x1024x100_S5x102400,
    unary main_arg11 main_v17 ((transpose S262x1024 [1, 0] · transposes_S1024x262_S262x1024_1_0) : (⟨S1024x262, .f32⟩ : BufTy).Contents (Elt F) → (⟨S262x1024, .f32⟩ : BufTy).Contents (Elt F)),
    nullary main_v18 (iotaInDim S6400 32 0),
    unary main_v18 main_v19 (broadcastInDim S6400x1 ![0] bcast_S6400_S6400x1_0 : (⟨S6400, .i32⟩ : BufTy).Contents (Elt F) → (⟨S6400x1, .i32⟩ : BufTy).Contents (Elt F)),
    nullary main_c (constantI S_ 32 100#32),
    TRef.unary (.of main_c) main_call0.v0 id,
    TRef.unary main_call0.v0 main_call0.v1 (broadcastInDim S6400x1 ![] bcast_S_S6400x1),
    TRef.binary (.of main_v19) main_call0.v1 main_call0.v2 Host.divsi,
    TRef.unary (.of main_v19) main_call0.v3 signi,
    TRef.unary main_call0.v0 main_call0.v4 signi,
    TRef.unary main_call0.v4 main_call0.v5 (broadcastInDim S6400x1 ![] bcast_S_S6400x1),
    TRef.binary main_call0.v3 main_call0.v5 main_call0.v6 (cmpi .ne),
    TRef.unary main_call0.v0 main_call0.v7 (broadcastInDim S6400x1 ![] bcast_S_S6400x1),
    TRef.binary (.of main_v19) main_call0.v7 main_call0.v8 Host.remsi,
    TRef.nullary main_call0.c (constantI S_ 32 0#32),
    TRef.unary main_call0.c main_call0.v9 (broadcastInDim S6400x1 ![] bcast_S_S6400x1),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S6400x1 ![] bcast_S_S6400x1),
    TRef.binary main_call0.v2 main_call0.v12 main_call0.v13 subi,
    TRef.ternary main_call0.v11 main_call0.v13 main_call0.v2 main_call0.call0.v0 select,
    nullary main_v21 (iotaInDim S64 32 0),
    unary main_v21 main_v22 (broadcastInDim S1x64 ![1] bcast_S64_S1x64_1 : (⟨S64, .i32⟩ : BufTy).Contents (Elt F) → (⟨S1x64, .i32⟩ : BufTy).Contents (Elt F)),
    unary main_v20 main_v23 (broadcastInDim S6400x64 ![0, 1] bcast_S6400x1_S6400x64_0_1 : (⟨S6400x1, .i32⟩ : BufTy).Contents (Elt F) → (⟨S6400x64, .i32⟩ : BufTy).Contents (Elt F)),
    unary main_v22 main_v24 (broadcastInDim S6400x64 ![0, 1] bcast_S1x64_S6400x64_0_1 : (⟨S1x64, .i32⟩ : BufTy).Contents (Elt F) → (⟨S6400x64, .i32⟩ : BufTy).Contents (Elt F)),
    binary main_v23 main_v24 main_v25 (cmpi .eq : (⟨S6400x64, .i32⟩ : BufTy).Contents (Elt F) → (⟨S6400x64, .i32⟩ : BufTy).Contents (Elt F) → (⟨S6400x64, .i1⟩ : BufTy).Contents (Elt F)),
    unary main_v25 main_v26 (uitofp .f32 : (⟨S6400x64, .i1⟩ : BufTy).Contents (Elt F) → (⟨S6400x64, .f32⟩ : BufTy).Contents (Elt F)),
    unary main_v17 main_v27 ((truncf .bf16 · bitsLt_bf16_f32) : (⟨S262x1024, .f32⟩ : BufTy).Contents (Elt F) → (⟨S262x1024, .bf16⟩ : BufTy).Contents (Elt F)),
    reshape main_arg12 main_v28 (rfl : (.f32 : EltTy) = .f32) shapeCasts_S1024_S1x1024,
    reshape main_arg13 main_v29 (rfl : (.f32 : EltTy) = .f32) shapeCasts_S1x1024_S1024x1,
    reshape main_arg14 main_v30 (rfl : (.f32 : EltTy) = .f32) shapeCasts_S1_S1x1 ]

/-- After the last region: the contexts and the scores in the results' shapes. -/
abbrev opsE : List (HloOp τ sig (Elt F)) :=
  [ unary main_v32 main_v33 ((transpose S1024x100x128 [1, 0, 2] · transposes_S100x1024x128_S1024x100x128_1_0_2) : (⟨S100x1024x128, .f32⟩ : BufTy).Contents (Elt F) → (⟨S1024x100x128, .f32⟩ : BufTy).Contents (Elt F)),
    reshape main_v31_1 main_v34 (rfl : (.f32 : EltTy) = .f32) shapeCasts_S16x50x128_S1024x100 ]

/-- The rest of the program after each call. -/
abbrev restE : Prog (TpuEff nD τ sig (Elt F) (SparseCore.Sig (ΛP (F := F)) 2) .tc) PUnit := seq opsE >>= fun _ => pure ⟨⟩

set_option maxRecDepth 8192 in
set_option maxHeartbeats 4000000 in
/-- The program is its lines and its calls in turn. -/
theorem main_eq (d : Dev nD) : main (F := F) d
    = seq opsA >>= fun _ => (K (F := F)).run d 0 >>= fun _ => seq opsB >>= fun _ => (K (F := F)).run d 1 >>= fun _ =>
      seq opsC >>= fun _ => Prog.lift (.customCall (SparseCore.inner (Pipeline.entry 0)) ()) >>= fun _ =>
      seq opsD >>= fun _ => Prog.lift (.customCall (SparseCore.inner (Pipeline.entry 1)) ()) >>= fun _ =>
      Prog.lift (.customCall (SparseCore.inner (Pipeline.entry 2)) ()) >>= fun _ => restE := rfl

/-- An operation over the TensorCore's buffers is over its unscoped ones. -/
theorem sub_uc (op : HloOp τ sig (Elt F)) (h : op.bufs ⊆ tcRefs τ sig) : op.bufs ⊆ uc := fun b hb =>
  Finset.mem_filter.mpr ⟨h hb, by rw [op.no_scoped b hb]; decide⟩

/-- Every operation of a line is over the TensorCore's buffers, and determines what it writes. -/
abbrev Good (ops : List (HloOp τ sig (Elt F))) : Prop := ∀ op ∈ ops, op.bufs ⊆ tcRefs τ sig ∧ op.fresh = ∅

/-- The first line is of determined operations over these buffers; -/
theorem goodA : Good (F := F) opsA := by
  simp only [Good, opsA, List.forall_mem_cons, List.not_mem_nil, false_imp_iff, implies_true, and_true]
  refine ⟨⟨reshape_bufs_sub .., rfl⟩, ⟨reshape_bufs_sub .., rfl⟩⟩
/-- so are the second, -/
theorem goodB : Good (F := F) opsB := by
  simp only [Good, opsB, List.forall_mem_cons, List.not_mem_nil, false_imp_iff, implies_true, and_true]
  refine ⟨⟨reshape_bufs_sub .., rfl⟩, ⟨reshape_bufs_sub .., rfl⟩⟩
/-- the third, -/
theorem goodC : Good (F := F) opsC := by
  simp only [Good, opsC, List.forall_mem_cons, List.not_mem_nil, false_imp_iff, implies_true, and_true]
  refine ⟨⟨reshape_bufs_sub .., rfl⟩, ⟨unary_bufs_sub .., rfl⟩, ⟨reshape_bufs_sub .., rfl⟩⟩
/-- the fourth, -/
theorem goodD : Good (F := F) opsD := by
  simp only [Good, opsD, List.forall_mem_cons, List.not_mem_nil, false_imp_iff, implies_true, and_true]
  refine ⟨⟨unary_bufs_sub .., rfl⟩, ⟨unary_bufs_sub .., rfl⟩, ⟨unary_bufs_sub .., rfl⟩, ⟨unary_bufs_sub .., rfl⟩, ⟨unary_bufs_sub .., rfl⟩, ⟨nary_bufs_sub .., rfl⟩, ⟨reshape_bufs_sub .., rfl⟩, ⟨unary_bufs_sub .., rfl⟩, ⟨nullary_bufs_sub .., rfl⟩, ⟨unary_bufs_sub .., rfl⟩, ⟨nullary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨nullary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨reshape_bufs_sub .., rfl⟩, ⟨reshape_bufs_sub .., rfl⟩, ⟨reshape_bufs_sub .., rfl⟩⟩
/-- and the last. -/
theorem goodE : Good (F := F) opsE := by
  simp only [Good, opsE, List.forall_mem_cons, List.not_mem_nil, false_imp_iff, implies_true, and_true]
  refine ⟨⟨unary_bufs_sub .., rfl⟩, ⟨reshape_bufs_sub .., rfl⟩⟩

/-! ## The valuations along the program -/

variable (m : (ℓ : Loc nD τ sig) → Buf (Elt F) ℓ)

/-- What a gather leaves: its output at the gathered rows, all else kept. -/
def upd0 (W : Valuation τ sig (Elt F)) : Valuation τ sig (Elt F) := Function.update W (Proc.devRef .tc main_v2) (out0 W)
/-- So does the second. -/
def upd1 (W : Valuation τ sig (Elt F)) : Valuation τ sig (Elt F) := Function.update W (Proc.devRef .tc main_v5) (out1 W)

/-- Entering the two gathers, then the three regions; and at the end. -/
def E0 (d : Dev nD) : Valuation τ sig (Elt F) := after opsA (launchContents m d)
/-- Entering the second gather. -/
def E1 (d : Dev nD) : Valuation τ sig (Elt F) := after opsB (upd0 (E0 m d))
/-- Entering the projection. -/
def E2 (d : Dev nD) : Valuation τ sig (Elt F) := after opsC (upd1 (E1 m d))
/-- Entering the head. -/
def E3 (d : Dev nD) : Valuation τ sig (Elt F) := after opsD (Pipeline.afterRegion (dat2 (E2 m d) d) (E2 m d))
/-- Entering the broadcast. -/
def E4 (d : Dev nD) : Valuation τ sig (Elt F) := Pipeline.afterRegion (dat3 (E3 m d) d) (E3 m d)
/-- At the end. -/
def Ef (d : Dev nD) : Valuation τ sig (Elt F) := after opsE (Pipeline.afterRegion (dat4 (E4 m d) d) (E4 m d))

end Cert.Proof.Host

end
-- ==== Proof.Main.lean ====
/-
  The whole program's run: the TensorCore's thread over its unscoped buffers, from the launch's contents to `Ef`, and what
  the memory holds when every thread has ended.
-/
module

public import proofs.«01_k».proof.Proof.Ops
public import Idealize.ShloMosaic.Lib.SparseCore.Quiescent

@[expose] public section

noncomputable section

namespace Cert.Proof.Main

open Cert.KernelIdeal Cert.KernelIdeal.Gen
open Idealize.ShloMosaic
open Idealize.ShloMosaic.TcCoe
open Idealize.ShloMosaic.StableHlo (held seq after launchContents)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Tile Cert.Proof.Launch Cert.Proof.Regions Cert.Proof.Host Cert.Proof.Split

variable {F : FTy → Type} [FloatOps F] [Named F] [∀ e, Nonempty (Elt F e)]

local notation "𝕄" => MT nD τ sig (HIx 2) (Elt F) ℕ UU ℕ

/-! ## The ghost state of the pipelines -/

/-- The pipelines' tables: none is prefetched. -/
abbrev adm : (p : Fin 3) → (pcfgs (F := F) p).Adm := fun p => (cfgs p).toPCfg_adm

/-- The pipelines' rounds within the ghost state. -/
abbrev EP : Emb UP (MT nD τ sig (HIx 2) (Elt F) ℕ UU ℕ) := (Emb.inl : Emb UP (UP × Counters)).trans embR

instance EP_lands : (EP (F := F)).LandsIn (upEmb : UEmb _ (MT nD τ sig (HIx 2) (Elt F) ℕ UU ℕ)) := by
  unfold EP embR; infer_instance

/-- The pipelines' cells are different. -/
theorem phinj : Function.Injective (Pipeline.cellOf (nD := nD) (τ := τ) (Pipeline.pin (pcfgs (F := F)) adm)) :=
  (launch2.toP (Val := Elt F)).cellOf_inj adm

/-- A device's part of the pipelines' ghost state. -/
abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

/-- The ghost state at launch. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

variable (m : (ℓ : Loc nD τ sig) → Buf (Elt F) ℓ) (ρ : Dev nD → PrngReg)

/-- What the handshakes carry, at the valuations the gathers are entered at. -/
abbrev PM := P (E0 m) (E1 m)

/-- A product of empties is empty. -/
theorem bigSep_emp' {I : Type} (s : Finset I) : (bigSep s fun _ => iprop(emp)) = (iprop(emp) : sProp 𝕄) := bigSep_emp_const s

/-- The ghost state at launch: the handshakes' rounds, and the pipelines' cells and tokens. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (PM m).x q thr) := by
  unfold u₀
  iintro Hu
  ihave H := (ownU_pair (initOf (K (F := F)).hsCells (K (F := F)).hsToks)
    ((initOf (Pipeline.cells (Pipeline.pin (pcfgs (F := F)) adm) phinj) (Pipeline.launchToks (Pipeline.pin (pcfgs (F := F)) adm) phinj), 1) : UP × Counters)) $$ Hu
  icases H with ⟨HH, HR⟩
  ihave H := (own_pair_emb (embR : Emb (UP × Counters) 𝕄) (initOf (Pipeline.cells (Pipeline.pin (pcfgs (F := F)) adm) phinj) (Pipeline.launchToks (Pipeline.pin (pcfgs (F := F)) adm) phinj)) 1) $$ HR
  icases H with ⟨HP, -⟩
  imod (Pipeline.fund_ghost (Pipeline.pin (pcfgs (F := F)) adm) EP phinj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 2 => (PM m).x q thr) = bigSep Finset.univ fun _ => iprop(emp) from
    bigSep_congr fun _ _ => bigSep_emp' _, bigSep_emp']
  iempintro

/-! ## The gathers -/

/-- The TensorCore's unscoped buffers are a call's three beside the rest. -/
theorem take0 (d : Dev nD) (V W : Valuation τ sig (Elt F)) (f : main_v2.ty.Contents (Elt F)) (hT : V (Proc.devRef .tc main_arg8) = W (Proc.devRef .tc main_arg8))
    (hI : V (Proc.devRef .tc main_v1) = W (Proc.devRef .tc main_v1)) (hO : V (Proc.devRef .tc main_v2) = f) :
    (held (d : Thread nD τ) {Proc.devRef .tc main_arg8, Proc.devRef .tc main_v1, Proc.devRef .tc main_v2} V : sProp 𝕄)
      = bigSep (Finset.univ : Finset (Fin 2)) fun c => (call0 d W).core c f := by
  rw [← Call.dev_cores]
  unfold held Call.dev
  rw [SparseCore.bigSep_insert' (by decide +kernel), SparseCore.bigSep_insert' (by decide +kernel), bigSep_singleton, hT, hI, hO]

/-- What the second gather takes and hands back. -/
theorem take1 (d : Dev nD) (V W : Valuation τ sig (Elt F)) (f : main_v5.ty.Contents (Elt F)) (hT : V (Proc.devRef .tc main_arg7) = W (Proc.devRef .tc main_arg7))
    (hI : V (Proc.devRef .tc main_v4) = W (Proc.devRef .tc main_v4)) (hO : V (Proc.devRef .tc main_v5) = f) :
    (held (d : Thread nD τ) {Proc.devRef .tc main_arg7, Proc.devRef .tc main_v4, Proc.devRef .tc main_v5} V : sProp 𝕄)
      = bigSep (Finset.univ : Finset (Fin 2)) fun c => (call1 d W).core c f := by
  rw [← Call.dev_cores]
  unfold held Call.dev
  rw [SparseCore.bigSep_insert' (by decide +kernel), SparseCore.bigSep_insert' (by decide +kernel), bigSep_singleton, hT, hI, hO]

/-- The first gather's operands are among the buffers held. -/
theorem sub0 : ({Proc.devRef .tc main_arg8, Proc.devRef .tc main_v1, Proc.devRef .tc main_v2} : Finset (DevRef τ sig)) ⊆ uc := by decide +kernel
/-- So are the second's. -/
theorem sub1 : ({Proc.devRef .tc main_arg7, Proc.devRef .tc main_v4, Proc.devRef .tc main_v5} : Finset (DevRef τ sig)) ⊆ uc := by decide +kernel

/-- The rest is as it was. -/
theorem rest0 (d : Dev nD) (W : Valuation τ sig (Elt F)) :
    (held (d : Thread nD τ) (uc \ {Proc.devRef .tc main_arg8, Proc.devRef .tc main_v1, Proc.devRef .tc main_v2}) (upd0 W) : sProp 𝕄)
      = held (d : Thread nD τ) (uc \ {Proc.devRef .tc main_arg8, Proc.devRef .tc main_v1, Proc.devRef .tc main_v2}) W :=
  StableHlo.held_congr _ fun b hb => Function.update_of_ne (fun e => (Finset.mem_sdiff.mp hb).2 (by rw [e]; decide)) _ _
/-- What the second gather leaves alone is the same after it. -/
theorem rest1 (d : Dev nD) (W : Valuation τ sig (Elt F)) :
    (held (d : Thread nD τ) (uc \ {Proc.devRef .tc main_arg7, Proc.devRef .tc main_v4, Proc.devRef .tc main_v5}) (upd1 W) : sProp 𝕄)
      = held (d : Thread nD τ) (uc \ {Proc.devRef .tc main_arg7, Proc.devRef .tc main_v4, Proc.devRef .tc main_v5}) W :=
  StableHlo.held_congr _ fun b hb => Function.update_of_ne (fun e => (Finset.mem_sdiff.mp hb).2 (by rw [e]; decide)) _ _

/-- The first gather, over the TensorCore's unscoped buffers. -/
theorem run0 (κ : GSem nD τ sig → ℕ) (d : Dev nD) (Φ : PUnit → sProp 𝕄) :
    iprop((K (F := F)).ctx EH (PM m) κ ∗ (K (F := F)).tcSt EH d 0 ∗ held (d : Thread nD τ) uc (E0 m d)
        ∗ (((K (F := F)).tcSt EH d 1 ∗ held (d : Thread nD τ) uc (upd0 (E0 m d))) -∗ Φ ⟨⟩))
      ⊢ wp frame (wpE ((K (F := F)).defs (D (F := F))) 𝒱 (SparseCore.T d) none) Set.univ ((K (F := F)).run d 0) Φ := by
  rw [StableHlo.held_sub_split (d : Thread nD τ) sub0 (E0 m d), StableHlo.held_sub_split (d : Thread nD τ) sub0 (upd0 (E0 m d)), rest0,
    take0 d (E0 m d) (E0 m d) (at_ (E0 m d) main_v2) rfl rfl rfl,
    take0 d (upd0 (E0 m d)) (E0 m d) (out0 (E0 m d)) (Function.update_of_ne (by decide) _ _) (Function.update_of_ne (by decide) _ _) (Function.update_self _ _ _)]
  iintro ⟨#Hctx, Hst, ⟨Hc, Hr⟩, Hk⟩
  iapply ((K (F := F)).wp_run (D (F := F)) 𝒱 (EH := EH) (P := PM m) κ d 0) $$ [Hst Hc Hr Hk]
  isplitr; · iexact Hctx
  isplitl [Hst]; · iexact Hst
  isplitl [Hc]; · iexact Hc
  iintro ⟨Hst, Hdn⟩
  iapply Hk
  isplitl [Hst]; · iexact Hst
  isplitl [Hdn]; · iexact Hdn
  iexact Hr

/-- The second gather. -/
theorem run1 (κ : GSem nD τ sig → ℕ) (d : Dev nD) (Φ : PUnit → sProp 𝕄) :
    iprop((K (F := F)).ctx EH (PM m) κ ∗ (K (F := F)).tcSt EH d 1 ∗ held (d : Thread nD τ) uc (E1 m d)
        ∗ (((K (F := F)).tcSt EH d 2 ∗ held (d : Thread nD τ) uc (upd1 (E1 m d))) -∗ Φ ⟨⟩))
      ⊢ wp frame (wpE ((K (F := F)).defs (D (F := F))) 𝒱 (SparseCore.T d) none) Set.univ ((K (F := F)).run d 1) Φ := by
  rw [StableHlo.held_sub_split (d : Thread nD τ) sub1 (E1 m d), StableHlo.held_sub_split (d : Thread nD τ) sub1 (upd1 (E1 m d)), rest1,
    take1 d (E1 m d) (E1 m d) (at_ (E1 m d) main_v5) rfl rfl rfl,
    take1 d (upd1 (E1 m d)) (E1 m d) (out1 (E1 m d)) (Function.update_of_ne (by decide) _ _) (Function.update_of_ne (by decide) _ _) (Function.update_self _ _ _)]
  iintro ⟨#Hctx, Hst, ⟨Hc, Hr⟩, Hk⟩
  iapply ((K (F := F)).wp_run (D (F := F)) 𝒱 (EH := EH) (P := PM m) κ d 1) $$ [Hst Hc Hr Hk]
  isplitr; · iexact Hctx
  isplitl [Hst]; · iexact Hst
  isplitl [Hc]; · iexact Hc
  iintro ⟨Hst, Hdn⟩
  iapply Hk
  isplitl [Hst]; · iexact Hst
  isplitl [Hdn]; · iexact Hdn
  iexact Hr

/-! ## The regions -/

/-- After both gathers the TensorCore owes nothing. -/
theorem tcSt2 (d : Dev nD) : ∃ X : sProp 𝕄, (K (F := F)).tcSt EH d 2 ⊣⊢ iprop((∃ Wd, owes (d : Thread nD τ) (0 : CellTallies nD τ sig (HIx 2)) Wd) ∗ X) := by
  have key : ∀ X : sProp 𝕄, iprop((∃ W, ⌜(K (F := F)).WBelow (SparseCore.T d) W (8 * SparseCore.Cfg.Blocks.fst 2 2 2)⌝ ∗ owes (SparseCore.T d) (0 : CellTallies nD τ sig (HIx 2)) W) ∗ X)
      ⊣⊢ iprop((∃ Wd, owes (d : Thread nD τ) (0 : CellTallies nD τ sig (HIx 2)) Wd) ∗ X) := fun X => by
    constructor
    · iintro ⟨⟨%W, -, HO⟩, HX⟩
      isplitl [HO]
      · iexists W; iexact HO
      iexact HX
    · iintro ⟨⟨%W, HO⟩, HX⟩
      isplitl [HO]
      · iexists W
        isplitr
        · ipureintro
          intro p _
          rcases p with ⟨s, _ | q⟩
          · exact Nat.zero_le _
          · refine ((K (F := F)).lev_some_le _ q).trans ?_
            have := q.isLt
            show 8 * q.val + 7 ≤ 8 * 2
            omega
        iexact HO
      iexact HX
  unfold SparseCore.Cfg.tcSt
  rw [(K (F := F)).Otc_end d (Nat.le_refl 2)]
  exact ⟨_, key _⟩

/-- The proof data of the three pipelines at the program's valuations. -/
abbrev datM := pdats (F := F) adm (E2 m) (E3 m) (E4 m)

/-- Region `p` takes the TensorCore's unscoped buffers from `W` to `W'`, at its place in the program. -/
def Runs (p : Fin 3) (d : Dev nD) (W W' : Valuation τ sig (Elt F)) : Prop := ∀ Φ : PUnit → sProp 𝕄,
    iprop(boundary (d : Thread nD τ) ∗ held (d : Thread nD τ) uc W ∗ (∃ Wd, owes (d : Thread nD τ) (0 : CellTallies nD τ sig (HIx 2)) Wd)
        ∗ levAts (KL (F := F)) (Klev (F := F)) ∗ Pipeline.cellsGhost (Pipeline.pin (pcfgs (F := F)) adm) EP p d ∗ Pipeline.toksInit (Pipeline.pin (pcfgs (F := F)) adm) EP p d
        ∗ ((boundary (d : Thread nD τ) ∗ held (d : Thread nD τ) uc W' ∗ (∃ Wd, owes (d : Thread nD τ) (0 : CellTallies nD τ sig (HIx 2)) Wd)) -∗ Φ ⟨⟩))
      ⊢ wp frame (wpE ((K (F := F)).defs (D (F := F))) 𝒱 (SparseCore.T d) none) Set.univ (Prog.lift (.customCall (SparseCore.inner (Pipeline.entry p)) ())) Φ

/-- A region's record over those buffers gives that. -/
theorem region (p : Fin 3) (d : Dev nD) (W W' : Valuation τ sig (Elt F))
    (R : Pipeline.RegionSeg (pcfgs (F := F)) adm (datM m) (none : HIx 2) defs₀ 𝒱₀ (KL (F := F)) (Klev (F := F)) p)
    (hpre : iprop(held (d : Thread nD τ) uc W ∗ ((∃ Wd, owes (d : Thread nD τ) (0 : CellTallies nD τ sig (HIx 2)) Wd) ∗ BI.emp ∗ BI.emp)) ⊢ R.pre d)
    (hpost : R.post d ⊢ iprop(held (d : Thread nD τ) uc W' ∗ ((∃ Wd, owes (d : Thread nD τ) (0 : CellTallies nD τ sig (HIx 2)) Wd) ∗ BI.emp ∗ BI.emp))) :
    Runs p d W W' := by
  intro Φ
  refine BIBase.Entails.trans ?_ ((K (F := F)).wp_liftProg (D (F := F)) 𝒱 (SparseCore.T d) Set.univ none
    (.op (.customCall (Pipeline.entry p) ()) fun x => .ret x) Φ)
  refine BIBase.Entails.trans ?_ (Pipeline.RegionSeg.wp (pcfgs (F := F)) adm (datM m) none phinj EP defs₀ 𝒱₀ (KL (F := F)) (Klev (F := F)) R d none (fun _ h => nomatch h) (fun x => .ret x) Φ)
  iintro ⟨Hb, Hh, HO, Hl, Hg, Ht, Hk⟩
  isplitl [Hk]
  · iintro ⟨Hb, Hp⟩
    ihave H := hpost $$ Hp
    icases H with ⟨Hh, HO, -⟩
    rw [wp_ret]; imodintro
    iapply Hk
    isplitl [Hb]; · iexact Hb
    isplitl [Hh]; · iexact Hh
    iexact HO
  isplitl [Hb]; · iexact Hb
  isplitl [Hh HO]
  · iapply hpre
    isplitl [Hh]; · iexact Hh
    isplitl [HO]; · iexact HO
    isplitr <;> iempintro
  isplitl [Hl]; · iexact Hl
  isplitl [Hg]; · iexact Hg
  iexact Ht

section Ends

variable (W2 W3 W4 : Dev nD → Valuation τ sig (Elt F))

/-- What a region is entered with and left with, beside the boundary. -/
abbrev At (d : Dev nD) (W : Valuation τ sig (Elt F)) : sProp 𝕄 :=
  iprop(held (d : Thread nD τ) uc W ∗ ((∃ Wd, owes (d : Thread nD τ) (0 : CellTallies nD τ sig (HIx 2)) Wd) ∗ BI.emp ∗ BI.emp))

set_option backward.isDefEq.respectTransparency.types false in
/-- The buffers give the projection its entry. -/
theorem pre2 (d : Dev nD) : At d (W2 d) ⊢ (reg2 adm W2 W3 W4 fun _ => BI.emp).pre d :=
  Pipeline.RegionSeg.ofHeldIn_pre (pcs := pcfgs (F := F)) (a := adm) (pdats := pdats adm W2 W3 W4) (ι := none) (defs₀ := defs₀) (𝒱₀ := 𝒱₀) (L := KL (F := F)) (lv := Klev (F := F)) (p := 0) (D := fun _ => 0) (X := fun _ => BI.emp) (Y := fun _ => BI.emp) arrs2 (W := W2) (R := fun _ => BI.emp) d
set_option backward.isDefEq.respectTransparency.types false in
/-- Its exit gives them back, at what it leaves. -/
theorem post2 (d : Dev nD) : (reg2 adm W2 W3 W4 fun _ => BI.emp).post d ⊢ At d (Pipeline.afterRegion (dat2 (W2 d) d) (W2 d)) :=
  Pipeline.RegionSeg.ofHeldIn_post (pcs := pcfgs (F := F)) (a := adm) (pdats := pdats adm W2 W3 W4) (ι := none) (defs₀ := defs₀) (𝒱₀ := 𝒱₀) (L := KL (F := F)) (lv := Klev (F := F)) (p := 0) (D := fun _ => 0) (X := fun _ => BI.emp) (Y := fun _ => BI.emp) arrs2 (W := W2) (R := fun _ => BI.emp) d
set_option backward.isDefEq.respectTransparency.types false in
/-- The buffers give the head its entry. -/
theorem pre3 (d : Dev nD) : At d (W3 d) ⊢ (reg3 adm W2 W3 W4 fun _ => BI.emp).pre d :=
  Pipeline.RegionSeg.ofHeldIn_pre (pcs := pcfgs (F := F)) (a := adm) (pdats := pdats adm W2 W3 W4) (ι := none) (defs₀ := defs₀) (𝒱₀ := 𝒱₀) (L := KL (F := F)) (lv := Klev (F := F)) (p := 1) (D := fun _ => 0) (X := fun _ => BI.emp) (Y := fun _ => BI.emp) arrs3 (W := W3) (R := fun _ => BI.emp) d
set_option backward.isDefEq.respectTransparency.types false in
/-- Its exit gives them back. -/
theorem post3 (d : Dev nD) : (reg3 adm W2 W3 W4 fun _ => BI.emp).post d ⊢ At d (Pipeline.afterRegion (dat3 (W3 d) d) (W3 d)) :=
  Pipeline.RegionSeg.ofHeldIn_post (pcs := pcfgs (F := F)) (a := adm) (pdats := pdats adm W2 W3 W4) (ι := none) (defs₀ := defs₀) (𝒱₀ := 𝒱₀) (L := KL (F := F)) (lv := Klev (F := F)) (p := 1) (D := fun _ => 0) (X := fun _ => BI.emp) (Y := fun _ => BI.emp) arrs3 (W := W3) (R := fun _ => BI.emp) d
set_option backward.isDefEq.respectTransparency.types false in
/-- The buffers give the broadcast its entry. -/
theorem pre4 (d : Dev nD) : At d (W4 d) ⊢ (reg4 adm W2 W3 W4 fun _ => BI.emp).pre d :=
  Pipeline.RegionSeg.ofHeldIn_pre (pcs := pcfgs (F := F)) (a := adm) (pdats := pdats adm W2 W3 W4) (ι := none) (defs₀ := defs₀) (𝒱₀ := 𝒱₀) (L := KL (F := F)) (lv := Klev (F := F)) (p := 2) (D := fun _ => 0) (X := fun _ => BI.emp) (Y := fun _ => BI.emp) arrs4 (W := W4) (R := fun _ => BI.emp) d
set_option backward.isDefEq.respectTransparency.types false in
/-- Its exit gives them back. -/
theorem post4 (d : Dev nD) : (reg4 adm W2 W3 W4 fun _ => BI.emp).post d ⊢ At d (Pipeline.afterRegion (dat4 (W4 d) d) (W4 d)) :=
  Pipeline.RegionSeg.ofHeldIn_post (pcs := pcfgs (F := F)) (a := adm) (pdats := pdats adm W2 W3 W4) (ι := none) (defs₀ := defs₀) (𝒱₀ := 𝒱₀) (L := KL (F := F)) (lv := Klev (F := F)) (p := 2) (D := fun _ => 0) (X := fun _ => BI.emp) (Y := fun _ => BI.emp) arrs4 (W := W4) (R := fun _ => BI.emp) d

end Ends

/-- The projection's region, at its place in the program. -/
theorem region2 (d : Dev nD) : Runs 0 d (E2 m d) (Pipeline.afterRegion (dat2 (E2 m d) d) (E2 m d)) :=
  region m 0 d _ _ (reg2 adm (E2 m) (E3 m) (E4 m) fun _ => BI.emp) (pre2 (E2 m) (E3 m) (E4 m) d) (post2 (E2 m) (E3 m) (E4 m) d)

/-- The features' and the scores' region. -/
theorem region3 (d : Dev nD) : Runs 1 d (E3 m d) (E4 m d) :=
  region m 1 d _ _ (reg3 adm (E2 m) (E3 m) (E4 m) fun _ => BI.emp) (pre3 (E2 m) (E3 m) (E4 m) d) (post3 (E2 m) (E3 m) (E4 m) d)

/-- The contexts' region. -/
theorem region4 (d : Dev nD) : Runs 2 d (E4 m d) (Pipeline.afterRegion (dat4 (E4 m d) d) (E4 m d)) :=
  region m 2 d _ _ (reg4 adm (E2 m) (E3 m) (E4 m) fun _ => BI.emp) (pre4 (E2 m) (E3 m) (E4 m) d) (post4 (E2 m) (E3 m) (E4 m) d)

/-- A line of host operations over the TensorCore's unscoped buffers. -/
theorem line (d : Dev nD) (ops : List (HloOp τ sig (Elt F))) (hg : Good ops) (V : Valuation τ sig (Elt F)) (Φ : PUnit → sProp 𝕄) :
    iprop(boundary (d : Thread nD τ) ∗ held (d : Thread nD τ) uc V)
      ⊢ iprop(((boundary (d : Thread nD τ) ∗ held (d : Thread nD τ) uc (after ops V)) -∗ Φ ⟨⟩)
        -∗ wp frame (wpE ((K (F := F)).defs (D (F := F))) 𝒱 (SparseCore.T d) none) Set.univ (seq ops) Φ) := by
  have h := StableHlo.wp_seq (defs := (K (F := F)).defs (D (F := F))) 𝒱 none Set.univ d uc (Ix := HIx 2) (Name := ℕ) (U := UU) (Lvl := ℕ) (fun x => (.ret x : Prog _ PUnit)) (K := Φ)
    ops (fun op ho => sub_uc op (hg op ho).1) (fun op ho => (hg op ho).2) V
  iintro H Hk
  rw [show (seq ops : Prog (TpuEff nD τ sig (Elt F) (SparseCore.Sig (ΛP (F := F)) 2) .tc) PUnit) = seq ops >>= fun x => .ret x from (bind_pure _).symm]
  iapply h $$ H
  iintro H
  rw [wp_ret]; imodintro
  iapply Hk; iexact H

/-! ## The thread -/

/-- What the thread ends with. -/
abbrev FIN (d : Dev nD) : sProp 𝕄 := held (d : Thread nD τ) uc (Ef m d)

/-- A product over three. -/
theorem three (f : Fin 3 → sProp 𝕄) : bigSep Finset.univ f = iprop(f 0 ∗ f 1 ∗ f 2) := by
  rw [show (Finset.univ : Finset (Fin 3)) = {0, 1, 2} by decide, SparseCore.bigSep_insert' (by decide), SparseCore.bigSep_insert' (by decide), bigSep_singleton]

/-- @main on device `d`'s TensorCore: its unscoped buffers from the launch's contents to `Ef`. -/
theorem hmain (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  obtain ⟨X, hX1, hX2⟩ := tcSt2 (F := F) d
  unfold SparseCore.Cfg.tcRes SparseCore.Cfg.tcEnd G
  rw [show (unscopedBufs d (fun b => m ((SparseCore.T d).loc b)) : sProp 𝕄) = held (d : Thread nD τ) uc (launchContents m d) from unscopedBufs_held d (launchContents m d),
    main_eq, three, three]
  simp only [wp_bind, wp_pure]
  iintro ⟨#Hctx, Hst, ⟨Hb, Hh, Hts, -⟩, ⟨Hg0, Hg1, Hg2⟩, Ht0, Ht1, Ht2⟩
  iapply (line d opsA goodA (launchContents m d)) $$ [Hb Hh]
  · isplitl [Hb]; · iexact Hb
    iexact Hh
  iintro ⟨Hb, Hh⟩
  iapply (run0 m κ d)
  isplitr; · iexact Hctx
  isplitl [Hst]; · iexact Hst
  isplitl [Hh]; · iexact Hh
  iintro ⟨Hst, Hh⟩
  iapply (line d opsB goodB (upd0 (E0 m d))) $$ [Hb Hh]
  · isplitl [Hb]; · iexact Hb
    iexact Hh
  iintro ⟨Hb, Hh⟩
  iapply (run1 m κ d)
  isplitr; · iexact Hctx
  isplitl [Hst]; · iexact Hst
  isplitl [Hh]; · iexact Hh
  iintro ⟨Hst, Hh⟩
  ihave Hst := hX1 $$ Hst
  icases Hst with ⟨HO, HX⟩
  iapply (line d opsC goodC (upd1 (E1 m d))) $$ [Hb Hh]
  · isplitl [Hb]; · iexact Hb
    iexact Hh
  iintro ⟨Hb, Hh⟩
  ihave #Hl := (SparseCore.Cfg.ctx_levAts κ) $$ Hctx
  iapply (region2 m d _)
  isplitl [Hb]; · iexact Hb
  isplitl [Hh]; · iexact Hh
  isplitl [HO]; · iexact HO
  isplitr; · iexact Hl
  isplitl [Hg0]; · iexact Hg0
  isplitl [Ht0]; · iexact Ht0
  iintro ⟨Hb, Hh, HO⟩
  iapply (line d opsD goodD _) $$ [Hb Hh]
  · isplitl [Hb]; · iexact Hb
    iexact Hh
  iintro ⟨Hb, Hh⟩
  iapply (region3 m d _)
  isplitl [Hb]; · iexact Hb
  isplitl [Hh]; · iexact Hh
  isplitl [HO]; · iexact HO
  isplitr; · iexact Hl
  isplitl [Hg1]; · iexact Hg1
  isplitl [Ht1]; · iexact Ht1
  iintro ⟨Hb, Hh, HO⟩
  iapply (region4 m d _)
  isplitl [Hb]; · iexact Hb
  isplitl [Hh]; · iexact Hh
  isplitl [HO]; · iexact HO
  isplitr; · iexact Hl
  isplitl [Hg2]; · iexact Hg2
  isplitl [Ht2]; · iexact Ht2
  iintro ⟨Hb, Hh, HO⟩
  iapply (line d opsE goodE _) $$ [Hb Hh]
  · isplitl [Hb]; · iexact Hb
    iexact Hh
  iintro ⟨Hb, Hh⟩
  imodintro
  isplitl [HO HX]
  · iapply hX2
    isplitl [HO]; · iexact HO
    iexact HX
  isplitl [Hh]; · iexact Hh
  isplitl [Hb]; · iexact Hb
  iexact Hts

/-! ## The run -/

/-- At the end the memory agrees with `Ef` on the TensorCore's unscoped buffers. -/
def fq (d : Dev nD) (s' : Phys nD τ sig (Elt F)) : Prop := ∀ b ∈ uc, s'.mem.mem (d, b) = Ef m d b

/-- The final resources say what the final memory holds. -/
theorem hfin (d : Dev nD) (s' : Phys nD τ sig (Elt F)) : iprop(FIN m d ∗ SI s') ⊢ (⌜fq m d s'⌝ : sProp 𝕄) := by
  iintro ⟨H, HSI⟩
  ihave H := (SI_pointsTo_bufs_agree (st := s') (c := d) (B := uc) (qs := fun _ => fullShare) (F := Ef m d)) $$ [HSI H]
  · isplitl [HSI]; · iexact HSI
    ihave H := (show (FIN m d : sProp 𝕄) ⊢ bigSep uc (fun b => (d, b) ↦{fullShare} Ef m d b) from BIBase.Entails.rfl) $$ H
    iexact H
  iexact H

/-- At the end: the memory as `Ef` has it on the unscoped buffers, and no semaphore's counter left. -/
def QC : PUnit × MemSt nD τ sig (Elt F) → Prop := fun r => (∀ d : Dev nD, ∀ b ∈ uc, r.2.mem (d, b) = Ef m d b) ∧ r.2.sem = fun _ => 0

/-- Every execution of the program terminates with that, from any launch whose lists name rows of the tables. -/
theorem run_main (hpre : InRange (E0 m) (E1 m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq | 1 => nomatch hq)
    (fun q _ => match q with | 0 => tileObl0 (E0 m) (E1 m) facts hpre | 1 => tileObl1 (E0 m) (E1 m) facts hpre)
    (fun q _ => SparseCore.Cfg.VecSplit.of_plain (vecSplit (E0 m) (E1 m) q))
    m ρ main (fun d => G d) (FIN m) (u₀ (F := F)) (sep_elim_left.trans (hu₀ m)) (hmain m ρ) (fq m) (hfin m) (QC m) (fun _ h hz => ⟨h, hz⟩)

end Cert.Proof.Main

end
-- ==== Proof.Frames.lean ====
/-
  The frames: what the precondition says of the index lists, and that no step of the program writes an argument.
-/
module

public import proofs.«01_k».proof.Proof.Main
public import proofs.«01_k».proof.Proof.Gen.ReferenceIdeal.Run
public import proofs.«01_k».proof.Proof.Gen.Kernel
public import proofs.«01_k».proof.Proof.Gen.Pre_in_range
public import proofs.«01_k».proof.Defs
public import Idealize.ShloMosaic.Lib.ReduceAll

@[expose] public section

noncomputable section

namespace Cert.Proof.Frames

open Cert.KernelIdeal Cert.KernelIdeal.Gen
open Idealize.ShloMosaic
open Idealize.ShloMosaic.StableHlo
open Idealize.ShloMosaic.TcCoe
open Idealize.SL Idealize.SL.RA Idealize.SL.BI
open Idealize.SL.Sem
open Cert.Proof.Launch Cert.Proof.Regions Cert.Proof.Host Cert.Proof.Main

variable {F : FTy → Type} [FloatOps F] [Named F] [∀ e, Nonempty (Elt F e)]

/-! ## The precondition -/

/-- A conjunction of two one-bit words that reads one has both conjuncts one. -/
theorem and_one {a b : BitVec 1} (h : IntOp.andi a b = 1#1) : a = 1#1 ∧ b = 1#1 := by
  revert a b; decide

/-- A word that is at least zero and less than one hundred thousand, read signed, is so read unsigned. -/
theorem toNat_lt {v : BitVec 32} (h0 : IntOp.cmpi .sge v 0#32 = 1#1) (h1 : IntOp.cmpi .slt v 100000#32 = 1#1) : v.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0; rw [e1] at h1
  rw [BitVec.toInt_eq_toNat_cond] at h0 h1
  have := v.isLt
  split at h0 <;> split at h1 <;> omega

instance : Subsingleton Cert.Pre_in_range.S_.Idx := ⟨fun a b => funext fun i => i.elim0⟩

/-- The precondition says that every index of the two lists names a row of the tables. -/
theorem lists_lt [Cert.Pre_in_range.Facts] (a0 : IVec Cert.Pre_in_range.S1024x100 32) (a1 : IVec Cert.Pre_in_range.S1024x200 32)
    (a2 a3 a4 a5 a6 : FVec F Cert.Pre_in_range.S1024x100 .f32) (a7 a8 : FVec F Cert.Pre_in_range.S100000x128 .f32)
    (a9 : FVec F Cert.Pre_in_range.S128x128 .f32) (a10 : FVec F Cert.Pre_in_range.S128 .f32) (a11 : FVec F Cert.Pre_in_range.S1024x262 .f32)
    (a12 : FVec F Cert.Pre_in_range.S1024 .f32) (a13 : FVec F Cert.Pre_in_range.S1x1024 .f32) (a14 : FVec F Cert.Pre_in_range.S1 .f32)
    (h : ∀ j, Cert.Pre_in_range.fn (F := F) a0 a1 a2 a3 a4 a5 a6 a7 a8 a9 a10 a11 a12 a13 a14 j = 1#1) :
    (∀ i, (a0 i).toNat < 100000) ∧ ∀ i, (a1 i).toNat < 100000 := by
  have e := h (fun i => i.elim0)
  simp only [Cert.Pre_in_range.fn, andi] at e
  obtain ⟨e, e4⟩ := and_one e
  obtain ⟨e, e3⟩ := and_one e
  obtain ⟨e1, e2⟩ := and_one e
  exact ⟨fun i => toNat_lt (Host.reduce_andi_all _ _ _ _ _ e1 i) (Host.reduce_andi_all _ _ _ _ _ e2 i),
    fun i => toNat_lt (Host.reduce_andi_all _ _ _ _ _ e3 i) (Host.reduce_andi_all _ _ _ _ _ e4 i)⟩

/-! ## What the program keeps -/

/-- The references the lines write, in order. -/
abbrev wA : List (Ref sig .tc) := [main_v0, main_v1]
/-- What the second line writes, -/
abbrev wB : List (Ref sig .tc) := [main_v3, main_v4]
/-- the third, -/
abbrev wC : List (Ref sig .tc) := [main_v6, main_v7, main_v8]
/-- the fourth, -/
abbrev wD : List (Ref sig .tc) :=
  [main_v10, main_v11, main_v12, main_v13, main_v14, main_v15, main_v16, main_v17, main_v18, main_v19, main_c,
    main_call0.v0.ref, main_call0.v1.ref, main_call0.v2.ref, main_call0.v3.ref, main_call0.v4.ref, main_call0.v5.ref, main_call0.v6.ref,
    main_call0.v7.ref, main_call0.v8.ref, main_call0.c.ref, main_call0.v9.ref, main_call0.v10.ref, main_call0.v11.ref,
    main_call0.c_0.ref, main_call0.v12.ref, main_call0.v13.ref, main_call0.call0.v0.ref,
    main_v21, main_v22, main_v23, main_v24, main_v25, main_v26, main_v27, main_v28, main_v29, main_v30]
/-- the last. -/
abbrev wE : List (Ref sig .tc) := [main_v33, main_v34]

/-- The first line keeps what it does not write. -/
theorem keepsA (V : Valuation τ sig (Elt F)) (r : Ref sig .tc) (h : r ∉ wA) : after opsA V (Proc.devRef .tc r) = V (Proc.devRef .tc r) :=
  after_of_writes_sub opsA V (forall_writes_sub_of_map rfl) h
/-- The second does, -/
theorem keepsB (V : Valuation τ sig (Elt F)) (r : Ref sig .tc) (h : r ∉ wB) : after opsB V (Proc.devRef .tc r) = V (Proc.devRef .tc r) :=
  after_of_writes_sub opsB V (forall_writes_sub_of_map rfl) h
/-- the third, -/
theorem keepsC (V : Valuation τ sig (Elt F)) (r : Ref sig .tc) (h : r ∉ wC) : after opsC V (Proc.devRef .tc r) = V (Proc.devRef .tc r) :=
  after_of_writes_sub opsC V (forall_writes_sub_of_map rfl) h
/-- the fourth, -/
theorem keepsD (V : Valuation τ sig (Elt F)) (r : Ref sig .tc) (h : r ∉ wD) : after opsD V (Proc.devRef .tc r) = V (Proc.devRef .tc r) :=
  after_of_writes_sub opsD V (forall_writes_sub_of_map rfl) h
/-- the last. -/
theorem keepsE (V : Valuation τ sig (Elt F)) (r : Ref sig .tc) (h : r ∉ wE) : after opsE V (Proc.devRef .tc r) = V (Proc.devRef .tc r) :=
  after_of_writes_sub opsE V (forall_writes_sub_of_map rfl) h

/-- The first gather keeps all but its output. -/
theorem keeps0 (V : Valuation τ sig (Elt F)) (r : Ref sig .tc) (h : r ≠ main_v2) : upd0 V (Proc.devRef .tc r) = V (Proc.devRef .tc r) :=
  Function.update_of_ne (devRef_ne_of_ne h) _ _
/-- So does the second. -/
theorem keeps1 (V : Valuation τ sig (Elt F)) (r : Ref sig .tc) (h : r ≠ main_v5) : upd1 V (Proc.devRef .tc r) = V (Proc.devRef .tc r) :=
  Function.update_of_ne (devRef_ne_of_ne h) _ _

/-- The projection's windows are of different arrays. -/
theorem arrInj2 : Function.Injective (Pipeline.arrRef cfg2.spec) := by
  show Function.Injective (Pipeline.arrRef spec2); decide +kernel
/-- So are the head's, -/
theorem arrInj3 : Function.Injective (Pipeline.arrRef cfg3.spec) := by
  show Function.Injective (Pipeline.arrRef spec3); decide +kernel
/-- and the broadcast's. -/
theorem arrInj4 : Function.Injective (Pipeline.arrRef cfg4.spec) := by
  show Function.Injective (Pipeline.arrRef spec4); decide +kernel

/-- The regions write their outputs' arrays alone. -/
theorem keeps2 (W : Valuation τ sig (Elt F)) (d : Dev nD) (r : Ref sig .tc) (h : ∀ w, Pipeline.arrRef spec2 w = r → (cfg2.win w).isOut = false) :
    Pipeline.afterRegion (dat2 W d) W (Proc.devRef .tc r) = W (Proc.devRef .tc r) :=
  Pipeline.afterRegion_keeps (dat2 W d) W arrInj2 (fun _ => rfl) r h
/-- The head writes its outputs alone. -/
theorem keeps3 (W : Valuation τ sig (Elt F)) (d : Dev nD) (r : Ref sig .tc) (h : ∀ w, Pipeline.arrRef spec3 w = r → (cfg3.win w).isOut = false) :
    Pipeline.afterRegion (dat3 W d) W (Proc.devRef .tc r) = W (Proc.devRef .tc r) :=
  Pipeline.afterRegion_keeps (dat3 W d) W arrInj3 (fun _ => rfl) r h
/-- The broadcast does. -/
theorem keeps4 (W : Valuation τ sig (Elt F)) (d : Dev nD) (r : Ref sig .tc) (h : ∀ w, Pipeline.arrRef spec4 w = r → (cfg4.win w).isOut = false) :
    Pipeline.afterRegion (dat4 W d) W (Proc.devRef .tc r) = W (Proc.devRef .tc r) :=
  Pipeline.afterRegion_keeps (dat4 W d) W arrInj4 (fun _ => rfl) r h

/-- What no step of the program writes. -/
structure Untouched (r : Ref sig .tc) : Prop where
  a : r ∉ wA
  b : r ∉ wB
  c : r ∉ wC
  d : r ∉ wD
  e : r ∉ wE
  g0 : r ≠ main_v2
  g1 : r ≠ main_v5
  r2 : ∀ w, Pipeline.arrRef spec2 w = r → (cfg2.win w).isOut = false
  r3 : ∀ w, Pipeline.arrRef spec3 w = r → (cfg3.win w).isOut = false
  r4 : ∀ w, Pipeline.arrRef spec4 w = r → (cfg4.win w).isOut = false

variable (m : (ℓ : Loc nD τ sig) → Buf (Elt F) ℓ)

/-- What no step writes is as launched before the first gather, -/
theorem kept0 {r : Ref sig .tc} (h : Untouched r) (d : Dev nD) : E0 m d (Proc.devRef .tc r) = m (d, Proc.devRef .tc r) :=
  keepsA _ r h.a
/-- before the second, -/
theorem kept1 {r : Ref sig .tc} (h : Untouched r) (d : Dev nD) : E1 m d (Proc.devRef .tc r) = m (d, Proc.devRef .tc r) :=
  (keepsB _ r h.b).trans ((keeps0 _ r h.g0).trans (kept0 m h d))
/-- before the projection, -/
theorem kept2 {r : Ref sig .tc} (h : Untouched r) (d : Dev nD) : E2 m d (Proc.devRef .tc r) = m (d, Proc.devRef .tc r) :=
  (keepsC _ r h.c).trans ((keeps1 _ r h.g1).trans (kept1 m h d))
/-- Across the first region. -/
theorem kept2' {r : Ref sig .tc} (h : Untouched r) (d : Dev nD) :
    Pipeline.afterRegion (dat2 (E2 m d) d) (E2 m d) (Proc.devRef .tc r) = m (d, Proc.devRef .tc r) :=
  (keeps2 (E2 m d) d r h.r2).trans (kept2 m h d)
/-- before the head, -/
theorem kept3 {r : Ref sig .tc} (h : Untouched r) (d : Dev nD) : E3 m d (Proc.devRef .tc r) = m (d, Proc.devRef .tc r) :=
  (keepsD _ r h.d).trans (kept2' m h d)
/-- before the broadcast. -/
theorem kept4 {r : Ref sig .tc} (h : Untouched r) (d : Dev nD) : E4 m d (Proc.devRef .tc r) = m (d, Proc.devRef .tc r) :=
  (keeps3 (E3 m d) d r h.r3).trans (kept3 m h d)
/-- What no step writes ends as it was launched. -/
theorem keptf {r : Ref sig .tc} (h : Untouched r) (d : Dev nD) : Ef m d (Proc.devRef .tc r) = m (d, Proc.devRef .tc r) :=
  (keepsE _ r h.e).trans ((keeps4 (E4 m d) d r h.r4).trans (kept4 m h d))

/-- No step writes argument 0. -/
theorem un0 : Untouched main_arg0 := by constructor <;> decide +kernel
/-- No step writes argument 1. -/
theorem un1 : Untouched main_arg1 := by constructor <;> decide +kernel
/-- No step writes argument 2. -/
theorem un2 : Untouched main_arg2 := by constructor <;> decide +kernel
/-- No step writes argument 3. -/
theorem un3 : Untouched main_arg3 := by constructor <;> decide +kernel
/-- No step writes argument 4. -/
theorem un4 : Untouched main_arg4 := by constructor <;> decide +kernel
/-- No step writes argument 5. -/
theorem un5 : Untouched main_arg5 := by constructor <;> decide +kernel
/-- No step writes argument 6. -/
theorem un6 : Untouched main_arg6 := by constructor <;> decide +kernel
/-- No step writes argument 7. -/
theorem un7 : Untouched main_arg7 := by constructor <;> decide +kernel
/-- No step writes argument 8. -/
theorem un8 : Untouched main_arg8 := by constructor <;> decide +kernel
/-- No step writes argument 9. -/
theorem un9 : Untouched main_arg9 := by constructor <;> decide +kernel
/-- No step writes argument 10. -/
theorem un10 : Untouched main_arg10 := by constructor <;> decide +kernel
/-- No step writes argument 11. -/
theorem un11 : Untouched main_arg11 := by constructor <;> decide +kernel
/-- No step writes argument 12. -/
theorem un12 : Untouched main_arg12 := by constructor <;> decide +kernel
/-- No step writes argument 13. -/
theorem un13 : Untouched main_arg13 := by constructor <;> decide +kernel
/-- No step writes argument 14. -/
theorem un14 : Untouched main_arg14 := by constructor <;> decide +kernel

/-! ## The index lists the gathers read -/

/-- The first gather's list is the candidates' array in row order. -/
theorem list0 (d : Dev nD) : E0 m d (Proc.devRef .tc main_v1)
    = shapeCast S1x102400 (shapeCast S102400 (m (d, Proc.devRef .tc main_arg0) : IVec S1024x100 32) shapeCasts_S1024x100_S102400) shapeCasts_S102400_S1x102400 := by
  unfold E0 opsA; after_results_simp; rfl
/-- The second's is the contexts'. -/
theorem list1' (V : Valuation τ sig (Elt F)) : after opsB V (Proc.devRef .tc main_v4)
    = shapeCast S1x204800 (shapeCast S204800 (V (Proc.devRef .tc main_arg1) : IVec S1024x200 32) shapeCasts_S1024x200_S204800) shapeCasts_S204800_S1x204800 := by
  unfold opsB; after_results_simp; rfl
/-- The second gather's list is the contexts', as launched. -/
theorem list1 (d : Dev nD) : E1 m d (Proc.devRef .tc main_v4)
    = shapeCast S1x204800 (shapeCast S204800 (m (d, Proc.devRef .tc main_arg1) : IVec S1024x200 32) shapeCasts_S1024x200_S204800) shapeCasts_S204800_S1x204800 := by
  rw [E1, list1', keeps0 _ _ un1.g0, kept0 m un1 d]

/-- A fact of every element of an array is one of its reshapes'. -/
theorem shapeCast_all {s t : Shape} {X : Type} (x : s.Idx → X) (h : s.ShapeCasts t) (p : X → Prop) (hx : ∀ i, p (x i)) (j : t.Idx) :
    p (shapeCast t x h j) := by unfold shapeCast; exact hx _

/-- Where every index of the two arrays names a row, so does every index of the lists the gathers read. -/
theorem inRange (h0 : ∀ (d : Dev nD) i, ((m (d, Proc.devRef .tc main_arg0) : IVec S1024x100 32) i).toNat < 100000)
    (h1 : ∀ (d : Dev nD) i, ((m (d, Proc.devRef .tc main_arg1) : IVec S1024x200 32) i).toNat < 100000) : InRange (E0 m) (E1 m) where
  h0 d y := by
    have := shapeCast_all _ shapeCasts_S102400_S1x102400 (fun v : BitVec 32 => v.toNat < 100000)
      (shapeCast_all _ shapeCasts_S1024x100_S102400 (fun v : BitVec 32 => v.toNat < 100000) (h0 d)) y
    rw [← list0 m d] at this; exact this
  h1 d y := by
    have := shapeCast_all _ shapeCasts_S204800_S1x204800 (fun v : BitVec 32 => v.toNat < 100000)
      (shapeCast_all _ shapeCasts_S1024x200_S204800 (fun v : BitVec 32 => v.toNat < 100000) (h1 d)) y
    rw [← list1 m d] at this; exact this

/-! ## The run, with the arguments kept -/

/-- A buffer that no call scopes is among those the program holds. -/
theorem unscoped_mem (r : Ref sig .tc) (h : r.isScoped = false) : (Proc.devRef .tc r : DevRef τ sig) ∈ uc :=
  Finset.mem_filter.mpr ⟨devRef_mem_tcRefs r, by show ¬ (r.isScoped = true); rw [h]; decide⟩

/-- An argument's buffer is as it was launched, in every final state. -/
theorem arg_kept {r : Ref sig .tc} (h : Untouched r) (hs : r.isScoped = false) (d : Dev nD) {mem : (ℓ : Loc nD τ sig) → Buf (Elt F) ℓ}
    (hm : ∀ b ∈ uc, mem (d, b) = Ef m d b) : mem ((d.tc : Thread nD τ).loc r) = m ((d.tc : Thread nD τ).loc r) :=
  (hm _ (unscoped_mem r hs)).trans (keptf m h d)

end Cert.Proof.Frames

end
-- ==== Proof.Same.lean ====
/-
  The kernel's text is the idealized kernel's at the machine's words.
-/
module

public import proofs.«01_k».proof.Proof.Gen.Kernel
public import proofs.«01_k».proof.Proof.Gen.KernelIdeal
public import proofs.«01_k».proof.Defs

@[expose] public section

noncomputable section

namespace Cert.Proof

open Idealize.ShloMosaic

/-- A constant by name is, over the machine's words, the word the program wrote. -/
instance namedBits : Named Bits where
  named _ _ {φ} b := Scalar.ofBits φ b

attribute [local instance] Cert.Kernel.Gen.facts Cert.KernelIdeal.Gen.facts

set_option maxHeartbeats 4000000

/-- The first gather's body is the same, -/
theorem same0 : Cert.Kernel.cc0_gather_kernel (F := Bits) = Cert.KernelIdeal.cc0_gather_kernel (F := Bits) := rfl
/-- and the second's, -/
theorem same1 : Cert.Kernel.cc1_gather_kernel (F := Bits) = Cert.KernelIdeal.cc1_gather_kernel (F := Bits) := rfl

/-- (a sequencer runs none of them) -/
theorem scalar_eq (c) : Cert.Kernel.defs₀ (F := Bits) (.scScalar c) = Cert.KernelIdeal.defs₀ (F := Bits) (.scScalar c) := rfl
/-- (a tile runs none of the three pipelines,) -/
theorem vector2 (c s a) : Cert.Kernel.defs₀ (F := Bits) (.scVector c s) (2 : Fin 5) a = Cert.KernelIdeal.defs₀ (F := Bits) (.scVector c s) (2 : Fin 5) a := rfl
/-- (nor the second,) -/
theorem vector3 (c s a) : Cert.Kernel.defs₀ (F := Bits) (.scVector c s) (3 : Fin 5) a = Cert.KernelIdeal.defs₀ (F := Bits) (.scVector c s) (3 : Fin 5) a := rfl
/-- (nor the third,) -/
theorem vector4 (c s a) : Cert.Kernel.defs₀ (F := Bits) (.scVector c s) (4 : Fin 5) a = Cert.KernelIdeal.defs₀ (F := Bits) (.scVector c s) (4 : Fin 5) a := rfl
/-- (the TensorCore runs no gather,) -/
theorem tc01 (a) : Cert.Kernel.defs₀ (F := Bits) .tc (0 : Fin 5) a = Cert.KernelIdeal.defs₀ (F := Bits) .tc (0 : Fin 5) a := rfl
/-- (neither of them,) -/
theorem tc11 (a) : Cert.Kernel.defs₀ (F := Bits) .tc (1 : Fin 5) a = Cert.KernelIdeal.defs₀ (F := Bits) .tc (1 : Fin 5) a := rfl
/-- the projection's body is the same, -/
theorem tc2 (a) : Cert.Kernel.defs₀ (F := Bits) .tc (2 : Fin 5) a = Cert.KernelIdeal.defs₀ (F := Bits) .tc (2 : Fin 5) a := rfl
/-- the head's, -/
theorem tc3 (a) : Cert.Kernel.defs₀ (F := Bits) .tc (3 : Fin 5) a = Cert.KernelIdeal.defs₀ (F := Bits) .tc (3 : Fin 5) a := rfl
/-- the broadcast's, -/
theorem tc4 (a) : Cert.Kernel.defs₀ (F := Bits) .tc (4 : Fin 5) a = Cert.KernelIdeal.defs₀ (F := Bits) .tc (4 : Fin 5) a := rfl
section
open Cert.Kernel Cert.Kernel.Facts
/-- a tile's first gather is, -/
theorem vector0 (c s a) : Cert.Kernel.defs₀ (F := Bits) (.scVector c s) (0 : Fin 5) a = Cert.KernelIdeal.defs₀ (F := Bits) (.scVector c s) (0 : Fin 5) a := by
  show SparseCore.onTile Cert.Kernel.Facts₀.hcore0 Cert.Kernel.Facts₀.hsub0 (fun c s => Cert.Kernel.cc0_gather_kernel (fun | 0 => c | 1 => s | ⟨_ + 2, h⟩ => absurd h (Nat.not_lt.2 (Nat.le_add_left _ _))) (Memref.whole main_arg8_scv) (Memref.isWhole_whole _) (Memref.whole main_v1_scv) (Memref.isWhole_whole _) (Memref.whole main_v2_scv) (Memref.isWhole_whole _) (Memref.whole cc0_scoped0) (Memref.isWhole_whole _) cc0_scoped1 (Memref.whole cc0_scoped2) (Memref.isWhole_whole _) cc0_scoped3 cc0_scoped4) ⟨⟩ c s = _
  rw [same0]
  rfl
/-- and its second, -/
theorem vector1 (c s a) : Cert.Kernel.defs₀ (F := Bits) (.scVector c s) (1 : Fin 5) a = Cert.KernelIdeal.defs₀ (F := Bits) (.scVector c s) (1 : Fin 5) a := by
  show SparseCore.onTile Cert.Kernel.Facts₀.hcore1 Cert.Kernel.Facts₀.hsub1 (fun c s => Cert.Kernel.cc1_gather_kernel (fun | 0 => c | 1 => s | ⟨_ + 2, h⟩ => absurd h (Nat.not_lt.2 (Nat.le_add_left _ _))) (Memref.whole main_arg7_scv) (Memref.isWhole_whole _) (Memref.whole main_v4_scv) (Memref.isWhole_whole _) (Memref.whole main_v5_scv) (Memref.isWhole_whole _) (Memref.whole cc1_scoped0) (Memref.isWhole_whole _) cc1_scoped1 (Memref.whole cc1_scoped2) (Memref.isWhole_whole _) cc1_scoped3 cc1_scoped4) ⟨⟩ c s = _
  rw [same1]
  rfl

end

/-- and so every body the table names, -/
theorem bodies_eq : Cert.Kernel.defs₀ (F := Bits) = Cert.KernelIdeal.defs₀ (F := Bits) := by
  funext p ℓ a
  cases p with
  | tc =>
    match ℓ, a with
    | 0, a => exact tc01 a
    | 1, a => exact tc11 a
    | 2, a => exact tc2 a
    | 3, a => exact tc3 a
    | 4, a => exact tc4 a
  | scScalar c => exact congrFun (congrFun (scalar_eq c) ℓ) a
  | scVector c s =>
    match ℓ, a with
    | 0, a => exact vector0 c s a
    | 1, a => exact vector1 c s a
    | 2, a => exact vector2 c s a
    | 3, a => exact vector3 c s a
    | 4, a => exact vector4 c s a

/-- and the table of the whole program. -/
theorem defs_eq : Cert.Kernel.defs (F := Bits) = Cert.KernelIdeal.defs (F := Bits) := by
  unfold Cert.Kernel.defs Cert.KernelIdeal.defs
  have h := bodies_eq
  generalize Cert.Kernel.defs₀ (F := Bits) = X at h ⊢
  generalize Cert.KernelIdeal.defs₀ (F := Bits) = Y at h ⊢
  subst h
  rfl

/-- Each thread's program is the same. -/
theorem threads_eq : Cert.Kernel.threads (F := Bits) = Cert.KernelIdeal.threads (F := Bits) := rfl

end Cert.Proof

end
-- ==== Proof.Claims.lean ====
/-
  The frames of the three programs and what the one named constant is.
-/
module

public import proofs.«01_k».proof.Proof.Frames
public import proofs.«01_k».proof.Proof.Same
public import Idealize.ShloMosaic.PureOps.IdealRules

@[expose] public section

noncomputable section

namespace Cert.Proof

open Idealize.ShloMosaic
open Idealize.ShloMosaic.TcCoe
open Idealize.SL.Sem
open Cert.Proof.Host Cert.Proof.Main Cert.Proof.Frames

/-- The idealized kernel's precondition puts the gathers' lists in range. -/
theorem inRange_ideal (m : (ℓ : Loc Cert.KernelIdeal.nD Cert.KernelIdeal.τ Cert.KernelIdeal.sig) → Buf (Elt Ideal) ℓ)
    (h : Cert.Pre_KernelIdeal (hPre_in_range := Cert.Pre_in_range.Gen.facts) m) : Launch.InRange (E0 m) (E1 m) :=
  inRange m (fun d => (lists_lt (F := Ideal) _ _ _ _ _ _ _ _ _ _ _ _ _ _ _ (fun j => congrFun (h d) j)).1)
    (fun d => (lists_lt (F := Ideal) _ _ _ _ _ _ _ _ _ _ _ _ _ _ _ (fun j => congrFun (h d) j)).2)

/-- So does the kernel's. -/
theorem inRange_bits (m : (ℓ : Loc Cert.KernelIdeal.nD Cert.KernelIdeal.τ Cert.KernelIdeal.sig) → Buf (Elt Bits) ℓ)
    (h : Cert.Pre_Kernel (hPre_in_range := Cert.Pre_in_range.Gen.facts) m) : Launch.InRange (E0 m) (E1 m) :=
  inRange m (fun d => (lists_lt (F := Bits) _ _ _ _ _ _ _ _ _ _ _ _ _ _ _ (fun j => congrFun (h d) j)).1)
    (fun d => (lists_lt (F := Bits) _ _ _ _ _ _ _ _ _ _ _ _ _ _ _ (fun j => congrFun (h d) j)).2)

section
open Cert.KernelIdeal
variable {F : FTy → Type} [FloatOps F] [Named F] [∀ e, Nonempty (Elt F e)]

/-- Over any float values: from lists in range the program runs, its arguments end unchanged and every counter at zero. -/
theorem run_args (m : (ℓ : Loc nD τ sig) → Buf (Elt F) ℓ) (ρ : Dev nD → PrngReg) (hr : Launch.InRange (E0 m) (E1 m)) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run (Cert.KernelIdeal.defs (F := F)) _ _).mono (fun _ h => ⟨fun c => ⟨arg_kept m un0 rfl c (h.1 c), arg_kept m un1 rfl c (h.1 c), arg_kept m un2 rfl c (h.1 c), arg_kept m un3 rfl c (h.1 c), arg_kept m un4 rfl c (h.1 c), arg_kept m un5 rfl c (h.1 c), arg_kept m un6 rfl c (h.1 c), arg_kept m un7 rfl c (h.1 c), arg_kept m un8 rfl c (h.1 c), arg_kept m un9 rfl c (h.1 c), arg_kept m un10 rfl c (h.1 c), arg_kept m un11 rfl c (h.1 c), arg_kept m un12 rfl c (h.1 c), arg_kept m un13 rfl c (h.1 c), arg_kept m un14 rfl c (h.1 c)⟩, h.2⟩) (run_main m ρ hr)
end

/-- The idealized kernel runs, keeps its arguments and ends with every counter at zero. -/
theorem frame_kernelIdeal : Cert.quiescent_KernelIdeal (hKernelIdeal := Cert.KernelIdeal.Gen.facts) (hPre_in_range := Cert.Pre_in_range.Gen.facts) :=
  fun m ρ hpre => run_args (F := Ideal) m ρ (inRange_ideal m hpre)

set_option maxHeartbeats 4000000 in
/-- The kernel does: its text is the idealized kernel's at the machine's words. -/
theorem frame_kernel : Cert.quiescent_Kernel (hKernel := Cert.Kernel.Gen.facts) (hPre_in_range := Cert.Pre_in_range.Gen.facts) := by
  intro m ρ hpre
  have h := run_args (F := Bits) m ρ (inRange_bits m hpre)
  have e := defs_eq
  refine Eq.mpr (congrArg (fun D => θ_run D (Cert.Kernel.threads (F := Bits)) ⟨m, fun _ => 0, ρ⟩ _) e) ?_
  exact h

/-- The reference runs, keeps its arguments, and declares no semaphore. -/
theorem frame_reference : Cert.quiescent_ReferenceIdeal (hReferenceIdeal := Cert.ReferenceIdeal.Gen.facts) (hPre_in_range := Cert.Pre_in_range.Gen.facts) :=
  fun m ρ _ => (θ_run (Cert.ReferenceIdeal.defs (F := Ideal)) _ _).mono
    (fun r h => ⟨fun c => (h c).2.2.2, sem_eq_zero_of_no_sems (by decide) r.2⟩) (Cert.ReferenceIdeal.Value.run (F := Ideal) m ρ)

/-- The named constant is the reciprocal of two hundred, over the extended reals. -/
theorem preserves : Cert.preserves_Kernel_KernelIdeal :=
  IdealRules.named_const.statement Cert.KernelIdeal.κ "mean" .f32 _ _ rfl

end Cert.Proof

end
-- ==== Proof.Spec.lean ====
/-
  What the two programs compute, element by element over the extended reals, from the looked-up rows.
-/
module

public import Idealize.ShloMosaic.Lib.Pointwise
public import Idealize.ShloMosaic.PureOps.Ideal

@[expose] public section

noncomputable section

namespace Cert.Proof.Spec

open Idealize.ShloMosaic

/-- An array of `a` by `b`, and of `a` by `b` by `c`, extended reals; a vector of `a`. -/
abbrev Vec1 (a : ℕ) := (⟨1, ![a]⟩ : Shape).Idx → EReal
/-- An array of `a` by `b` extended reals. -/
abbrev Vec2 (a b : ℕ) := (⟨2, ![a, b]⟩ : Shape).Idx → EReal
/-- An array of `a` by `b` by `c`. -/
abbrev Vec3 (a b c : ℕ) := (⟨3, ![a, b, c]⟩ : Shape).Idx → EReal

/-- The least length a context is divided by. -/
def eps : EReal := Ideal.ofBits .f32 0x2B8CBCCC#32

variable (X : Vec3 1024 200 128) (Y : Vec3 1024 100 128)

/-- A context's mean word row, lane by lane. -/
def mean (b : Fin 1024) (e : Fin 128) : EReal := Ideal.div (∑ l : Fin 200, X (ix3 b l e)) ((200 : ℝ) : EReal)

/-- The mean row's length, and not less than the least allowed length. -/
def len (b : Fin 1024) : EReal := max (Ideal.sqrt (∑ e : Fin 128, mean X b e * mean X b e)) eps

variable (wo : Vec2 128 128) (bo : Vec1 128)

/-- A context's linear image. -/
def ctx (b : Fin 1024) (d : Fin 128) : EReal :=
  (∑ e : Fin 128, Ideal.div (mean X b e) (len X b) * wo (ix2 d e)) + bo (ix1 d)

/-- A candidate's five numbers. -/
def scal (p0 p1 p2 p3 p4 : Vec2 1024 100) (b : Fin 1024) (c : Fin 100) (k : ℕ) : EReal :=
  if _ : k < 1 then p0 (ix2 b c) else if _ : k - 1 < 1 then p1 (ix2 b c) else if _ : k - 1 - 1 < 1 then p2 (ix2 b c)
    else if _ : k - 1 - 1 - 1 < 1 then p3 (ix2 b c) else p4 (ix2 b c)

variable (G : Fin 1024 → Fin 128 → EReal) (Z : Fin 1024 → Fin 100 → ℕ → EReal)

/-- A candidate's features: its context's image, the two rows' product, its own row, its five numbers. -/
def feat (b : Fin 1024) (c : Fin 100) (j : Fin 262) : EReal :=
  if h : j.val < 128 then G b ⟨j, h⟩
  else if _ : j.val - 128 < 1 then ∑ e : Fin 128, G b e * Y (ix3 b c e)
  else if h : j.val - 128 - 1 < 128 then Y (ix3 b c ⟨j - 128 - 1, h⟩)
  else Z b c (j - 128 - 1 - 128)

/-- A candidate's score from its features. -/
def score (f : Fin 262 → EReal) (wh : Vec2 1024 262) (bh : Vec1 1024) (wr : Vec2 1 1024) (br : Vec1 1) : EReal :=
  (∑ k : Fin 1024, max ((∑ j : Fin 262, f j * wh (ix2 k j)) + bh (ix1 k)) 0 * wr (ix2 0 k)) + br (ix1 0)

end Cert.Proof.Spec

end
-- ==== Proof.Pay.lean ====
/-
  What the three TensorCore bodies leave, element by element over the extended reals.
-/
module

public import proofs.«01_k».proof.Proof.Bodies
public import proofs.«01_k».proof.Proof.Spec

@[expose] public section

noncomputable section

namespace Cert.Proof.Pay

open Idealize.ShloMosaic
open Cert.KernelIdeal Cert.KernelIdeal.Gen
open Cert.Proof.Bodies

/-- The named constant is a two-hundredth. -/
theorem mean_word : (Named.named κ "mean" 0x3BA3D70A#32 : Ideal .f32) = ((200⁻¹ : ℝ) : EReal) := rfl

/-- Multiplying by the named constant is dividing by two hundred. -/
theorem mul_mean (x : EReal) : x * ((200⁻¹ : ℝ) : EReal) = Ideal.div x ((200 : ℝ) : EReal) := by
  rw [Ideal.div_coe (by norm_num), one_div]

/-- A row of the projection is the context's linear image. -/
theorem pay2 (X : Spec.Vec3 1024 200 128) (wo : Spec.Vec2 128 128) (bo : Spec.Vec1 128) (X1 : FVec Ideal S64x200x128 .f32) (X2 : FVec Ideal S128x128 .f32) (X3 : FVec Ideal S1x128 .f32)
    (b : Fin 1024) (r : Fin 64) (h1 : ∀ l e, X1 (ix3 r l e) = X (ix3 b l e)) (h2 : ∀ e d, X2 (ix2 e d) = wo (ix2 d e)) (h3 : ∀ d, X3 (ix2 0 d) = bo (ix1 d)) (d : Fin 128) :
    k2_pay1 (F := Ideal) X1 X2 X3 (ix2 r d) = Spec.ctx X wo bo b d := by
  pointwise [k2_pay1, mean_word, h1, h2, h3, mul_mean]
  rfl

/-- A row of the flat features. -/
theorem pay3 (Y : Spec.Vec3 1024 100 128) (G : Fin 1024 → Fin 128 → EReal) (Z : Fin 1024 → Fin 100 → ℕ → EReal)
    (X1 : FVec Ideal S6400x128 .f32) (X2 : FVec Ideal S64x128 .f32) (X3 : FVec Ideal S5x6400 .f32) (X4 : FVec Ideal S6400x64 .f32)
    (b : Fin 1024) (c : Fin 100) (r : Fin 64) (n : Fin 6400) (h4 : ∀ k, X4 (ix2 n k) = if k = r then 1 else 0) (h2 : ∀ d, X2 (ix2 r d) = G b d)
    (h1 : ∀ e, X1 (ix2 n e) = Y (ix3 b c e)) (h3 : ∀ k : Fin 5, X3 (ix2 k n) = Z b c k) (j : Fin 262) :
    k3_pay7 (F := Ideal) X2 X4 X1 X3 (ix2 n j) = Spec.feat Y G Z b c j := by
  pointwise [k3_pay7, h4, h1, h3]
  simp only [ite_mul, one_mul, zero_mul, Finset.sum_ite_eq', Finset.mem_univ, if_true, h2]
  rfl

/-- A sum over 1024 is the sum of its four quarters. -/
theorem four (f : Fin 1024 → EReal) : (∑ k, f k) = (∑ k : Fin 256, f ⟨k, by omega⟩) + (∑ k : Fin 256, f ⟨256 + k, by omega⟩)
    + (∑ k : Fin 256, f ⟨512 + k, by omega⟩) + (∑ k : Fin 256, f ⟨768 + k, by omega⟩) := by
  rw [show (∑ k, f k) = (∑ k : Fin (256 + 256 + 256 + 256), f k) from rfl, Fin.sum_univ_add, Fin.sum_univ_add, Fin.sum_univ_add]
  rfl

/-- A quarter of the hidden weights at an index. -/
theorem w5_apply (X5 : FVec Ideal S262x1024 .bf16) (o : ℕ) (inb) (j : Fin 262) (k : Fin 256) (h : o + k.val < 1024) : w5 X5 o inb (ix2 j k) = X5 (ix2 j ⟨o + k, h⟩) := by
  refine congrArg X5 (Shape.idx_ext₂ ?_ ?_)
  · exact (Rect.emb_apply _ _ _).trans (by show 0 + 1 * j.val = j.val; omega)
  · exact (Rect.emb_apply _ _ _).trans (by show o + 1 * k.val = o + k.val; omega)
/-- A quarter of the hidden biases at an index. -/
theorem w6_apply (X6 : FVec Ideal S1x1024 .f32) (o : ℕ) (inb) (k : Fin 256) (h : o + k.val < 1024) : w6 X6 o inb (ix2 0 k) = X6 (ix2 0 ⟨o + k, h⟩) := by
  refine congrArg X6 (Shape.idx_ext₂ ?_ ?_)
  · exact (Rect.emb_apply _ _ _).trans (by show 0 + 1 * 0 = 0; omega)
  · exact (Rect.emb_apply _ _ _).trans (by show o + 1 * k.val = o + k.val; omega)
/-- A quarter of the output weights at an index. -/
theorem w7_apply (X7 : FVec Ideal S1024x1 .f32) (o : ℕ) (inb) (k : Fin 256) (h : o + k.val < 1024) : w7 X7 o inb (ix2 k 0) = X7 (ix2 ⟨o + k, h⟩ 0) := by
  refine congrArg X7 (Shape.idx_ext₂ ?_ ?_)
  · exact (Rect.emb_apply _ _ _).trans (by show o + 1 * k.val = o + k.val; omega)
  · exact (Rect.emb_apply _ _ _).trans (by show 0 + 1 * 0 = 0; omega)

/-- A quarter of the score's sum, from the weights' block of 256. -/
theorem quarter (X5 : FVec Ideal S262x1024 .bf16) (X6 : FVec Ideal S1x1024 .f32) (X7 : FVec Ideal S1024x1 .f32)
    (wh : Spec.Vec2 1024 262) (bh : Spec.Vec1 1024) (wr : Spec.Vec2 1 1024)
    (h5 : ∀ j k, X5 (ix2 j k) = wh (ix2 k j)) (h6 : ∀ k, X6 (ix2 0 k) = bh (ix1 k)) (h7 : ∀ k, X7 (ix2 k 0) = wr (ix2 0 k))
    (o : ℕ) (ho : o + 256 ≤ 1024) (i5 i6 i7) (g : Fin 262 → EReal) :
    (∑ x : Fin 256, max ((∑ j : Fin 262, g j * (w5 X5 o i5 (ix2 j x) : EReal)) + (w6 X6 o i6 (ix2 0 x) : EReal)) 0 * (w7 X7 o i7 (ix2 x 0) : EReal))
      = ∑ k : Fin 256, (fun k : Fin 1024 => max ((∑ j : Fin 262, g j * wh (ix2 k j)) + bh (ix1 k)) 0 * wr (ix2 0 k)) ⟨o + k, by omega⟩ := by
  refine Finset.sum_congr rfl fun x _ => ?_
  have hx : o + x.val < 1024 := by omega
  rw [w6_apply X6 o i6 x hx, w7_apply X7 o i7 x hx, h6, h7]
  refine congrArg (fun z => max (z + bh (ix1 ⟨o + x, hx⟩)) 0 * wr (ix2 0 ⟨o + x, hx⟩)) (Finset.sum_congr rfl fun j _ => ?_)
  rw [w5_apply X5 o i5 j x hx, h5]

/-- A row of the block's scores. -/
theorem pay3s (X1 : FVec Ideal S6400x128 .f32) (X2 : FVec Ideal S64x128 .f32) (X3 : FVec Ideal S5x6400 .f32) (X4 : FVec Ideal S6400x64 .f32) (X5 : FVec Ideal S262x1024 .bf16)
    (X6 : FVec Ideal S1x1024 .f32) (X7 : FVec Ideal S1024x1 .f32) (X8 : FVec Ideal S1x1 .f32)
    (wh : Spec.Vec2 1024 262) (bh : Spec.Vec1 1024) (wr : Spec.Vec2 1 1024) (br : Spec.Vec1 1)
    (h5 : ∀ j k, X5 (ix2 j k) = wh (ix2 k j)) (h6 : ∀ k, X6 (ix2 0 k) = bh (ix1 k)) (h7 : ∀ k, X7 (ix2 k 0) = wr (ix2 0 k)) (h8 : X8 (ix2 0 0) = br (ix1 0))
    (z : Fin 1) (a : Fin 50) (l : Fin 128) (n : Fin 6400) (hn : n.val = 128 * a.val + l.val) :
    score3 (F := Ideal) X1 X2 X3 X4 X5 X6 X7 X8 (ix3 z a l) = Spec.score (fun j => k3_pay7 (F := Ideal) X2 X4 X1 X3 (ix2 n j)) wh bh wr br := by
  pointwise [score3, k3_pay6, k3_pay14, k3_pay13, k3_pay12, k3_pay11, k3_pay10, k3_pay9, k3_pay8, Spec.score]
  have hb : a.val * 128 + l.val < 6400 := by clear hn n; omega
  obtain rfl : n = ⟨a.val * 128 + l.val, hb⟩ := Fin.ext (by show n.val = a.val * 128 + l.val; omega)
  rw [h8, four]
  refine congrArg (fun z => z + br (ix1 0)) ?_
  refine congrArg₂ (· + ·) (congrArg₂ (· + ·) (congrArg₂ (· + ·) ?_ ?_) ?_) ?_
  · refine (quarter X5 X6 X7 wh bh wr h5 h6 h7 0 (by omega) _ _ _ _).trans (Finset.sum_congr rfl fun k _ => ?_)
    have e : (⟨0 + k.val, by omega⟩ : Fin 1024) = ⟨k.val, by omega⟩ := Fin.ext (by show 0 + k.val = k.val; omega)
    rw [e]
  · exact quarter X5 X6 X7 wh bh wr h5 h6 h7 256 (by omega) _ _ _ _
  · exact quarter X5 X6 X7 wh bh wr h5 h6 h7 512 (by omega) _ _ _ _
  · exact quarter X5 X6 X7 wh bh wr h5 h6 h7 768 (by omega) _ _ _ _

end Cert.Proof.Pay

end
-- ==== Proof.RegVal.lean ====
/-
  What the three pipelines leave in their arrays, element by element over the extended reals, at any valuation they are
  entered at.
-/
module

public import proofs.«01_k».proof.Proof.Regions
public import proofs.«01_k».proof.Proof.Pay
public import Idealize.ShloMosaic.Lib.Pipeline.ValueKit.Geometry

@[expose] public section

noncomputable section

namespace Cert.Proof.RegVal

open Cert.KernelIdeal Cert.KernelIdeal.Gen
open Idealize.ShloMosaic
open Idealize.ShloMosaic.TcCoe
open Cert.Proof.Bodies Cert.Proof.Regions

variable (W : Valuation τ sig (Elt Ideal)) (c : Dev nD)

/-- Where the blocks of the projection's windows lie. -/
theorem idx2 : ∀ t : Fin cfg2.N, win2_0.index t = ![t.val, 0, 0] ∧ win2_1.index t = ![0, 0] ∧ win2_2.index t = ![0, 0] ∧ win2_3.index t = ![t.val, 0] :=
  (by decide +kernel : ∀ t : Fin grid2.N, _)

/-- The projection leaves every context's linear image. -/
theorem arr2 (wo : Spec.Vec2 128 128) (bo : Spec.Vec1 128) (h7 : ∀ e d, (W (Proc.devRef .tc main_v7) : FVec Ideal S128x128 .f32) (ix2 e d) = wo (ix2 d e))
    (h8 : ∀ d, (W (Proc.devRef .tc main_v8) : FVec Ideal S1x128 .f32) (ix2 0 d) = bo (ix1 d)) :
    (dat2 W c).arrAt 3 cfg2.N = (fun y : S1024x128.Idx => Spec.ctx (W (Proc.devRef .tc main_v6)) wo bo (y 0) (y 1) : FVec Ideal S1024x128 .f32) := by
  refine (dat2 W c).arrAt_eq_of_covers 3 _ (by decide +kernel) fun t hf y => ?_
  blk_simp
  obtain ⟨i0, i1, i2, i3⟩ := idx2 t
  have hN : t.val < 16 := t.isLt
  have key : ∀ (r : Fin 64) (d : Fin 128), (dat2 W c).after 3 t (ix2 r d) =
      Spec.ctx (W (Proc.devRef .tc main_v6)) wo bo ((win2_3.blk t).view.emb (ix2 r d) 0) ((win2_3.blk t).view.emb (ix2 r d) 1) := by
    intro r d
    have hr : r.val < 64 := r.isLt
    have e0 : (win2_3.blk t).view.emb (ix2 r d) 0 = (⟨64 * t.val + r.val, by omega⟩ : Fin 1024) := by
      apply Fin.ext
      blk_simp [i3]
      show t.val * 64 + r.val = 64 * t.val + r.val
      omega
    have e1 : (win2_3.blk t).view.emb (ix2 r d) 1 = (d : Fin 128) := by
      apply Fin.ext
      blk_simp [i3]
    rw [e0, e1]
    refine Pay.pay2 (W (Proc.devRef .tc main_v6)) wo bo _ _ _ _ r (fun l e => ?_) (fun e d => ?_) (fun d => ?_) d
    · show (W (Proc.devRef .tc main_v6) : FVec Ideal S1024x200x128 .f32) ((win2_0.blk t).view.emb (ix3 r l e)) = _
      refine congrArg _ ?_
      funext a
      apply Fin.ext
      fin_cases a <;> blk_simp [i0]
      · show t.val * 64 + r.val = 64 * t.val + r.val
        omega
      · rfl
      · rfl
    · refine Eq.trans ?_ (h7 e d)
      show (W (Proc.devRef .tc main_v7) : FVec Ideal S128x128 .f32) ((win2_1.blk t).view.emb (ix2 e d)) = _
      blk_ext [i1]
    · refine Eq.trans ?_ (h8 d)
      show (W (Proc.devRef .tc main_v8) : FVec Ideal S1x128 .f32) ((win2_2.blk t).view.emb (ix2 0 d)) = _
      blk_ext [i2]
  have hy : y = ix2 (n0 := 64) (n1 := 128) (y 0) (y 1) := eq_ix2 y
  rw [hy]
  exact key _ _

/-- Where the blocks of the head's windows lie. -/
theorem idx3 : ∀ t : Fin cfg3.N, win3_0.index t = ![t.val, 0] ∧ win3_1.index t = ![t.val, 0] ∧ win3_2.index t = ![0, t.val] ∧ win3_3.index t = ![0, 0]
    ∧ win3_4.index t = ![0, 0] ∧ win3_5.index t = ![0, 0] ∧ win3_6.index t = ![0, 0] ∧ win3_7.index t = ![0, 0]
    ∧ win3_8.index t = ![t.val, 0, 0] ∧ win3_9.index t = ![t.val, 0, 0] :=
  (by decide +kernel : ∀ t : Fin grid3.N, _)

/-- Where those of the broadcast lie. -/
theorem idx4 : ∀ t : Fin cfg4.N, win4_0.index t = ![t.val, 0] ∧ win4_1.index t = ![0, t.val, 0] :=
  (by decide +kernel : ∀ t : Fin grid4.N, _)

/-- What the head reads: the rows of candidates, the contexts, the features of a row, and the rows a context serves. -/
structure Reads (Y : Spec.Vec3 1024 100 128) (G : Fin 1024 → Fin 128 → EReal) (Z : Fin 1024 → Fin 100 → ℕ → EReal) : Prop where
  cand : ∀ (b : Fin 1024) (k : Fin 100) e, (W (Proc.devRef .tc main_v2) : FVec Ideal S102400x128 .f32) (ix2 ⟨100 * b.val + k.val, by omega⟩ e) = Y (ix3 b k e)
  ctx : ∀ b d, (W (Proc.devRef .tc main_v9) : FVec Ideal S1024x128 .f32) (ix2 b d) = G b d
  scal : ∀ (q : Fin 5) (b : Fin 1024) (k : Fin 100), (W (Proc.devRef .tc main_v16) : FVec Ideal S5x102400 .f32) (ix2 q ⟨100 * b.val + k.val, by omega⟩) = Z b k q
  sel : ∀ (n : Fin 6400) (r : Fin 64), (W (Proc.devRef .tc main_v26) : FVec Ideal S6400x64 .f32) (ix2 n r) = (if r.val = n.val / 100 then 1 else 0 : EReal)

/-- What the head leaves at a row of its block: the features of the row's candidate. -/
theorem feat3 (Y : Spec.Vec3 1024 100 128) (G : Fin 1024 → Fin 128 → EReal) (Z : Fin 1024 → Fin 100 → ℕ → EReal) (h : Reads W Y G Z)
    (t : Fin cfg3.N) (r : Fin 64) (k : Fin 100) (b : Fin 1024) (hb : b.val = 64 * t.val + r.val) (n : Fin 6400) (hn : n.val = 100 * r.val + k.val) (j : Fin 262) :
    k3_pay7 (F := Ideal) (stg cfg3 W 1 t) (stg cfg3 W 3 t) (stg cfg3 W 0 t) (stg cfg3 W 2 t) (ix2 n j) = Spec.feat Y G Z b k j := by
  obtain ⟨i0, i1, i2, i3, -⟩ := idx3 t
  have hN : t.val < 16 := t.isLt
  have hr : r.val < 64 := r.isLt
  have hk : k.val < 100 := k.isLt
  refine Pay.pay3 Y G Z _ _ _ _ b k r n (fun q => ?_) (fun d => ?_) (fun e => ?_) (fun q => ?_) j
  · have hq : (n.val / 100) = r.val := by omega
    refine Eq.trans ?_ ((h.sel n q).trans (by rw [hq]; simp only [Fin.ext_iff]))
    show (W (Proc.devRef .tc main_v26) : FVec Ideal S6400x64 .f32) ((win3_3.blk t).view.emb (ix2 n q)) = _
    refine congrArg _ (funext fun a => Fin.ext ?_)
    fin_cases a <;> blk_simp [i3] <;> rfl
  · refine Eq.trans ?_ (h.ctx b d)
    show (W (Proc.devRef .tc main_v9) : FVec Ideal S1024x128 .f32) ((win3_1.blk t).view.emb (ix2 r d)) = _
    refine congrArg _ (funext fun a => Fin.ext ?_)
    fin_cases a <;> blk_simp [i1]
    · show t.val * 64 + r.val = b.val
      omega
    · rfl
  · refine Eq.trans ?_ (h.cand b k e)
    show (W (Proc.devRef .tc main_v2) : FVec Ideal S102400x128 .f32) ((win3_0.blk t).view.emb (ix2 n e)) = _
    refine congrArg _ (funext fun a => Fin.ext ?_)
    fin_cases a <;> blk_simp [i0]
    · show t.val * 6400 + n.val = 100 * b.val + k.val
      omega
    · rfl
  · refine Eq.trans ?_ (h.scal q b k)
    show (W (Proc.devRef .tc main_v16) : FVec Ideal S5x102400 .f32) ((win3_2.blk t).view.emb (ix2 q n)) = _
    refine congrArg _ (funext fun a => Fin.ext ?_)
    fin_cases a <;> blk_simp [i2]
    · rfl
    · show t.val * 6400 + n.val = 100 * b.val + k.val
      omega

/-- The head leaves every row's features. -/
theorem arr38 (Y : Spec.Vec3 1024 100 128) (G : Fin 1024 → Fin 128 → EReal) (Z : Fin 1024 → Fin 100 → ℕ → EReal) (h : Reads W Y G Z) :
    (dat3 W c).arrAt 8 cfg3.N = (fun y : S1024x100x262.Idx => Spec.feat Y G Z (y 0) (y 1) (y 2) : FVec Ideal S1024x100x262 .f32) := by
  refine (dat3 W c).arrAt_eq_of_covers 8 _ (by decide +kernel) fun t hf y => ?_
  blk_simp
  obtain ⟨-, -, -, -, -, -, -, -, i8, -⟩ := idx3 t
  have hN : t.val < 16 := t.isLt
  have key : ∀ (r : Fin 64) (k : Fin 100) (j : Fin 262), (dat3 W c).after 8 t (ix3 r k j) =
      Spec.feat Y G Z ((win3_8.blk t).view.emb (ix3 r k j) 0) ((win3_8.blk t).view.emb (ix3 r k j) 1) ((win3_8.blk t).view.emb (ix3 r k j) 2) := by
    intro r k j
    have hr : r.val < 64 := r.isLt
    have e0 : (win3_8.blk t).view.emb (ix3 r k j) 0 = (⟨64 * t.val + r.val, by omega⟩ : Fin 1024) := by
      apply Fin.ext
      blk_simp [i8]
      show t.val * 64 + r.val = 64 * t.val + r.val
      omega
    have e1 : (win3_8.blk t).view.emb (ix3 r k j) 1 = (k : Fin 100) := by
      apply Fin.ext
      blk_simp [i8]
    have e2 : (win3_8.blk t).view.emb (ix3 r k j) 2 = (j : Fin 262) := by
      apply Fin.ext
      blk_simp [i8]
    rw [e0, e1, e2]
    show k3_pay7 (F := Ideal) (stg cfg3 W 1 t) (stg cfg3 W 3 t) (stg cfg3 W 0 t) (stg cfg3 W 2 t) (frow (ix3 r k j)) = _
    have hf : frow (ix3 r k j) = ix2 ⟨100 * r.val + k.val, by omega⟩ j := by
      rw [eq_ix2 (frow (ix3 r k j))]
      rfl
    rw [hf]
    exact feat3 W Y G Z h t r k _ rfl _ rfl j
  have hy : y = ix3 (n0 := 64) (n1 := 100) (n2 := 262) (y 0) (y 1) (y 2) := eq_ix3 y
  rw [hy]
  exact key _ _ _

/-- The batch and the place of a candidate in the table of scores. -/
def batchOf (a : Fin 16) (p : Fin 50) (q : Fin 128) : Fin 1024 := ⟨64 * a.val + (128 * p.val + q.val) / 100, by omega⟩
/-- A candidate within its batch. -/
def placeOf (p : Fin 50) (q : Fin 128) : Fin 100 := ⟨(128 * p.val + q.val) % 100, Nat.mod_lt _ (by decide)⟩

/-- The head leaves every candidate's score, at the candidate's place in the table of them. -/
theorem arr39 (Y : Spec.Vec3 1024 100 128) (G : Fin 1024 → Fin 128 → EReal) (Z : Fin 1024 → Fin 100 → ℕ → EReal) (h : Reads W Y G Z)
    (wh : Spec.Vec2 1024 262) (bh : Spec.Vec1 1024) (wr : Spec.Vec2 1 1024) (br : Spec.Vec1 1)
    (h5 : ∀ j k, (W (Proc.devRef .tc main_v27) : FVec Ideal S262x1024 .bf16) (ix2 j k) = wh (ix2 k j))
    (h6 : ∀ k, (W (Proc.devRef .tc main_v28) : FVec Ideal S1x1024 .f32) (ix2 0 k) = bh (ix1 k))
    (h7 : ∀ k, (W (Proc.devRef .tc main_v29) : FVec Ideal S1024x1 .f32) (ix2 k 0) = wr (ix2 0 k))
    (h8 : (W (Proc.devRef .tc main_v30) : FVec Ideal S1x1 .f32) (ix2 0 0) = br (ix1 0)) :
    (dat3 W c).arrAt 9 cfg3.N = (fun y : S16x50x128.Idx => Spec.score (fun j => Spec.feat Y G Z
      (batchOf (y 0) (y 1) (y 2)) (placeOf (y 1) (y 2)) j) wh bh wr br : FVec Ideal S16x50x128 .f32) := by
  refine (dat3 W c).arrAt_eq_of_covers 9 _ (by decide +kernel) fun t hf y => ?_
  blk_simp
  obtain ⟨-, -, -, -, i4, i5, i6, i7, -, i9⟩ := idx3 t
  have hN : t.val < 16 := t.isLt
  have key : ∀ (z : Fin 1) (a : Fin 50) (l : Fin 128), (dat3 W c).after 9 t (ix3 z a l) = Spec.score (fun j => Spec.feat Y G Z
      (batchOf ((win3_9.blk t).view.emb (ix3 z a l) 0) ((win3_9.blk t).view.emb (ix3 z a l) 1) ((win3_9.blk t).view.emb (ix3 z a l) 2))
      (placeOf ((win3_9.blk t).view.emb (ix3 z a l) 1) ((win3_9.blk t).view.emb (ix3 z a l) 2)) j) wh bh wr br := by
    intro z a l
    have ha : a.val < 50 := a.isLt
    have hl : l.val < 128 := l.isLt
    have hz : z.val = 0 := by omega
    have e0 : (win3_9.blk t).view.emb (ix3 z a l) 0 = (⟨t.val, hN⟩ : Fin 16) := by
      apply Fin.ext
      blk_simp [i9]
    have e1 : (win3_9.blk t).view.emb (ix3 z a l) 1 = (a : Fin 50) := by
      apply Fin.ext
      blk_simp [i9]
    have e2 : (win3_9.blk t).view.emb (ix3 z a l) 2 = (l : Fin 128) := by
      apply Fin.ext
      blk_simp [i9]
    rw [e0, e1, e2]
    show score3 (F := Ideal) (stg cfg3 W 0 t) (stg cfg3 W 1 t) (stg cfg3 W 2 t) (stg cfg3 W 3 t) (stg cfg3 W 4 t) (stg cfg3 W 5 t) (stg cfg3 W 6 t) (stg cfg3 W 7 t) (ix3 z a l) = _
    refine (Pay.pay3s _ _ _ _ _ _ _ _ wh bh wr br (fun j k => ?_) (fun k => ?_) (fun k => ?_) ?_ z a l ⟨128 * a.val + l.val, by omega⟩ rfl).trans ?_
    · refine Eq.trans ?_ (h5 j k)
      show (W (Proc.devRef .tc main_v27) : FVec Ideal S262x1024 .bf16) ((win3_4.blk t).view.emb (ix2 j k)) = _
      refine congrArg _ (funext fun a => Fin.ext ?_)
      fin_cases a <;> blk_simp [i4] <;> rfl
    · refine Eq.trans ?_ (h6 k)
      show (W (Proc.devRef .tc main_v28) : FVec Ideal S1x1024 .f32) ((win3_5.blk t).view.emb (ix2 0 k)) = _
      refine congrArg _ (funext fun a => Fin.ext ?_)
      fin_cases a <;> blk_simp [i5] <;> rfl
    · refine Eq.trans ?_ (h7 k)
      show (W (Proc.devRef .tc main_v29) : FVec Ideal S1024x1 .f32) ((win3_6.blk t).view.emb (ix2 k 0)) = _
      refine congrArg _ (funext fun a => Fin.ext ?_)
      fin_cases a <;> blk_simp [i6] <;> rfl
    · refine Eq.trans ?_ h8
      show (W (Proc.devRef .tc main_v30) : FVec Ideal S1x1 .f32) ((win3_7.blk t).view.emb (ix2 0 0)) = _
      refine congrArg _ (funext fun a => Fin.ext ?_)
      fin_cases a <;> blk_simp [i7] <;> rfl
    · refine congrArg (fun f => Spec.score f wh bh wr br) (funext fun j => ?_)
      refine feat3 W Y G Z h t ⟨(128 * a.val + l.val) / 100, by omega⟩ _ _ rfl _ ?_ j
      show 128 * a.val + l.val = 100 * ((128 * a.val + l.val) / 100) + (128 * a.val + l.val) % 100
      omega
  have hy : y = ix3 (n0 := 1) (n1 := 50) (n2 := 128) (y 0) (y 1) (y 2) := eq_ix3 y
  rw [hy]
  exact key _ _ _

/-- The broadcast leaves every context, once for each candidate. -/
theorem arr41 : (dat4 W c).arrAt 1 cfg4.N = (fun y : S100x1024x128.Idx => (W (Proc.devRef .tc main_v9) : FVec Ideal S1024x128 .f32) (ix2 (y 1) (y 2)) : FVec Ideal S100x1024x128 .f32) := by
  refine (dat4 W c).arrAt_eq_of_covers 1 _ (by decide +kernel) fun t hf y => ?_
  blk_simp
  obtain ⟨i0, i1⟩ := idx4 t
  have hN : t.val < 4 := t.isLt
  have key : ∀ (q : Fin 100) (r : Fin 256) (d : Fin 128), (dat4 W c).after 1 t (ix3 q r d) =
      (W (Proc.devRef .tc main_v9) : FVec Ideal S1024x128 .f32) (ix2 ((win4_1.blk t).view.emb (ix3 q r d) 1) ((win4_1.blk t).view.emb (ix3 q r d) 2)) := by
    intro q r d
    have hr : r.val < 256 := r.isLt
    have e0 : (win4_1.blk t).view.emb (ix3 q r d) 1 = (⟨256 * t.val + r.val, by omega⟩ : Fin 1024) := by
      apply Fin.ext
      blk_simp [i1]
      show t.val * 256 + r.val = 256 * t.val + r.val
      omega
    have e1 : (win4_1.blk t).view.emb (ix3 q r d) 2 = (d : Fin 128) := by
      apply Fin.ext
      blk_simp [i1]
    rw [e0, e1]
    show k4_pay1 (F := Ideal) (stg cfg4 W 0 t) (ix3 q r d) = _
    have hp : ∀ X : FVec Ideal S256x128 .f32, k4_pay1 (F := Ideal) X (ix3 q r d) = X (ix2 r d) := fun X => by
      pointwise [k4_pay1]
    rw [hp]
    show (W (Proc.devRef .tc main_v9) : FVec Ideal S1024x128 .f32) ((win4_0.blk t).view.emb (ix2 r d)) = _
    refine congrArg _ (funext fun a => Fin.ext ?_)
    fin_cases a <;> blk_simp [i0]
    · show t.val * 256 + r.val = 256 * t.val + r.val
      omega
    · rfl
  have hy : y = ix3 (n0 := 100) (n1 := 256) (n2 := 128) (y 0) (y 1) (y 2) := eq_ix3 y
  rw [hy]
  exact key _ _ _

end Cert.Proof.RegVal

end
-- ==== Proof.HostVal.lean ====
/-
  What the TensorCore's lines leave, read at an index over the extended reals, at any valuation.
-/
module

public import proofs.«01_k».proof.Proof.RegVal
public import proofs.«01_k».proof.Proof.Frames
public import Idealize.ShloMosaic.Lib.Pointwise
public import Idealize.ShloMosaic.Lib.StableHlo.ReadAt

@[expose] public section

noncomputable section

namespace Cert.Proof.HostVal

open Cert.KernelIdeal Cert.KernelIdeal.Gen
open Idealize.ShloMosaic
open Idealize.ShloMosaic.StableHlo
open Idealize.ShloMosaic.TcCoe
open Cert.Proof.Host

variable (W : Valuation τ sig (Elt Ideal))

/-- The gathered contexts by batch. -/
theorem c6 (b : Fin 1024) (l : Fin 200) (e : Fin 128) : (after opsC W (Proc.devRef .tc main_v6) : FVec Ideal S1024x200x128 .f32) (ix3 b l e)
    = (W (Proc.devRef .tc main_v5) : FVec Ideal S204800x128 .f32) (ix2 ⟨200 * b.val + l.val, by omega⟩ e) := by
  after_reads_at
  exact congrArg _ (congrArg (fun z => ix2 z e) (Fin.ext (by show b.val * 200 + l.val = 200 * b.val + l.val; omega)))
/-- The matrix transposed. -/
theorem c7 (e d : Fin 128) : (after opsC W (Proc.devRef .tc main_v7) : FVec Ideal S128x128 .f32) (ix2 e d)
    = (W (Proc.devRef .tc main_arg9) : FVec Ideal S128x128 .f32) (ix2 d e) := by
  after_reads_at
/-- The bias as a row. -/
theorem c8 (d : Fin 128) : (after opsC W (Proc.devRef .tc main_v8) : FVec Ideal S1x128 .f32) (ix2 0 d)
    = (W (Proc.devRef .tc main_arg10) : FVec Ideal S128 .f32) (ix1 d) := by
  after_reads_at

/-- The five numbers of a candidate. -/
theorem d16 (q : Fin 5) (b : Fin 1024) (k : Fin 100) : (after opsD W (Proc.devRef .tc main_v16) : FVec Ideal S5x102400 .f32) (ix2 q ⟨100 * b.val + k.val, by omega⟩)
    = Spec.scal (W (Proc.devRef .tc main_arg2)) (W (Proc.devRef .tc main_arg3)) (W (Proc.devRef .tc main_arg4)) (W (Proc.devRef .tc main_arg5)) (W (Proc.devRef .tc main_arg6)) b k q := by
  after_reads_at
  simp only [Spec.scal, upto]
  refine dite_congr rfl (fun _ => ?_) fun _ => dite_congr rfl (fun _ => ?_) fun _ => dite_congr rfl (fun _ => ?_) fun _ => dite_congr rfl (fun _ => ?_) fun _ => ?_
  · after_reads_at
  · after_reads_at
  · after_reads_at
  · after_reads_at
  · after_reads_at
/-- The floor quotient by a hundred, as the host spells it, of a row's number. -/
theorem floor_word : ∀ n : Fin 6400, (Scalar.select
          (IntOp.andi
            (IntOp.cmpi CmpIPredicate.ne
              (if BitVec.ofNat 32 n.val = 0 then 0 else if (BitVec.ofNat 32 n.val).msb = true then -1 else 1 : BitVec 32)
              (if (100#32 : BitVec 32) = 0 then 0
              else if BitVec.msb (100#32) = true then -1 else 1 : BitVec 32))
            (IntOp.cmpi CmpIPredicate.ne
              (IntOp.remsi ArithUnit.host (BitVec.ofNat 32 n.val) (100#32)) 0#32))
          (IntOp.subi (IntOp.divsi ArithUnit.host (BitVec.ofNat 32 n.val) (100#32)) 1#32)
          (IntOp.divsi ArithUnit.host (BitVec.ofNat 32 n.val) (100#32)) : BitVec 32) = BitVec.ofNat 32 (n.val / 100) := by
  decide +kernel
/-- The selector of a row's batch. -/
theorem d26 (n : Fin 6400) (r : Fin 64) : (after opsD W (Proc.devRef .tc main_v26) : FVec Ideal S6400x64 .f32) (ix2 n r)
    = (if r.val = n.val / 100 then 1 else 0 : EReal) := by
  after_reads_at
  refine (congrArg (fun w : BitVec 32 => (FloatOps.uitofp (F := Ideal) FTy.f32 (IntOp.cmpi CmpIPredicate.eq w (BitVec.ofNat 32 r.val)))) (floor_word n)).trans ?_
  have hn : n.val / 100 < 64 := by omega
  by_cases h : r.val = n.val / 100
  · rw [if_pos h, ← h]
    have : IntOp.cmpi CmpIPredicate.eq (BitVec.ofNat 32 r.val) (BitVec.ofNat 32 r.val) = 1#1 := by simp [IntOp.cmpi]
    rw [this]
    show (((1#1 : BitVec 1).toNat : ℝ) : EReal) = 1
    simp
  · rw [if_neg h]
    have : IntOp.cmpi CmpIPredicate.eq (BitVec.ofNat 32 (n.val / 100)) (BitVec.ofNat 32 r.val) = 0#1 := by
      have hne : BitVec.ofNat 32 (n.val / 100) ≠ BitVec.ofNat 32 r.val := fun e => h (by
        have := congrArg BitVec.toNat e
        simp only [BitVec.toNat_ofNat] at this
        omega)
      show BitVec.ofBool (BitVec.ofNat 32 (n.val / 100) == BitVec.ofNat 32 r.val) = 0#1
      rw [beq_eq_false_iff_ne.2 hne]
      rfl
    rw [this]
    show (((0#1 : BitVec 1).toNat : ℝ) : EReal) = 0
    simp
/-- The hidden weights transposed. -/
theorem d27 (j : Fin 262) (k : Fin 1024) : (after opsD W (Proc.devRef .tc main_v27) : FVec Ideal S262x1024 .bf16) (ix2 j k)
    = (W (Proc.devRef .tc main_arg11) : FVec Ideal S1024x262 .f32) (ix2 k j) := by
  after_reads_at
  trace_state
/-- The hidden biases as a row. -/
theorem d28 (k : Fin 1024) : (after opsD W (Proc.devRef .tc main_v28) : FVec Ideal S1x1024 .f32) (ix2 0 k)
    = (W (Proc.devRef .tc main_arg12) : FVec Ideal S1024 .f32) (ix1 k) := by
  after_reads_at
/-- The output weights as a column. -/
theorem d29 (k : Fin 1024) : (after opsD W (Proc.devRef .tc main_v29) : FVec Ideal S1024x1 .f32) (ix2 k 0)
    = (W (Proc.devRef .tc main_arg13) : FVec Ideal S1x1024 .f32) (ix2 0 k) := by
  after_reads_at
/-- The output bias. -/
theorem d30 : (after opsD W (Proc.devRef .tc main_v30) : FVec Ideal S1x1 .f32) (ix2 0 0)
    = (W (Proc.devRef .tc main_arg14) : FVec Ideal S1 .f32) (ix1 0) := by
  after_reads_at

/-- The contexts by batch, then candidate. -/
theorem e33 (b : Fin 1024) (k : Fin 100) (d : Fin 128) : (after opsE W (Proc.devRef .tc main_v33) : FVec Ideal S1024x100x128 .f32) (ix3 b k d)
    = (W (Proc.devRef .tc main_v32) : FVec Ideal S100x1024x128 .f32) (ix3 k b d) := by
  after_reads_at
/-- The scores by batch, then candidate. -/
theorem e34 (b : Fin 1024) (k : Fin 100) : (after opsE W (Proc.devRef .tc main_v34) : FVec Ideal S1024x100 .f32) (ix2 b k)
    = (W (Proc.devRef .tc main_v31_1) : FVec Ideal S16x50x128 .f32)
      (ix3 ⟨b.val / 64, by omega⟩ ⟨(100 * b.val + k.val) % 6400 / 128, by omega⟩ ⟨(100 * b.val + k.val) % 128, by omega⟩) := by
  after_reads_at
  refine congrArg _ (congrArg₂ (fun y z => ix3 _ y z) (Fin.ext ?_) (Fin.ext ?_))
  · show (b.val * 100 + k.val) / 128 % 50 = (100 * b.val + k.val) % 6400 / 128
    omega
  · show (b.val * 100 + k.val) % 128 = (100 * b.val + k.val) % 128
    omega

end Cert.Proof.HostVal

end
-- ==== Proof.Ref.lean ====
/-
  The reference's three results, element by element.
-/
module

public import proofs.«01_k».proof.Proof.Gen.ReferenceIdeal.Run
public import proofs.«01_k».proof.Proof.Spec
public import Idealize.ShloMosaic.Lib.ReduceAll

@[expose] public section

noncomputable section

namespace Cert.Proof.Ref

open Idealize.ShloMosaic Idealize.ShloMosaic.TcCoe Idealize.SL.Sem
open Cert.ReferenceIdeal Cert.ReferenceIdeal.Gen

/-- A context's linear image as the reference writes it, from the looked-up word rows. -/
def ctxR (X : FVec Ideal S1024x200x128 .f32) (wo : FVec Ideal S128x128 .f32) (bo : FVec Ideal S128 .f32) : FVec Ideal S1024x128 .f32 :=
  have mn : FVec Ideal S1024x128 .f32 := Host.divf (Host.reduceAdd X (constant S_ .f32 0x00000000#32) reducesTo_S1024x200x128_S1024x128_d1 h_S_) (broadcastInDim S1024x128 ![] bcast_S_S1024x128 (constant S_ .f32 0x43480000#32))
  addf (Host.dotGeneral dot_S1024x128_S128x128_S1024x128_1_0_0_1_n_n none (Host.divf mn (broadcastInDim S1024x128 ![0, 1] bcast_S1024x1_S1024x128_0_1 (maximumf (Host.sqrt (broadcastInDim S1024x1 ![0] bcast_S1024_S1024x1_0 (Host.reduceAdd (mulf mn mn) (constant S_ .f32 0x00000000#32) reducesTo_S1024x128_S1024_d1 h_S_))) (broadcastInDim S1024x1 ![] bcast_S_S1024x1 (constant S_ .f32 0x2B8CBCCC#32))))) (transpose S128x128 [1, 0] wo transposes_S128x128_S128x128_1_0)) (broadcastInDim S1024x128 ![0, 1] bcast_S1x128_S1024x128_0_1 (broadcastInDim S1x128 ![1] bcast_S128_S1x128_1 bo))

/-- The divisor of the mean is 200. -/
theorem word200 : Ideal.ofBits .f32 0x43480000#32 = ((200 : ℝ) : EReal) := by
  simp [Ideal.ofBits, Ideal.ieee, -EReal.coe_mul]; norm_num

/-- A context's image at a lane. -/
theorem ctxR_apply (X : FVec Ideal S1024x200x128 .f32) (wo : FVec Ideal S128x128 .f32) (bo : FVec Ideal S128 .f32) (b : Fin 1024) (d : Fin 128) :
    ctxR X wo bo (ix2 b d) = Spec.ctx X wo bo b d := by
  pointwise [ctxR]
  rw [show Ideal.ofBits FTy.f32 1128792064#32 = ((200 : ℝ) : EReal) from word200]
  rfl

/-- A context's image under each of its candidates. -/
def bcR (x : FVec Ideal S1024x128 .f32) : FVec Ideal S1024x100x128 .f32 :=
  broadcastInDim S1024x100x128 ![0, 1, 2] bcast_S1024x1x128_S1024x100x128_0_1_2 (broadcastInDim S1024x1x128 ![0, 2] bcast_S1024x128_S1024x1x128_0_2 x)

/-- The broadcast at an index. -/
theorem bcR_apply (x : FVec Ideal S1024x128 .f32) (b : Fin 1024) (c : Fin 100) (d : Fin 128) : bcR x (ix3 b c d) = x (ix2 b d) := by
  pointwise [bcR]

/-- The candidates' features as the reference writes them, from the contexts' images and the looked-up rows. -/
def featR (g : FVec Ideal S1024x100x128 .f32) (Y : FVec Ideal S1024x100x128 .f32) (p0 p1 p2 p3 p4 : FVec Ideal S1024x100 .f32) : FVec Ideal S1024x100x262 .f32 :=
  concatenate S1024x100x262 2 [⟨S1024x100x128, g⟩,
    ⟨S1024x100x1, broadcastInDim S1024x100x1 ![0, 1] bcast_S1024x100_S1024x100x1_0_1 (Host.reduceAdd (mulf g Y) (constant S_ .f32 0x00000000#32) reducesTo_S1024x100x128_S1024x100_d2 h_S_)⟩,
    ⟨S1024x100x128, Y⟩,
    ⟨S1024x100x1, broadcastInDim S1024x100x1 ![0, 1] bcast_S1024x100_S1024x100x1_0_1 p0⟩,
    ⟨S1024x100x1, broadcastInDim S1024x100x1 ![0, 1] bcast_S1024x100_S1024x100x1_0_1 p1⟩,
    ⟨S1024x100x1, broadcastInDim S1024x100x1 ![0, 1] bcast_S1024x100_S1024x100x1_0_1 p2⟩,
    ⟨S1024x100x1, broadcastInDim S1024x100x1 ![0, 1] bcast_S1024x100_S1024x100x1_0_1 p3⟩,
    ⟨S1024x100x1, broadcastInDim S1024x100x1 ![0, 1] bcast_S1024x100_S1024x100x1_0_1 p4⟩]
    concatenates_S1024x100x128_S1024x100x1_S1024x100x128_S1024x100x1_S1024x100x1_S1024x100x1_S1024x100x1_S1024x100x1_S1024x100x262_d2

/-- A candidate's features at an index. -/
theorem featR_apply (G : Fin 1024 → Fin 128 → EReal) (g Y : FVec Ideal S1024x100x128 .f32) (p0 p1 p2 p3 p4 : FVec Ideal S1024x100 .f32)
    (hg : ∀ b c d, g (ix3 b c d) = G b d) (b : Fin 1024) (c : Fin 100) (j : Fin 262) :
    featR g Y p0 p1 p2 p3 p4 (ix3 b c j) = Spec.feat Y G (Spec.scal p0 p1 p2 p3 p4) b c j := by
  pointwise [featR, Spec.feat, Spec.scal, hg]

/-- The candidates' scores as the reference writes them, from their features. -/
def scoreR (f : FVec Ideal S1024x100x262 .f32) (wh : FVec Ideal S1024x262 .f32) (bh : FVec Ideal S1024 .f32) (wr : FVec Ideal S1x1024 .f32) (br : FVec Ideal S1 .f32) : FVec Ideal S1024x100 .f32 :=
  shapeCast _ (addf (Host.dotGeneral dot_S1024x100x1024_S1024x1_S1024x100x1_2_0_01_1_n_n none (maximumf (addf (Host.dotGeneral dot_S1024x100x262_S262x1024_S1024x100x1024_2_0_01_1_n_n none f (transpose S262x1024 [1, 0] wh transposes_S1024x262_S262x1024_1_0)) (broadcastInDim S1024x100x1024 ![0, 1, 2] bcast_S1x1x1024_S1024x100x1024_0_1_2 (broadcastInDim S1x1x1024 ![2] bcast_S1024_S1x1x1024_2 bh))) (broadcastInDim S1024x100x1024 ![] bcast_S_S1024x100x1024 (constant S_ .f32 0x00000000#32))) (transpose S1024x1 [1, 0] wr transposes_S1x1024_S1024x1_1_0)) (broadcastInDim S1024x100x1 ![0, 1, 2] bcast_S1x1x1_S1024x100x1_0_1_2 (broadcastInDim S1x1x1 ![2] bcast_S1_S1x1x1_2 br))) shapeCasts_S1024x100x1_S1024x100

/-- A candidate's score. -/
theorem scoreR_apply (f : FVec Ideal S1024x100x262 .f32) (wh : FVec Ideal S1024x262 .f32) (bh : FVec Ideal S1024 .f32) (wr : FVec Ideal S1x1024 .f32) (br : FVec Ideal S1 .f32)
    (b : Fin 1024) (c : Fin 100) : scoreR f wh bh wr br (ix2 b c) = Spec.score (fun j => f (ix3 b c j)) wh bh wr br := by
  pointwise [scoreR, Spec.score]

/-- Where a listed number is negative the table's height is added. -/
def wrap2 (w : IVec S1024x200 32) : IVec S1024x200x1 32 :=
  broadcastInDim S1024x200x1 ![0, 1] bcast_S1024x200_S1024x200x1_0_1 (select (cmpi .slt w (broadcastInDim S1024x200 ![] bcast_S_S1024x200 (constantI S_ 32 0#32))) (addi w (broadcastInDim S1024x200 ![] bcast_S_S1024x200 (constantI S_ 32 100000#32))) w)
/-- The same for the candidates' numbers. -/
def wrap1 (w : IVec S1024x100 32) : IVec S1024x100x1 32 :=
  broadcastInDim S1024x100x1 ![0, 1] bcast_S1024x100_S1024x100x1_0_1 (select (cmpi .slt w (broadcastInDim S1024x100 ![] bcast_S_S1024x100 (constantI S_ 32 0#32))) (addi w (broadcastInDim S1024x100 ![] bcast_S_S1024x100 (constantI S_ 32 100000#32))) w)

/-- The word table's rows at the contexts' words as the reference looks them up. -/
def take2 (T : FVec Ideal S100000x128 .f32) (w : IVec S1024x200 32) : FVec Ideal S1024x200x128 .f32 :=
  select (broadcastInDim S1024x200x128 ![0, 1] bcast_S1024x200_S1024x200x128_0_1 (Host.reduce IntOp.andi (andi (cmpi .sge (wrap2 w) (broadcastInDim S1024x200x1 ![] bcast_S_S1024x200x1 (constantI S_ 32 0#32))) (cmpi .sle (wrap2 w) (broadcastInDim S1024x200x1 ![0, 1, 2] bcast_S1x1x1_S1024x200x1_0_1_2 (broadcastInDim S1x1x1 ![2] bcast_S1_S1x1x1_2 (constantI S1 32 99999#32))))) (constantI S_ 1 1#1) reducesTo_S1024x200x1_S1024x200_d2 h_S_)) (Host.gather gather_S100000x128_S1024x200x1_S1024x200x128_2_0_n_n_0_2_1128 T (wrap2 w)) (broadcastInDim S1024x200x128 ![] bcast_S_S1024x200x128 (constant S_ .f32 0x7FC00000#32))
/-- The same for the candidates. -/
def take1 (T : FVec Ideal S100000x128 .f32) (w : IVec S1024x100 32) : FVec Ideal S1024x100x128 .f32 :=
  select (broadcastInDim S1024x100x128 ![0, 1] bcast_S1024x100_S1024x100x128_0_1 (Host.reduce IntOp.andi (andi (cmpi .sge (wrap1 w) (broadcastInDim S1024x100x1 ![] bcast_S_S1024x100x1 (constantI S_ 32 0#32))) (cmpi .sle (wrap1 w) (broadcastInDim S1024x100x1 ![0, 1, 2] bcast_S1x1x1_S1024x100x1_0_1_2 (broadcastInDim S1x1x1 ![2] bcast_S1_S1x1x1_2 (constantI S1 32 99999#32))))) (constantI S_ 1 1#1) reducesTo_S1024x100x1_S1024x100_d2 h_S_)) (Host.gather gather_S100000x128_S1024x100x1_S1024x100x128_2_0_n_n_0_2_1128 T (wrap1 w)) (broadcastInDim S1024x100x128 ![] bcast_S_S1024x100x128 (constant S_ .f32 0x7FC00000#32))

/-- The gather in the row of a number, at any two leading extents. -/
theorem gatherRow {A B : ℕ} (d : GatherDims S100000x128 ⟨3, ![A, B, 1]⟩ ⟨3, ![A, B, 128]⟩)
    (h1 : d.offsetDims = [2]) (h2 : d.collapsedSliceDims = [0]) (h3 : d.operandBatchingDims = []) (h4 : d.startIndicesBatchingDims = [])
    (h5 : d.startIndexMap = [0]) (h6 : d.indexVectorDim = 2) (h7 : d.sliceSizes = ![1, 128])
    (T : FVec Ideal S100000x128 .f32) (w : IVec ⟨3, ![A, B, 1]⟩ 32) (a : Fin A) (b : Fin B) (e : Fin 128) :
    Host.gather d T w (ix3 a b e) = T (ix2 ⟨min (w (ix3 a b 0)).toInt.toNat 99999, by omega⟩ e) := by
  obtain ⟨o, c, ob, sb, sm, iv, ss, wf⟩ := d
  subst h1 h2 h3 h4 h5 h6 h7
  unfold Host.gather
  congr 1
  funext x
  refine Fin.ext ?_
  match x with
  | ⟨0, _⟩ =>
    show GatherDims.start _ _ w 0 + GatherDims.batchCoord _ _ 0 + GatherDims.offCoord _ _ 0 = _
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z => min (w z).toInt.toNat 99999) ?_
    funext x
    refine Fin.ext ?_
    match x with
    | ⟨0, _⟩ => rfl
    | ⟨1, _⟩ => rfl
    | ⟨2, _⟩ => rfl
  | ⟨1, _⟩ =>
    show GatherDims.start _ _ w 1 + GatherDims.batchCoord _ _ 1 + GatherDims.offCoord _ _ 1 = _
    rw [GatherDims.batchCoord_eq_zero _ _ _ (fun h => by simp at h)]
    unfold GatherDims.start
    rw [dif_neg (by show (1 : Fin 2) ∉ [(0 : Fin 2)]; decide)]
    simp only [Nat.zero_add]
    rfl

section Words
variable {w : BitVec 32} (h : w.toNat < 100000)
include h

/-- A number in range is its signed value. -/
theorem toInt_small : w.toInt = w.toNat := BitVec.toInt_eq_toNat_of_lt (by omega)

/-- It is not negative, -/
theorem not_neg : IntOp.cmpi .slt w 0#32 = 0#1 := by
  simp only [IntOp.cmpi, BitVec.slt_eq_decide, toInt_small h]
  rw [decide_eq_false (by show ¬ ((w.toNat : ℤ) < 0); omega)]
  rfl

/-- it is at least zero, -/
theorem nonneg : IntOp.cmpi .sge w 0#32 = 1#1 := by
  simp [IntOp.cmpi, BitVec.sle_eq_decide, toInt_small h]

/-- and at most the last row. -/
theorem le_last : IntOp.cmpi .sle w 99999#32 = 1#1 := by
  have e : (99999#32 : BitVec 32).toInt = 99999 := by decide
  simp only [IntOp.cmpi, BitVec.sle_eq_decide, toInt_small h, e]
  rw [decide_eq_true (by omega)]
  rfl

end Words

/-- Nothing is added to a number in range. -/
theorem wrap2_apply (w : IVec S1024x200 32) (a : Fin 1024) (b : Fin 200) (h : (w (ix2 a b)).toNat < 100000) : wrap2 w (ix3 a b 0) = w (ix2 a b) := by
  pointwise [wrap2]
  rw [not_neg h]
  rfl

/-- The same of the candidates' list. -/
theorem wrap1_apply (w : IVec S1024x100 32) (a : Fin 1024) (b : Fin 100) (h : (w (ix2 a b)).toNat < 100000) : wrap1 w (ix3 a b 0) = w (ix2 a b) := by
  pointwise [wrap1]
  rw [not_neg h]
  rfl

/-- In range the masked lookup is the table's row. -/
theorem take2_apply (T : FVec Ideal S100000x128 .f32) (w : IVec S1024x200 32) (hw : ∀ i, (w i).toNat < 100000) (a : Fin 1024) (b : Fin 200) (e : Fin 128) :
    take2 T w (ix3 a b e) = T (ix2 ⟨(w (ix2 a b)).toNat, hw _⟩ e) := by
  unfold take2
  show Scalar.select (Host.reduce IntOp.andi _ _ _ _ _) _ _ = _
  rw [Host.reduce_andi_one _ _ _ _ _ rfl (fun i => by
    obtain ⟨x, y, z, rfl⟩ : ∃ (x : Fin 1024) (y : Fin 200) (z : Fin 1), i = ix3 x y z := ⟨i 0, i 1, i 2, eq_ix3 i⟩
    obtain rfl : z = 0 := Subsingleton.elim _ _
    show IntOp.andi (IntOp.cmpi .sge (wrap2 w (ix3 x y 0)) 0#32) (IntOp.cmpi .sle (wrap2 w (ix3 x y 0)) 99999#32) = 1#1
    rw [wrap2_apply w x y (hw _), nonneg (hw _), le_last (hw _)]
    rfl)]
  show Host.gather _ T (wrap2 w) _ = _
  rw [gatherRow _ rfl rfl rfl rfl rfl rfl rfl]
  refine congrArg T (congrArg (fun z => ix2 z e) (Fin.ext ?_))
  show min (wrap2 w (ix3 a b 0)).toInt.toNat 99999 = _
  have := hw (ix2 a b)
  rw [wrap2_apply w a b this, toInt_small this]
  show min (w (ix2 a b)).toNat 99999 = (w (ix2 a b)).toNat
  omega

/-- The same of the entity table. -/
theorem take1_apply (T : FVec Ideal S100000x128 .f32) (w : IVec S1024x100 32) (hw : ∀ i, (w i).toNat < 100000) (a : Fin 1024) (b : Fin 100) (e : Fin 128) :
    take1 T w (ix3 a b e) = T (ix2 ⟨(w (ix2 a b)).toNat, hw _⟩ e) := by
  unfold take1
  show Scalar.select (Host.reduce IntOp.andi _ _ _ _ _) _ _ = _
  rw [Host.reduce_andi_one _ _ _ _ _ rfl (fun i => by
    obtain ⟨x, y, z, rfl⟩ : ∃ (x : Fin 1024) (y : Fin 100) (z : Fin 1), i = ix3 x y z := ⟨i 0, i 1, i 2, eq_ix3 i⟩
    obtain rfl : z = 0 := Subsingleton.elim _ _
    show IntOp.andi (IntOp.cmpi .sge (wrap1 w (ix3 x y 0)) 0#32) (IntOp.cmpi .sle (wrap1 w (ix3 x y 0)) 99999#32) = 1#1
    rw [wrap1_apply w x y (hw _), nonneg (hw _), le_last (hw _)]
    rfl)]
  show Host.gather _ T (wrap1 w) _ = _
  rw [gatherRow _ rfl rfl rfl rfl rfl rfl rfl]
  refine congrArg T (congrArg (fun z => ix2 z e) (Fin.ext ?_))
  show min (wrap1 w (ix3 a b 0)).toInt.toNat 99999 = _
  have := hw (ix2 a b)
  rw [wrap1_apply w a b this, toInt_small this]
  show min (w (ix2 a b)).toNat 99999 = (w (ix2 a b)).toNat
  omega

open Cert.ReferenceIdeal.Value in
/-- The reference's second result. -/
theorem res1 (m : (ℓ : Loc nD τ sig) → Buf (Elt Ideal) ℓ) (c : Dev nD) :
    res_main_v16 m c = bcR (ctxR (take2 (m ((c.tc : Thread nD τ).loc main_arg7)) (m ((c.tc : Thread nD τ).loc main_arg1)))
      (m ((c.tc : Thread nD τ).loc main_arg9)) (m ((c.tc : Thread nD τ).loc main_arg10))) := rfl

open Cert.ReferenceIdeal.Value in
/-- Its third. -/
theorem res2 (m : (ℓ : Loc nD τ sig) → Buf (Elt Ideal) ℓ) (c : Dev nD) :
    res_main_v25 m c = featR (bcR (ctxR (take2 (m ((c.tc : Thread nD τ).loc main_arg7)) (m ((c.tc : Thread nD τ).loc main_arg1)))
      (m ((c.tc : Thread nD τ).loc main_arg9)) (m ((c.tc : Thread nD τ).loc main_arg10))))
      (take1 (m ((c.tc : Thread nD τ).loc main_arg8)) (m ((c.tc : Thread nD τ).loc main_arg0)))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

open Cert.ReferenceIdeal.Value in
/-- Its first. -/
theorem res0 (m : (ℓ : Loc nD τ sig) → Buf (Elt Ideal) ℓ) (c : Dev nD) :
    res_main_v37 m c = scoreR (featR (bcR (ctxR (take2 (m ((c.tc : Thread nD τ).loc main_arg7)) (m ((c.tc : Thread nD τ).loc main_arg1)))
      (m ((c.tc : Thread nD τ).loc main_arg9)) (m ((c.tc : Thread nD τ).loc main_arg10))))
      (take1 (m ((c.tc : Thread nD τ).loc main_arg8)) (m ((c.tc : Thread nD τ).loc main_arg0)))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)))
      (m ((c.tc : Thread nD τ).loc main_arg11)) (m ((c.tc : Thread nD τ).loc main_arg12)) (m ((c.tc : Thread nD τ).loc main_arg13)) (m ((c.tc : Thread nD τ).loc main_arg14)) := rfl

end Cert.Proof.Ref

end
-- ==== Proof.Value.lean ====
/-
  The three results of the program over the extended reals are the reference's.
-/
module

public import proofs.«01_k».proof.Proof.HostVal
public import proofs.«01_k».proof.Proof.Ref

@[expose] public section

noncomputable section

namespace Cert.Proof.Value

open Cert.KernelIdeal Cert.KernelIdeal.Gen
open Idealize.ShloMosaic
open Idealize.ShloMosaic.StableHlo
open Idealize.ShloMosaic.TcCoe
open Cert.Proof.Launch Cert.Proof.Regions Cert.Proof.Host Cert.Proof.Main Cert.Proof.Frames Cert.Proof.HostVal

/-- A gathered row at a lane. -/
theorem gath_apply {n : ℕ} (T : S100000x128.Idx → EReal) (w : (⟨2, ![1, n]⟩ : Shape).Idx → BitVec 32) (p : Fin n) (e : Fin 128) (h : (w (ix2 0 p)).toNat < 100000) :
    Tile.gath (F := Ideal) (n := n) T w (ix2 p e) = T (ix2 ⟨(w (ix2 0 p)).toNat, h⟩ e) := by
  have hc : Tile.colIx p = ix2 0 p := by
    funext a
    fin_cases a <;> rfl
  unfold Tile.gath
  refine congrArg T ?_
  funext a
  fin_cases a
  · refine Fin.ext ?_
    show (w (Tile.colIx p)).toNat % 100000 = (w (ix2 0 p)).toNat
    rw [hc, Nat.mod_eq_of_lt h]
  · rfl

/-- The list of contexts, by batch. -/
theorem list1_apply (L : IVec S1024x200 32) (b : Fin 1024) (l : Fin 200) :
    (shapeCast S1x204800 (shapeCast S204800 L shapeCasts_S1024x200_S204800) shapeCasts_S204800_S1x204800) (ix2 0 ⟨200 * b.val + l.val, by omega⟩) = L (ix2 b l) := by
  pointwise

/-- The list of candidates, by batch. -/
theorem list0_apply (L : IVec S1024x100 32) (b : Fin 1024) (k : Fin 100) :
    (shapeCast S1x102400 (shapeCast S102400 L shapeCasts_S1024x100_S102400) shapeCasts_S102400_S1x102400) (ix2 0 ⟨100 * b.val + k.val, by omega⟩) = L (ix2 b k) := by
  pointwise

/-- A candidate's place in the table of scores, back. -/
theorem place (b k : ℕ) (hk : k < 100) : 64 * (b / 64) + (128 * ((100 * b + k) % 6400 / 128) + (100 * b + k) % 128) / 100 = b
    ∧ (128 * ((100 * b + k) % 6400 / 128) + (100 * b + k) % 128) % 100 = k := by
  have h1 : 128 * ((100 * b + k) % 6400 / 128) + (100 * b + k) % 128 = (100 * b + k) % 6400 := by omega
  rw [h1]
  omega

variable (m : (ℓ : Loc nD τ sig) → Buf (Elt Ideal) ℓ) (d : Dev nD)

/-- Argument 0: the candidates. -/
abbrev A0 : IVec S1024x100 32 := m (d, Proc.devRef .tc main_arg0)
/-- Argument 1: the contexts. -/
abbrev A1 : IVec S1024x200 32 := m (d, Proc.devRef .tc main_arg1)
/-- Argument 2: the first number. -/
abbrev A2 : FVec Ideal S1024x100 .f32 := m (d, Proc.devRef .tc main_arg2)
/-- Argument 3: the second number. -/
abbrev A3 : FVec Ideal S1024x100 .f32 := m (d, Proc.devRef .tc main_arg3)
/-- Argument 4: the third number. -/
abbrev A4 : FVec Ideal S1024x100 .f32 := m (d, Proc.devRef .tc main_arg4)
/-- Argument 5: the fourth number. -/
abbrev A5 : FVec Ideal S1024x100 .f32 := m (d, Proc.devRef .tc main_arg5)
/-- Argument 6: the fifth number. -/
abbrev A6 : FVec Ideal S1024x100 .f32 := m (d, Proc.devRef .tc main_arg6)
/-- Argument 7: the word table. -/
abbrev A7 : FVec Ideal S100000x128 .f32 := m (d, Proc.devRef .tc main_arg7)
/-- Argument 8: the entity table. -/
abbrev A8 : FVec Ideal S100000x128 .f32 := m (d, Proc.devRef .tc main_arg8)
/-- Argument 9: the projection. -/
abbrev A9 : FVec Ideal S128x128 .f32 := m (d, Proc.devRef .tc main_arg9)
/-- Argument 10: the projection bias. -/
abbrev A10 : FVec Ideal S128 .f32 := m (d, Proc.devRef .tc main_arg10)
/-- Argument 11: the hidden weights. -/
abbrev A11 : FVec Ideal S1024x262 .f32 := m (d, Proc.devRef .tc main_arg11)
/-- Argument 12: the hidden biases. -/
abbrev A12 : FVec Ideal S1024 .f32 := m (d, Proc.devRef .tc main_arg12)
/-- Argument 13: the output weights. -/
abbrev A13 : FVec Ideal S1x1024 .f32 := m (d, Proc.devRef .tc main_arg13)
/-- Argument 14: the output bias. -/
abbrev A14 : FVec Ideal S1 .f32 := m (d, Proc.devRef .tc main_arg14)

/-- The looked-up rows of the contexts. -/
abbrev X : FVec Ideal S1024x200x128 .f32 := Ref.take2 (A7 m d) (A1 m d)
/-- The looked-up rows of the candidates. -/
abbrev Y : FVec Ideal S1024x100x128 .f32 := Ref.take1 (A8 m d) (A0 m d)
/-- The contexts' images. -/
abbrev G (b : Fin 1024) (e : Fin 128) : EReal := Spec.ctx (X m d) (A9 m d) (A10 m d) b e
/-- The candidates' numbers. -/
abbrev Z : Fin 1024 → Fin 100 → ℕ → EReal := Spec.scal (A2 m d) (A3 m d) (A4 m d) (A5 m d) (A6 m d)

/-- What the projection reads of the gathered rows. -/
theorem rows6 (h1 : ∀ i, (A1 m d i).toNat < 100000) : (E2 m d (Proc.devRef .tc main_v6) : FVec Ideal S1024x200x128 .f32) = X m d := by
  funext y
  rw [eq_ix3 y]
  generalize (y 0 : Fin 1024) = b
  generalize (y 1 : Fin 200) = l
  generalize (y 2 : Fin 128) = e
  refine (c6 _ b l e).trans ?_
  have hu : upd1 (E1 m d) (Proc.devRef .tc main_v5) = out1 (E1 m d) := Function.update_self ..
  rw [hu]
  have hl : at_ (E1 m d) main_v4 = (shapeCast S1x204800 (shapeCast S204800 (A1 m d) shapeCasts_S1024x200_S204800) shapeCasts_S204800_S1x204800) := list1 m d
  have ht : at_ (E1 m d) main_arg7 = A7 m d := kept1 m un7 d
  unfold out1
  rw [hl, ht]
  have hv := list1_apply (A1 m d) b l
  refine (gath_apply _ _ _ _ (by rw [hv]; exact h1 _)).trans ?_
  refine Eq.trans ?_ (Ref.take2_apply (A7 m d) (A1 m d) h1 b l e).symm
  exact congrArg _ (congrArg (fun z => ix2 z e) (Fin.ext (congrArg BitVec.toNat hv)))

/-- What the head reads of them. -/
theorem rows2 (h0 : ∀ i, (A0 m d i).toNat < 100000) (b : Fin 1024) (k : Fin 100) (e : Fin 128) :
    (E3 m d (Proc.devRef .tc main_v2) : FVec Ideal S102400x128 .f32) (ix2 ⟨100 * b.val + k.val, by omega⟩ e) = Y m d (ix3 b k e) := by
  have hu : E3 m d (Proc.devRef .tc main_v2) = out0 (E0 m d) :=
    (keepsD _ main_v2 (by decide +kernel)).trans ((keeps2 (E2 m d) d main_v2 (by decide +kernel)).trans ((keepsC _ main_v2 (by decide +kernel)).trans
      ((keeps1 _ main_v2 (by decide +kernel)).trans ((keepsB _ main_v2 (by decide +kernel)).trans (Function.update_self ..)))))
  rw [hu]
  have hl : at_ (E0 m d) main_v1 = (shapeCast S1x102400 (shapeCast S102400 (A0 m d) shapeCasts_S1024x100_S102400) shapeCasts_S102400_S1x102400) := list0 m d
  have ht : at_ (E0 m d) main_arg8 = A8 m d := kept0 m un8 d
  unfold out0
  rw [hl, ht]
  have hv := list0_apply (A0 m d) b k
  refine (gath_apply _ _ _ _ (by rw [hv]; exact h0 _)).trans ?_
  refine Eq.trans ?_ (Ref.take1_apply (A8 m d) (A0 m d) h0 b k e).symm
  exact congrArg _ (congrArg (fun z => ix2 z e) (Fin.ext (congrArg BitVec.toNat hv)))

/-- The projection's output: the contexts' images. -/
theorem img (h1 : ∀ i, (A1 m d i).toNat < 100000) (b : Fin 1024) (e : Fin 128) :
    (E3 m d (Proc.devRef .tc main_v9) : FVec Ideal S1024x128 .f32) (ix2 b e) = G m d b e := by
  have hu : E3 m d (Proc.devRef .tc main_v9) = (dat2 (E2 m d) d).arrAt 3 cfg2.N :=
    (keepsD _ main_v9 (by decide +kernel)).trans (Pipeline.afterRegion_arr (dat2 (E2 m d) d) (E2 m d) arrInj2 3)
  rw [hu, RegVal.arr2 (E2 m d) d (A9 m d) (A10 m d)
    (fun e d' => (c7 _ e d').trans (congrFun ((keeps1 _ _ un9.g1).trans (kept1 m un9 d)) _))
    (fun d' => (c8 _ d').trans (congrFun ((keeps1 _ _ un10.g1).trans (kept1 m un10 d)) _))]
  show Spec.ctx (E2 m d (Proc.devRef .tc main_v6)) (A9 m d) (A10 m d) b e = _
  rw [rows6 m d h1]

/-- What the head reads. -/
theorem reads (h0 : ∀ i, (A0 m d i).toNat < 100000) (h1 : ∀ i, (A1 m d i).toNat < 100000) : RegVal.Reads (E3 m d) (Y m d) (G m d) (Z m d) where
  cand := rows2 m d h0
  ctx := img m d h1
  scal q b k := by
    refine (d16 _ q b k).trans ?_
    rw [kept2' m un2 d, kept2' m un3 d, kept2' m un4 d, kept2' m un5 d, kept2' m un6 d]
  sel n r := d26 _ n r

variable (h0 : ∀ i, (A0 m d i).toNat < 100000) (h1 : ∀ i, (A1 m d i).toNat < 100000)
include h0 h1

/-- The third result: the features. -/
theorem val2 : Ef m d (Proc.devRef .tc main_v31_0)
    = Ref.featR (Ref.bcR (Ref.ctxR (X m d) (A9 m d) (A10 m d))) (Y m d) (A2 m d) (A3 m d) (A4 m d) (A5 m d) (A6 m d) := by
  have hu : Ef m d (Proc.devRef .tc main_v31_0) = (dat3 (E3 m d) d).arrAt 8 cfg3.N :=
    (keepsE _ main_v31_0 (by decide +kernel)).trans ((keeps4 (E4 m d) d main_v31_0 (by decide +kernel)).trans
      (Pipeline.afterRegion_arr (dat3 (E3 m d) d) (E3 m d) arrInj3 8))
  rw [hu, RegVal.arr38 (E3 m d) d _ _ _ (reads m d h0 h1)]
  funext (y : S1024x100x262.Idx)
  rw [eq_ix3 y]
  exact (Ref.featR_apply (G m d) _ _ _ _ _ _ _ (fun b c e => (Ref.bcR_apply _ b c e).trans (Ref.ctxR_apply _ _ _ b e)) _ _ _).symm

/-- The second: the contexts' images, once for each candidate. -/
theorem val1 : Ef m d (Proc.devRef .tc main_v33) = Ref.bcR (Ref.ctxR (X m d) (A9 m d) (A10 m d)) := by
  funext (y : S1024x100x128.Idx)
  rw [eq_ix3 y]
  generalize (y 0 : Fin 1024) = b
  generalize (y 1 : Fin 100) = k
  generalize (y 2 : Fin 128) = e
  refine (e33 _ b k e).trans ?_
  have hu : Pipeline.afterRegion (dat4 (E4 m d) d) (E4 m d) (Proc.devRef .tc main_v32) = (dat4 (E4 m d) d).arrAt 1 cfg4.N :=
    Pipeline.afterRegion_arr (dat4 (E4 m d) d) (E4 m d) arrInj4 1
  rw [hu, RegVal.arr41 (E4 m d) d]
  have hv : E4 m d (Proc.devRef .tc main_v9) = E3 m d (Proc.devRef .tc main_v9) := keeps3 (E3 m d) d main_v9 (by decide +kernel)
  show (E4 m d (Proc.devRef .tc main_v9) : FVec Ideal S1024x128 .f32) (ix2 b e) = _
  rw [hv]
  exact (img m d h1 b e).trans ((Ref.bcR_apply _ b k e).trans (Ref.ctxR_apply _ _ _ b e)).symm

/-- The first: the scores. -/
theorem val0 : Ef m d (Proc.devRef .tc main_v34)
    = Ref.scoreR (Ref.featR (Ref.bcR (Ref.ctxR (X m d) (A9 m d) (A10 m d))) (Y m d) (A2 m d) (A3 m d) (A4 m d) (A5 m d) (A6 m d)) (A11 m d) (A12 m d) (A13 m d) (A14 m d) := by
  funext (y : S1024x100.Idx)
  rw [eq_ix2 y]
  generalize (y 0 : Fin 1024) = b
  generalize (y 1 : Fin 100) = k
  refine (e34 _ b k).trans ?_
  have hu : Pipeline.afterRegion (dat4 (E4 m d) d) (E4 m d) (Proc.devRef .tc main_v31_1) = (dat3 (E3 m d) d).arrAt 9 cfg3.N :=
    (keeps4 (E4 m d) d main_v31_1 (by decide +kernel)).trans (Pipeline.afterRegion_arr (dat3 (E3 m d) d) (E3 m d) arrInj3 9)
  rw [hu, RegVal.arr39 (E3 m d) d _ _ _ (reads m d h0 h1) (A11 m d) (A12 m d) (A13 m d) (A14 m d)
    (fun j q => (d27 _ j q).trans (congrFun (kept2' m un11 d) _)) (fun q => (d28 _ q).trans (congrFun (kept2' m un12 d) _))
    (fun q => (d29 _ q).trans (congrFun (kept2' m un13 d) _)) ((d30 _).trans (congrFun (kept2' m un14 d) _))]
  refine Eq.trans ?_ (Ref.scoreR_apply _ _ _ _ _ b k).symm
  refine congrArg (fun f => Spec.score f (A11 m d) (A12 m d) (A13 m d) (A14 m d)) (funext fun j => ?_)
  refine Eq.trans ?_ (Ref.featR_apply (G m d) _ _ _ _ _ _ _ (fun b c e => (Ref.bcR_apply _ b c e).trans (Ref.ctxR_apply _ _ _ b e)) b k j).symm
  refine congrArg₂ (fun b k => Spec.feat (Y m d) (G m d) (Z m d) b k j) (Fin.ext ?_) (Fin.ext ?_)
  · exact (place b.val k.val k.isLt).1
  · exact (place b.val k.val k.isLt).2

end Cert.Proof.Value

end
-- ==== Proof.Algebraic.lean ====
/-
  Over the extended reals the program and the reference end with equal results.
-/
module

public import proofs.«01_k».proof.Proof.Claims
public import proofs.«01_k».proof.Proof.Value

@[expose] public section

noncomputable section

namespace Cert.Proof

open Idealize.ShloMosaic
open Idealize.ShloMosaic.TcCoe
open Idealize.SL.Sem
open Cert.Proof.Host Cert.Proof.Main Cert.Proof.Frames

section
open Cert.KernelIdeal

/-- What the arguments of the two programs being equal makes of the reference's results: the program's. -/
theorem results (m : (ℓ : Loc nD τ sig) → Buf (Elt Ideal) ℓ) (m' : (ℓ : Loc Cert.ReferenceIdeal.nD Cert.ReferenceIdeal.τ Cert.ReferenceIdeal.sig) → Buf (Elt Ideal) ℓ)
    (c : Dev nD)
    (h0 : ∀ i, (Value.A0 m c i).toNat < 100000) (h1 : ∀ i, (Value.A1 m c i).toNat < 100000)
    (e0 : m' (c, Proc.devRef .tc Cert.ReferenceIdeal.main_arg0) = Value.A0 m c)
    (e1 : m' (c, Proc.devRef .tc Cert.ReferenceIdeal.main_arg1) = Value.A1 m c)
    (e2 : m' (c, Proc.devRef .tc Cert.ReferenceIdeal.main_arg2) = Value.A2 m c)
    (e3 : m' (c, Proc.devRef .tc Cert.ReferenceIdeal.main_arg3) = Value.A3 m c)
    (e4 : m' (c, Proc.devRef .tc Cert.ReferenceIdeal.main_arg4) = Value.A4 m c)
    (e5 : m' (c, Proc.devRef .tc Cert.ReferenceIdeal.main_arg5) = Value.A5 m c)
    (e6 : m' (c, Proc.devRef .tc Cert.ReferenceIdeal.main_arg6) = Value.A6 m c)
    (e7 : m' (c, Proc.devRef .tc Cert.ReferenceIdeal.main_arg7) = Value.A7 m c)
    (e8 : m' (c, Proc.devRef .tc Cert.ReferenceIdeal.main_arg8) = Value.A8 m c)
    (e9 : m' (c, Proc.devRef .tc Cert.ReferenceIdeal.main_arg9) = Value.A9 m c)
    (e10 : m' (c, Proc.devRef .tc Cert.ReferenceIdeal.main_arg10) = Value.A10 m c)
    (e11 : m' (c, Proc.devRef .tc Cert.ReferenceIdeal.main_arg11) = Value.A11 m c)
    (e12 : m' (c, Proc.devRef .tc Cert.ReferenceIdeal.main_arg12) = Value.A12 m c)
    (e13 : m' (c, Proc.devRef .tc Cert.ReferenceIdeal.main_arg13) = Value.A13 m c)
    (e14 : m' (c, Proc.devRef .tc Cert.ReferenceIdeal.main_arg14) = Value.A14 m c) :
    Cert.ReferenceIdeal.Value.res_main_v37 m' c = Ef m c (Proc.devRef .tc main_v34)
    ∧ Cert.ReferenceIdeal.Value.res_main_v16 m' c = Ef m c (Proc.devRef .tc main_v33)
    ∧ Cert.ReferenceIdeal.Value.res_main_v25 m' c = Ef m c (Proc.devRef .tc main_v31_0) := by
  refine ⟨?_, ?_, ?_⟩
  · refine (Ref.res0 m' c).trans (Eq.trans ?_ (Value.val0 m c h0 h1).symm)
    simp only [Value.X, Value.Y]
    rw [← e0, ← e1, ← e2, ← e3, ← e4, ← e5, ← e6, ← e7, ← e8, ← e9, ← e10, ← e11, ← e12, ← e13, ← e14]
  · refine (Ref.res1 m' c).trans (Eq.trans ?_ (Value.val1 m c h0 h1).symm)
    simp only [Value.X]
    rw [← e1, ← e7, ← e9, ← e10]
  · refine (Ref.res2 m' c).trans (Eq.trans ?_ (Value.val2 m c h0 h1).symm)
    simp only [Value.X, Value.Y]
    rw [← e0, ← e1, ← e2, ← e3, ← e4, ← e5, ← e6, ← e7, ← e8, ← e9, ← e10]

end

/-- From equal arguments the program and the reference both run and end with equal results, their arguments kept. -/
theorem algebraic : Cert.algebraic_KernelIdeal_ReferenceIdeal (hKernelIdeal := Cert.KernelIdeal.Gen.facts) (hReferenceIdeal := Cert.ReferenceIdeal.Gen.facts)
    (hPre_in_range := Cert.Pre_in_range.Gen.facts) := by
  intro m g m' g' hpre hargs
  refine ⟨fun c => Ef m c (Proc.devRef .tc Cert.KernelIdeal.main_v34), fun c => Ef m c (Proc.devRef .tc Cert.KernelIdeal.main_v33),
    fun c => Ef m c (Proc.devRef .tc Cert.KernelIdeal.main_v31_0), ?_, ?_⟩
  · refine (θ_run (Cert.KernelIdeal.defs (F := Ideal)) _ _).mono (fun _ h c => ?_) (run_main (F := Ideal) m g (inRange_ideal m hpre))
    have hc := h.1 c
    exact ⟨hc _ (unscoped_mem _ rfl), hc _ (unscoped_mem _ rfl), hc _ (unscoped_mem _ rfl), arg_kept m un0 rfl c hc, arg_kept m un1 rfl c hc, arg_kept m un2 rfl c hc,
      arg_kept m un3 rfl c hc, arg_kept m un4 rfl c hc, arg_kept m un5 rfl c hc, arg_kept m un6 rfl c hc, arg_kept m un7 rfl c hc, arg_kept m un8 rfl c hc,
      arg_kept m un9 rfl c hc, arg_kept m un10 rfl c hc, arg_kept m un11 rfl c hc, arg_kept m un12 rfl c hc, arg_kept m un13 rfl c hc, arg_kept m un14 rfl c hc⟩
  · refine (θ_run (Cert.ReferenceIdeal.defs (F := Ideal)) _ _).mono (fun _ h c => ?_) (Cert.ReferenceIdeal.Value.run (F := Ideal) m' g')
    obtain ⟨e0, e1, e2, e3, e4, e5, e6, e7, e8, e9, e10, e11, e12, e13, e14⟩ := hargs c
    have hl := lists_lt (F := Ideal) _ _ _ _ _ _ _ _ _ _ _ _ _ _ _ (fun j => congrFun (hpre c) j)
    obtain ⟨r0, r1, r2⟩ := results m m' c hl.1 hl.2 e0 e1 e2 e3 e4 e5 e6 e7 e8 e9 e10 e11 e12 e13 e14
    exact ⟨(h c).1.trans r0, (h c).2.1.trans r1, (h c).2.2.1.trans r2, (h c).2.2.2⟩

end Cert.Proof

end
-- ==== Proof.lean ====
/-
  The five claims together: the three frames, the named constant, and the equality with the reference over the extended
  reals. The modules under Proof/ prove them.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claim. -/
theorem claim : Cert.Claim := ⟨Cert.Kernel.Gen.facts, Cert.KernelIdeal.Gen.facts, Cert.ReferenceIdeal.Gen.facts, Cert.Pre_in_range.Gen.facts,
  frame_kernel, frame_kernelIdeal, frame_reference, preserves, algebraic⟩

end Cert.Proof

end
